-- ==== Defs.lean ====
def Pre_Kernel [hPre_block_table : Cert.Pre_block_table.Facts] (m : (ℓ : Loc Cert.Kernel.nD Cert.Kernel.τ Cert.Kernel.sig) → Buf (Elt Bits) ℓ) : Prop :=
  ∀ c : Dev Cert.Kernel.nD,
    (Cert.Pre_block_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_block_table : Cert.Pre_block_table.Facts] (m : (ℓ : Loc Cert.KernelIdeal.nD Cert.KernelIdeal.τ Cert.KernelIdeal.sig) → Buf (Elt Ideal) ℓ) : Prop :=
  ∀ c : Dev Cert.KernelIdeal.nD,
    (Cert.Pre_block_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_block_table : Cert.Pre_block_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_block_table : Cert.Pre_block_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_block_table : Cert.Pre_block_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_block_table : Cert.Pre_block_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_on_routed_rows [hKernelIdeal : Cert.KernelIdeal.Facts] [hReferenceIdeal : Cert.ReferenceIdeal.Facts] [hPre_block_table : Cert.Pre_block_table.Facts] [hOn_routed_rows : Cert.On_routed_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 16896, 1024]⟩ : Shape).Idx, (Cert.On_routed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v3) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 16896, 1024]⟩ : Shape).Idx, (Cert.On_routed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v6) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  IdealRules.named_const.Statement Cert.Kernel3Ideal.κ "inv_sqrt_head" .f32 0x3DB504F3#32 (((Real.sqrt 128)⁻¹ : ℝ) : EReal)

def algebraic_Kernel3Ideal_Reference3Ideal_on_all_but_low_rank_decays [hKernel3Ideal : Cert.Kernel3Ideal.Facts] [hReference3Ideal : Cert.Reference3Ideal.Facts] [hOn_all_but_low_rank_decays : Cert.On_all_but_low_rank_decays.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![8, 2048, 4096]⟩ : Shape).Idx, (Cert.On_all_but_low_rank_decays.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 i = 1#1 → r.2.mem ((c.tc : Thread Cert.Kernel3Ideal.nD Cert.Kernel3Ideal.τ).loc Cert.Kernel3Ideal.main_v19_0) i = v0 c i)
          ∧ (∀ i : (⟨3, ![8, 2048, 1536]⟩ : Shape).Idx, (Cert.On_all_but_low_rank_decays.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2 i = 1#1 → r.2.mem ((c.tc : Thread Cert.Kernel3Ideal.nD Cert.Kernel3Ideal.τ).loc Cert.Kernel3Ideal.main_v19_1) i = v1 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![8, 2048, 4096]⟩ : Shape).Idx, (Cert.On_all_but_low_rank_decays.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 i = 1#1 → r.2.mem ((c.tc : Thread Cert.Reference3Ideal.nD Cert.Reference3Ideal.τ).loc Cert.Reference3Ideal.main_v143) i = v0 c i)
          ∧ (∀ i : (⟨3, ![8, 2048, 1536]⟩ : Shape).Idx, (Cert.On_all_but_low_rank_decays.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2 i = 1#1 → r.2.mem ((c.tc : Thread Cert.Reference3Ideal.nD Cert.Reference3Ideal.τ).loc Cert.Reference3Ideal.main_v144) i = v1 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_block_table : Cert.Pre_block_table.Facts) (hOn_routed_rows : Cert.On_routed_rows.Facts) (hOn_all_but_low_rank_decays : Cert.On_all_but_low_rank_decays.Facts),
    quiescent_Kernel (hKernel := hKernel) (hPre_block_table := hPre_block_table)
    ∧ quiescent_KernelIdeal (hKernelIdeal := hKernelIdeal) (hPre_block_table := hPre_block_table)
    ∧ quiescent_ReferenceIdeal (hReferenceIdeal := hReferenceIdeal) (hPre_block_table := hPre_block_table)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_routed_rows (hKernelIdeal := hKernelIdeal) (hReferenceIdeal := hReferenceIdeal) (hPre_block_table := hPre_block_table) (hOn_routed_rows := hOn_routed_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_all_but_low_rank_decays (hKernel3Ideal := hKernel3Ideal) (hReference3Ideal := hReference3Ideal) (hOn_all_but_low_rank_decays := hOn_all_but_low_rank_decays)
-- ==== On_all_but_low_rank_decays.lean ====
abbrev S8x2048x1024 : Shape := ⟨3, ![8, 2048, 1024]⟩
abbrev S8x2x6x1024 : Shape := ⟨4, ![8, 2, 6, 1024]⟩
abbrev S1024 : Shape := ⟨1, ![1024]⟩
abbrev S1024x4128 : Shape := ⟨2, ![1024, 4128]⟩
abbrev S2x512 : Shape := ⟨2, ![2, 512]⟩
abbrev S2x16x256 : Shape := ⟨3, ![2, 16, 256]⟩
abbrev S2x256 : Shape := ⟨2, ![2, 256]⟩
abbrev S_ : Shape := ⟨0, ![]⟩
abbrev S8x2048x4096 : Shape := ⟨3, ![8, 2048, 4096]⟩
abbrev S8x2048x1536 : Shape := ⟨3, ![8, 2048, 1536]⟩

class Facts : Prop where
  bcast_S_S8x2048x4096 : S_.BroadcastsInDim S8x2048x4096 (![] : Fin 0 → Fin S8x2048x4096.rank)
  bcast_S_S8x2048x1536 : S_.BroadcastsInDim S8x2048x1536 (![] : Fin 0 → Fin S8x2048x1536.rank)

variable [Facts]

def fn {F : FTy → Type} [FloatOps F] (main_arg0 : FVec F S8x2048x1024 .f32) (main_arg1 : FVec F S8x2x6x1024 .f32) (main_arg2 : FVec F S1024 .f32) (main_arg3 : FVec F S1024x4128 .f32) (main_arg4 : FVec F S2x512 .f32) (main_arg5 : FVec F S2x16x256 .f32) (main_arg6 : FVec F S2x256 .f32) : IVec S8x2048x4096 1 × IVec S8x2048x1536 1 :=
  let main_c : IVec S_ 1 := constantI S_ 1 1#1
  let main_v0 : IVec S8x2048x4096 1 := broadcastInDim S8x2048x4096 ![] bcast_S_S8x2048x4096 main_c
  let main_v1 : IVec S8x2048x1536 32 := iotaInDim S8x2048x1536 32 2
  let main_c_0 : IVec S_ 32 := constantI S_ 32 1024#32
  let main_v2 : IVec S8x2048x1536 32 := broadcastInDim S8x2048x1536 ![] bcast_S_S8x2048x1536 main_c_0
  let main_v3 : IVec S8x2048x1536 1 := cmpi .slt main_v1 main_v2
  (main_v0, main_v3)
-- ==== On_routed_rows.lean ====
abbrev S80 : Shape := ⟨1, ![80]⟩
abbrev S1 : Shape := ⟨1, ![1]⟩
abbrev S8x16896x1024 : Shape := ⟨3, ![8, 16896, 1024]⟩
abbrev S8x1024x2816 : Shape := ⟨3, ![8, 1024, 2816]⟩
abbrev S8x2816x1024 : Shape := ⟨3, ![8, 2816, 1024]⟩
abbrev S80x8x33 : Shape := ⟨3, ![80, 8, 33]⟩
abbrev S_ : Shape := ⟨0, ![]⟩
abbrev S8x33 : Shape := ⟨2, ![8, 33]⟩
abbrev S8x33x512x1024 : Shape := ⟨4, ![8, 33, 512, 1024]⟩

class Facts : Prop where
  shapeCasts_S1_S_ : S1.ShapeCasts S_
  bcast_S_S80x8x33 : S_.BroadcastsInDim S80x8x33 (![] : Fin 0 → Fin S80x8x33.rank)
  bcast_S80_S80x8x33_0 : S80.BroadcastsInDim S80x8x33 (![0] : Fin 1 → Fin S80x8x33.rank)
  reducesTo_S80x8x33_S8x33_d0 : S80x8x33.ReducesTo [0] S8x33
  h_S_ : 0 < S_.numel
  bcast_S8x33_S8x33x512x1024_0_1 : S8x33.BroadcastsInDim S8x33x512x1024 (![0, 1] : Fin 2 → Fin S8x33x512x1024.rank)
  shapeCasts_S8x33x512x1024_S8x16896x1024 : S8x33x512x1024.ShapeCasts S8x16896x1024

variable [Facts]

def fn {F : FTy → Type} [FloatOps F] (main_arg0 : IVec S80 32) (main_arg1 : IVec S80 32) (main_arg2 : IVec S1 32) (main_arg3 : FVec F S8x16896x1024 .bf16) (main_arg4 : FVec F S8x1024x2816 .f32) (main_arg5 : FVec F S8x1024x2816 .f32) (main_arg6 : FVec F S8x2816x1024 .f32) : IVec S8x16896x1024 1 :=
  let main_v0 : IVec S80x8x33 32 := iotaInDim S80x8x33 32 0
  let main_v1 : IVec S_ 32 := shapeCast S_ main_arg2 shapeCasts_S1_S_
  let main_v2 : IVec S80x8x33 32 := broadcastInDim S80x8x33 ![] bcast_S_S80x8x33 main_v1
  let main_v3 : IVec S80x8x33 1 := cmpi .slt main_v0 main_v2
  let main_v4 : IVec S80x8x33 32 := broadcastInDim S80x8x33 ![0] bcast_S80_S80x8x33_0 main_arg0
  let main_v5 : IVec S80x8x33 32 := iotaInDim S80x8x33 32 1
  let main_v6 : IVec S80x8x33 1 := cmpi .eq main_v4 main_v5
  let main_v7 : IVec S80x8x33 1 := andi main_v3 main_v6
  let main_v8 : IVec S80x8x33 32 := broadcastInDim S80x8x33 ![0] bcast_S80_S80x8x33_0 main_arg1
  let main_v9 : IVec S80x8x33 32 := iotaInDim S80x8x33 32 2
  let main_v10 : IVec S80x8x33 1 := cmpi .eq main_v8 main_v9
  let main_v11 : IVec S80x8x33 1 := andi main_v7 main_v10
  let main_c : IVec S_ 1 := constantI S_ 1 0#1
  let main_v12 : IVec S8x33 1 := (fun x v => Host.reduce IntOp.ori x v reducesTo_S80x8x33_S8x33_d0 h_S_) main_v11 main_c
  let main_v13 : IVec S8x33x512x1024 1 := broadcastInDim S8x33x512x1024 ![0, 1] bcast_S8x33_S8x33x512x1024_0_1 main_v12
  let main_v14 : IVec S8x16896x1024 1 := shapeCast S8x16896x1024 main_v13 shapeCasts_S8x33x512x1024_S8x16896x1024
  main_v14
-- ==== Pre_block_table.lean ====
abbrev S80 : Shape := ⟨1, ![80]⟩
abbrev S1 : Shape := ⟨1, ![1]⟩
abbrev S8x16896x1024 : Shape := ⟨3, ![8, 16896, 1024]⟩
abbrev S8x1024x2816 : Shape := ⟨3, ![8, 1024, 2816]⟩
abbrev S8x2816x1024 : Shape := ⟨3, ![8, 2816, 1024]⟩
abbrev S_ : Shape := ⟨0, ![]⟩
abbrev S79 : Shape := ⟨1, ![79]⟩

class Facts : Prop where
  shapeCasts_S1_S_ : S1.ShapeCasts S_
  bcast_S_S80 : S_.BroadcastsInDim S80 (![] : Fin 0 → Fin S80.rank)
  slices_S80_S1_0 : S80.Slices ![0] S1
  slices_S80_S79_0 : S80.Slices ![0] S79
  concatenates_S1_S79_S80_d0 : Shape.Concatenates [S1, S79] S80 0

variable [Facts]

def fn_part1 {F : FTy → Type} [FloatOps F] (main_arg1 : IVec S80 32) (main_v13 : IVec S80 1) (main_v14 : IVec S80 1) (main_v18 : IVec S80 1) (main_v19 : IVec S1 32) : IVec S80 1 :=
  let main_v20 : IVec S79 32 := (extractStridedSlice S79 ![0] · slices_S80_S79_0) main_arg1
  let main_v21 : IVec S80 32 := (fun a b => concatenate S80 0 [⟨S1, a⟩, ⟨S79, b⟩] concatenates_S1_S79_S80_d0) main_v19 main_v20
  let main_v22 : IVec S80 1 := cmpi .eq main_arg1 main_v21
  let main_v23 : IVec S80 1 := andi main_v18 main_v22
  let main_v24 : IVec S80 1 := ori main_v14 main_v23
  let main_v25 : IVec S80 1 := andi main_v13 main_v24
  main_v25

def fn {F : FTy → Type} [FloatOps F] (main_arg0 : IVec S80 32) (main_arg1 : IVec S80 32) (main_arg2 : IVec S1 32) (main_arg3 : FVec F S8x16896x1024 .bf16) (main_arg4 : FVec F S8x1024x2816 .f32) (main_arg5 : FVec F S8x1024x2816 .f32) (main_arg6 : FVec F S8x2816x1024 .f32) : IVec S80 1 :=
  let main_v0 : IVec S80 32 := iotaInDim S80 32 0
  let main_v1 : IVec S_ 32 := shapeCast S_ main_arg2 shapeCasts_S1_S_
  let main_v2 : IVec S80 32 := broadcastInDim S80 ![] bcast_S_S80 main_v1
  let main_c : IVec S_ 32 := constantI S_ 32 0#32
  let main_v3 : IVec S80 32 := broadcastInDim S80 ![] bcast_S_S80 main_c
  let main_v4 : IVec S80 1 := cmpi .sge main_arg0 main_v3
  let main_c_0 : IVec S_ 32 := constantI S_ 32 8#32
  let main_v5 : IVec S80 32 := broadcastInDim S80 ![] bcast_S_S80 main_c_0
  let main_v6 : IVec S80 1 := cmpi .slt main_arg0 main_v5
  let main_v7 : IVec S80 1 := andi main_v4 main_v6
  let main_c_1 : IVec S_ 32 := constantI S_ 32 0#32
  let main_v8 : IVec S80 32 := broadcastInDim S80 ![] bcast_S_S80 main_c_1
  let main_v9 : IVec S80 1 := cmpi .sge main_arg1 main_v8
  let main_v10 : IVec S80 1 := andi main_v7 main_v9
  let main_c_2 : IVec S_ 32 := constantI S_ 32 33#32
  let main_v11 : IVec S80 32 := broadcastInDim S80 ![] bcast_S_S80 main_c_2
  let main_v12 : IVec S80 1 := cmpi .slt main_arg1 main_v11
  let main_v13 : IVec S80 1 := andi main_v10 main_v12
  let main_v14 : IVec S80 1 := cmpi .slt main_v0 main_v2
  let main_v15 : IVec S1 32 := (extractStridedSlice S1 ![0] · slices_S80_S1_0) main_arg0
  let main_v16 : IVec S79 32 := (extractStridedSlice S79 ![0] · slices_S80_S79_0) main_arg0
  let main_v17 : IVec S80 32 := (fun a b => concatenate S80 0 [⟨S1, a⟩, ⟨S79, b⟩] concatenates_S1_S79_S80_d0) main_v15 main_v16
  let main_v18 : IVec S80 1 := cmpi .eq main_arg0 main_v17
  let main_v19 : IVec S1 32 := (extractStridedSlice S1 ![0] · slices_S80_S1_0) main_arg1
  fn_part1 (F := F) main_arg1 main_v13 main_v14 main_v18 main_v19
-- ==== Kernel.lean ====
abbrev S80 : Shape := ⟨1, ![80]⟩
abbrev S1 : Shape := ⟨1, ![1]⟩
abbrev S8x16896x1024 : Shape := ⟨3, ![8, 16896, 1024]⟩
abbrev S8x1024x2816 : Shape := ⟨3, ![8, 1024, 2816]⟩
abbrev S8x2816x1024 : Shape := ⟨3, ![8, 2816, 1024]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 10
  | .smem => 3
  | _ => 0

abbrev bufTy : (tb : Table) → Fin (tcTables nBuf tb) → BufTy
  | .hbm, ⟨0, _⟩ => ⟨S8x16896x1024, .bf16⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S8x16896x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1x512x1024, .bf16⟩
  | .local _ .vmem, ⟨9, _⟩ => ⟨S1x512x1024, .bf16⟩
  | .local _ .smem, ⟨0, _⟩ => ⟨S80, .i32⟩
  | .local _ .smem, ⟨1, _⟩ => ⟨S80, .i32⟩
  | .local _ .smem, ⟨2, _⟩ => ⟨S1, .i32⟩
  | _, _ => ⟨S8x16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let v2 : Index := Scalar.indexCast arg0
  let v3 : BitVec 32 := pf.at 1 (Rect.unit (s := S80) ![v2.toNat] S1.size (k0_off1_inb i)) numel1_S1
  let c0_i32 : BitVec 32 := 0#32
  let c0_i32_0 : BitVec 32 := 0#32
  ![v1.toNat, v3.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let v2 : Index := Scalar.indexCast arg0
  let v3 : BitVec 32 := pf.at 1 (Rect.unit (s := S80) ![v2.toNat] S1.size (k0_off1_inb i)) numel1_S1
  let c0_i32 : BitVec 32 := 0#32
  let c0_i32_0 : BitVec 32 := 0#32
  ![v1.toNat, v3.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S80 : Shape := ⟨1, ![80]⟩
abbrev S1 : Shape := ⟨1, ![1]⟩
abbrev S8x16896x1024 : Shape := ⟨3, ![8, 16896, 1024]⟩
abbrev S8x1024x2816 : Shape := ⟨3, ![8, 1024, 2816]⟩
abbrev S8x2816x1024 : Shape := ⟨3, ![8, 2816, 1024]⟩
abbrev S8x16896x2816 : Shape := ⟨3, ![8, 16896, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S80, .i32⟩
  | .hbm, ⟨1, _⟩ => ⟨S80, .i32⟩
  | .hbm, ⟨2, _⟩ => ⟨S1, .i32⟩
  | .hbm, ⟨3, _⟩ => ⟨S8x16896x1024, .bf16⟩
  | .hbm, ⟨4, _⟩ => ⟨S8x1024x2816, .f32⟩
  | .hbm, ⟨5, _⟩ => ⟨S8x1024x2816, .f32⟩
  | .hbm, ⟨6, _⟩ => ⟨S8x2816x1024, .f32⟩
  | .hbm, ⟨7, _⟩ => ⟨S8x16896x1024, .f32⟩
  | .hbm, ⟨8, _⟩ => ⟨S8x16896x2816, .f32⟩
  | .hbm, ⟨9, _⟩ => ⟨S8x16896x2816, .f32⟩
  | .hbm, ⟨10, _⟩ => ⟨S8x16896x2816, .f32⟩
  | .hbm, ⟨11, _⟩ => ⟨S8x16896x2816, .f32⟩
  | .hbm, ⟨12, _⟩ => ⟨S_, .f32⟩
  | .hbm, ⟨13, _⟩ => ⟨S8x16896x2816, .f32⟩
  | .hbm, ⟨14, _⟩ => ⟨S8x16896x2816, .f32⟩
  | .hbm, ⟨15, _⟩ => ⟨S_, .f32⟩
  | .hbm, ⟨16, _⟩ => ⟨S8x16896x2816, .f32⟩
  | .hbm, ⟨17, _⟩ => ⟨S8x16896x2816, .f32⟩
  | .hbm, ⟨18, _⟩ => ⟨S8x16896x2816, .f32⟩
  | .hbm, ⟨19, _⟩ => ⟨S8x16896x2816, .f32⟩
  | .hbm, ⟨20, _⟩ => ⟨S8x16896x1024, .f32⟩
  | .hbm, ⟨21, _⟩ => ⟨S8x16896x1024, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩

abbrev nD : Nat := 1
abbrev τ : Topo := Topo.v7x

variable {F : FTy → Type} [FloatOps F]
-- ==== Kernel2.lean ====
abbrev S8x2304x512 : Shape := ⟨3, ![8, 2304, 512]⟩
abbrev S8x256x1024 : Shape := ⟨3, ![8, 256, 1024]⟩
abbrev S8x2048x1024 : Shape := ⟨3, ![8, 2048, 1024]⟩
abbrev S8x2x6x1024 : Shape := ⟨4, ![8, 2, 6, 1024]⟩
abbrev S128 : Shape := ⟨1, ![128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x128 : Shape := ⟨2, ![1, 128]⟩
abbrev S1x1024 : Shape := ⟨2, ![1, 1024]⟩
abbrev S1x256x512 : Shape := ⟨3, ![1, 256, 512]⟩
abbrev S1x256x1024 : Shape := ⟨3, ![1, 256, 1024]⟩
abbrev S1x1x6x1024 : Shape := ⟨4, ![1, 1, 6, 1024]⟩
abbrev S1x128x512 : Shape := ⟨3, ![1, 128, 512]⟩
abbrev S128x512 : Shape := ⟨2, ![128, 512]⟩
abbrev S1x128x128 : Shape := ⟨3, ![1, 128, 128]⟩
abbrev S128x128 : Shape := ⟨2, ![128, 128]⟩
abbrev S128x1 : Shape := ⟨2, ![128, 1]⟩
abbrev S128x1024 : Shape := ⟨2, ![128, 1024]⟩
abbrev S1x128x1024 : Shape := ⟨3, ![1, 128, 1024]⟩
abbrev S1x1x1x1024 : Shape := ⟨4, ![1, 1, 1, 1024]⟩
abbrev S1024x1408 : Shape := ⟨2, ![1024, 1408]⟩
abbrev S128x1408 : Shape := ⟨2, ![128, 1408]⟩
abbrev S1408x1024 : Shape := ⟨2, ![1408, 1024]⟩
abbrev S256x1024 : Shape := ⟨2, ![256, 1024]⟩

abbrev nBuf : Space → Nat
  | .hbm => 23
  | .vmem => 28
  | .smem => 0
  | _ => 0

abbrev bufTy : (tb : Table) → Fin (tcTables nBuf tb) → BufTy
  | .hbm, ⟨0, _⟩ => ⟨S8x2304x512, .f32⟩
  | .hbm, ⟨1, _⟩ => ⟨S8x2304x512, .f32⟩
  | .hbm, ⟨2, _⟩ => ⟨S8x2304x512, .bf16⟩
  | .hbm, ⟨3, _⟩ => ⟨S8x2304x512, .bf16⟩
  | .hbm, ⟨4, _⟩ => ⟨S8x2304x512, .bf16⟩
  | .hbm, ⟨5, _⟩ => ⟨S8x2304x512, .bf16⟩
  | .hbm, ⟨6, _⟩ => ⟨S8x256x1024, .f32⟩
  | .hbm, ⟨7, _⟩ => ⟨S8x2048x1024, .f32⟩
  | .hbm, ⟨8, _⟩ => ⟨S8x2x6x1024, .f32⟩
  | .hbm, ⟨9, _⟩ => ⟨S128, .f32⟩
  | .hbm, ⟨10, _⟩ => ⟨S1024x1024, .f32⟩
  | .hbm, ⟨11, _⟩ => ⟨S1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S1x128, .f32⟩
  | .hbm, ⟨16, _⟩ => ⟨S1024x1024, .bf16⟩
  | .hbm, ⟨17, _⟩ => ⟨S1x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S8x256x1024, .f32⟩
  | .hbm, ⟨22, _⟩ => ⟨S8x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x1x6x1024, .f32⟩
  | .local _ .vmem, ⟨17, _⟩ => ⟨S1x1x6x1024, .f32⟩
  | .local _ .vmem, ⟨18, _⟩ => ⟨S1x128, .f32⟩
  | .local _ .vmem, ⟨19, _⟩ => ⟨S1024x1024, .bf16⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | _, _ => ⟨S8x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c1_i32_221 : BitVec 32 := 1#32
  let v377 : BitVec 1 := Scalar.cmpi .slt arg1 c1_i32_221
  let v378 : BitVec 32 := Scalar.extui v377
  let c0_i32 : BitVec 32 := 0#32
  let v379 : BitVec 1 := Scalar.cmpi .ne v378 c0_i32
  v379

def k0_cond2 (i : grid0.Coords) : BitVec 1 :=
  let arg1 : BitVec 32 := BitVec.ofNat 32 (i 1).val
  let c1_i32_222 : BitVec 32 := 1#32
  let v380 : BitVec 1 := Scalar.cmpi .sge arg1 c1_i32_222
  let v381 : BitVec 32 := Scalar.extui v380
  let c0_i32_223 : BitVec 32 := 0#32
  let v382 : BitVec 1 := Scalar.cmpi .ne v381 c0_i32_223
  v382

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let v0 : BitVec 32 := Scalar.maxsi c0_i32 arg1
  let v1 : BitVec 32 := Scalar.minsi c0_i32_0 v0
  let c0_i32_1 : BitVec 32 := 0#32
  let c0_i32_2 : BitVec 32 := 0#32
  ![arg0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![arg0.toNat, v2.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x2304x512 : Shape := ⟨3, ![8, 2304, 512]⟩
abbrev S8x256x1024 : Shape := ⟨3, ![8, 256, 1024]⟩
abbrev S8x2048x1024 : Shape := ⟨3, ![8, 2048, 1024]⟩
abbrev S8x2x6x1024 : Shape := ⟨4, ![8, 2, 6, 1024]⟩
abbrev S128 : Shape := ⟨1, ![128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2304x4x128 : Shape := ⟨4, ![8, 2304, 4, 128]⟩
abbrev S_ : Shape := ⟨0, ![]⟩
abbrev S8x2304x4 : Shape := ⟨3, ![8, 2304, 4]⟩
abbrev S8x2304x4x1 : Shape := ⟨4, ![8, 2304, 4, 1]⟩
abbrev S1x1x1x128 : Shape := ⟨4, ![1, 1, 1, 128]⟩
abbrev S8x2304x1024 : Shape := ⟨3, ![8, 2304, 1024]⟩
abbrev S8x1x6x1024 : Shape := ⟨4, ![8, 1, 6, 1024]⟩
abbrev S8x6x1024 : Shape := ⟨3, ![8, 6, 1024]⟩
abbrev S8x1x1024 : Shape := ⟨3, ![8, 1, 1024]⟩
abbrev S8x256 : Shape := ⟨2, ![8, 256]⟩
abbrev S8x256x1 : Shape := ⟨3, ![8, 256, 1]⟩
abbrev S1x1x1024 : Shape := ⟨3, ![1, 1, 1024]⟩
abbrev S8x256x2816 : Shape := ⟨3, ![8, 256, 2816]⟩
abbrev S8x2048 : Shape := ⟨2, ![8, 2048]⟩
abbrev S8x2048x1 : Shape := ⟨3, ![8, 2048, 1]⟩
abbrev S8x2048x2816 : Shape := ⟨3, ![8, 2048, 2816]⟩

abbrev nBuf : Space → Nat
  | .hbm => 141
  | .vmem => 0
  | .smem => 0
  | _ => 0

abbrev hbmTy0_0 (i : Nat) : BufTy := match i % 128 with
  | 0 => ⟨S8x2304x512, .f32⟩
  | 1 => ⟨S8x2304x512, .f32⟩
  | 2 => ⟨S8x2304x512, .bf16⟩
  | 3 => ⟨S8x2304x512, .bf16⟩
  | 4 => ⟨S8x2304x512, .bf16⟩
  | 5 => ⟨S8x2304x512, .bf16⟩
  | 6 => ⟨S8x256x1024, .f32⟩
  | 7 => ⟨S8x2048x1024, .f32⟩
  | 8 => ⟨S8x2x6x1024, .f32⟩
  | 9 => ⟨S128, .f32⟩
  | 10 => ⟨S1024x1024, .f32⟩
  | 11 => ⟨S1024, .f32⟩
  | 12 => ⟨S1024x2816, .f32⟩
  | 13 => ⟨S1024x2816, .f32⟩
  | 14 => ⟨S2816x1024, .f32⟩
  | 15 => ⟨S8x2304x512, .f32⟩
  | 16 => ⟨S8x2304x512, .f32⟩
  | 17 => ⟨S8x2304x512, .f32⟩
  | 18 => ⟨S8x2304x512, .f32⟩
  | 19 => ⟨S8x2304x512, .f32⟩
  | 20 => ⟨S8x2304x512, .f32⟩
  | 21 => ⟨S8x2304x4x128, .f32⟩
  | 22 => ⟨S8x2304x4x128, .f32⟩
  | 23 => ⟨S_, .f32⟩
  | 24 => ⟨S8x2304x4, .f32⟩
  | 25 => ⟨S8x2304x4x1, .f32⟩
  | 26 => ⟨S_, .f32⟩
  | 27 => ⟨S8x2304x4x1, .f32⟩
  | 28 => ⟨S8x2304x4x1, .f32⟩
  | 29 => ⟨S_, .f32⟩
  | 30 => ⟨S8x2304x4x1, .f32⟩
  | 31 => ⟨S8x2304x4x1, .f32⟩
  | 32 => ⟨S8x2304x4x1, .f32⟩
  | 33 => ⟨S8x2304x4x128, .f32⟩
  | 34 => ⟨S8x2304x4x128, .f32⟩
  | 35 => ⟨S1x1x1x128, .f32⟩
  | 36 => ⟨S8x2304x4x128, .f32⟩
  | 37 => ⟨S8x2304x4x128, .f32⟩
  | 38 => ⟨S8x2304x512, .f32⟩
  | 39 => ⟨S8x2304x512, .f32⟩
  | 40 => ⟨S8x2304x512, .f32⟩
  | 41 => ⟨S8x2304x1024, .f32⟩
  | 42 => ⟨S8x2304x1024, .f32⟩
  | 43 => ⟨S8x256x1024, .f32⟩
  | 44 => ⟨S8x1x6x1024, .f32⟩
  | 45 => ⟨S8x6x1024, .f32⟩
  | 46 => ⟨S8x1x1024, .f32⟩
  | 47 => ⟨S8x256x1024, .f32⟩
  | 48 => ⟨S8x256x1024, .f32⟩
  | 49 => ⟨S8x256x1024, .f32⟩
  | 50 => ⟨S8x256x1024, .f32⟩
  | 51 => ⟨S_, .f32⟩
  | 52 => ⟨S8x256, .f32⟩
  | 53 => ⟨S8x256x1, .f32⟩
  | 54 => ⟨S_, .f32⟩
  | 55 => ⟨S8x256x1, .f32⟩
  | 56 => ⟨S8x256x1, .f32⟩
  | 57 => ⟨S_, .f32⟩
  | 58 => ⟨S8x256x1, .f32⟩
  | 59 => ⟨S8x256x1, .f32⟩
  | 60 => ⟨S8x256x1, .f32⟩
  | 61 => ⟨S8x256x1024, .f32⟩
  | 62 => ⟨S8x256x1024, .f32⟩
  | 63 => ⟨S1x1x1024, .f32⟩
  | 64 => ⟨S8x256x1024, .f32⟩
  | 65 => ⟨S8x256x1024, .f32⟩
  | 66 => ⟨S8x1x1024, .f32⟩
  | 67 => ⟨S_, .f32⟩
  | 68 => ⟨S8x1x1024, .f32⟩
  | 69 => ⟨S8x1x1024, .f32⟩
  | 70 => ⟨S8x256x1024, .f32⟩
  | 71 => ⟨S8x256x1024, .f32⟩
  | 72 => ⟨S8x1x1024, .f32⟩
  | 73 => ⟨S8x256x1024, .f32⟩
  | 74 => ⟨S8x256x1024, .f32⟩
  | 75 => ⟨S8x1x1024, .f32⟩
  | 76 => ⟨S8x256x2816, .f32⟩
  | 77 => ⟨S8x256x2816, .f32⟩
  | 78 => ⟨S8x256x2816, .f32⟩
  | 79 => ⟨S_, .f32⟩
  | 80 => ⟨S8x256x2816, .f32⟩
  | 81 => ⟨S8x256x2816, .f32⟩
  | 82 => ⟨S_, .f32⟩
  | 83 => ⟨S8x256x2816, .f32⟩
  | 84 => ⟨S8x256x2816, .f32⟩
  | 85 => ⟨S8x256x2816, .f32⟩
  | 86 => ⟨S8x256x2816, .f32⟩
  | 87 => ⟨S8x256x2816, .f32⟩
  | 88 => ⟨S8x256x1024, .f32⟩
  | 89 => ⟨S8x256x1024, .f32⟩
  | 90 => ⟨S8x256x1024, .f32⟩
  | 91 => ⟨S8x256x1024, .f32⟩
  | 92 => ⟨S8x2048x1024, .f32⟩
  | 93 => ⟨S8x1x6x1024, .f32⟩
  | 94 => ⟨S8x6x1024, .f32⟩
  | 95 => ⟨S8x1x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S_, .f32⟩
  | 101 => ⟨S8x2048, .f32⟩
  | 102 => ⟨S8x2048x1, .f32⟩
  | 103 => ⟨S_, .f32⟩
  | 104 => ⟨S8x2048x1, .f32⟩
  | 105 => ⟨S8x2048x1, .f32⟩
  | 106 => ⟨S_, .f32⟩
  | 107 => ⟨S8x2048x1, .f32⟩
  | 108 => ⟨S8x2048x1, .f32⟩
  | 109 => ⟨S8x2048x1, .f32⟩
  | 110 => ⟨S8x2048x1024, .f32⟩
  | 111 => ⟨S8x2048x1024, .f32⟩
  | 112 => ⟨S1x1x1024, .f32⟩
  | 113 => ⟨S8x2048x1024, .f32⟩
  | 114 => ⟨S8x2048x1024, .f32⟩
  | 115 => ⟨S8x1x1024, .f32⟩
  | 116 => ⟨S_, .f32⟩
  | 117 => ⟨S8x1x1024, .f32⟩
  | 118 => ⟨S8x1x1024, .f32⟩
  | 119 => ⟨S8x2048x1024, .f32⟩
  | 120 => ⟨S8x2048x1024, .f32⟩
  | 121 => ⟨S8x1x1024, .f32⟩
  | 122 => ⟨S8x2048x1024, .f32⟩
  | 123 => ⟨S8x2048x1024, .f32⟩
  | 124 => ⟨S8x1x1024, .f32⟩
  | 125 => ⟨S8x2048x2816, .f32⟩
  | 126 => ⟨S8x2048x2816, .f32⟩
  | 127 => ⟨S8x2048x2816, .f32⟩
  | _ => ⟨S8x2304x512, .f32⟩

abbrev hbmTy0_1 (i : Nat) : BufTy := match i % 128 with
  | 0 => ⟨S_, .f32⟩
  | 1 => ⟨S8x2048x2816, .f32⟩
  | 2 => ⟨S8x2048x2816, .f32⟩
  | 3 => ⟨S_, .f32⟩
  | 4 => ⟨S8x2048x2816, .f32⟩
  | 5 => ⟨S8x2048x2816, .f32⟩
  | 6 => ⟨S8x2048x2816, .f32⟩
  | 7 => ⟨S8x2048x2816, .f32⟩
  | 8 => ⟨S8x2048x2816, .f32⟩
  | 9 => ⟨S8x2048x1024, .f32⟩
  | 10 => ⟨S8x2048x1024, .f32⟩
  | 11 => ⟨S8x2048x1024, .f32⟩
  | 12 => ⟨S8x2048x1024, .f32⟩
  | _ => ⟨S8x2304x512, .f32⟩

abbrev hbmTy (i : Nat) : BufTy := match i / 128 with
  | 0 => hbmTy0_0 i
  | 1 => hbmTy0_1 i
  | _ => ⟨S8x2304x512, .f32⟩

abbrev bufTy : (tb : Table) → Fin (tcTables nBuf tb) → BufTy
  | .hbm, ⟨i, _⟩ => hbmTy i
  | _, _ => ⟨S8x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_6 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_v72 : Ref sig .tc := ⟨.hbm, 104, rfl⟩
abbrev main_v73 : Ref sig .tc := ⟨.hbm, 105, rfl⟩
abbrev main_cst_8 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_9 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call1_v0 : Ref sig .tc := ⟨.hbm, 126, rfl⟩
abbrev main_call1_v1 : Ref sig .tc := ⟨.hbm, 127, rfl⟩
abbrev main_call1_cst : Ref sig .tc := ⟨.hbm, 128, rfl⟩
abbrev main_call1_v2 : Ref sig .tc := ⟨.hbm, 129, rfl⟩
abbrev main_call1_v3 : Ref sig .tc := ⟨.hbm, 130, rfl⟩
abbrev main_call1_cst_0 : Ref sig .tc := ⟨.hbm, 131, rfl⟩
abbrev main_call1_v4 : Ref sig .tc := ⟨.hbm, 132, rfl⟩
abbrev main_call1_v5 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2x6x1024 : Shape := ⟨4, ![8, 2, 6, 1024]⟩
abbrev S1024 : Shape := ⟨1, ![1024]⟩
abbrev S1024x4128 : Shape := ⟨2, ![1024, 4128]⟩
abbrev S2x512 : Shape := ⟨2, ![2, 512]⟩
abbrev S2x16x256 : Shape := ⟨3, ![2, 16, 256]⟩
abbrev S2x256 : Shape := ⟨2, ![2, 256]⟩
abbrev S1x1024 : Shape := ⟨2, ![1, 1024]⟩
abbrev S1024x32 : Shape := ⟨2, ![1024, 32]⟩
abbrev S_ : Shape := ⟨0, ![]⟩
abbrev S1024x128 : Shape := ⟨2, ![1024, 128]⟩
abbrev S128x512 : Shape := ⟨2, ![128, 512]⟩
abbrev S1x16x256 : Shape := ⟨3, ![1, 16, 256]⟩
abbrev S16x256 : Shape := ⟨2, ![16, 256]⟩
abbrev S1 : Shape := ⟨1, ![1]⟩
abbrev S2 : Shape := ⟨1, ![2]⟩
abbrev S1x512 : Shape := ⟨2, ![1, 512]⟩
abbrev S8x2048x4096 : Shape := ⟨3, ![8, 2048, 4096]⟩
abbrev S8x2048x1536 : Shape := ⟨3, ![8, 2048, 1536]⟩
abbrev S1x512x1024 : Shape := ⟨3, ![1, 512, 1024]⟩
abbrev S1x1x6x1024 : Shape := ⟨4, ![1, 1, 6, 1024]⟩
abbrev S1x512x4096 : Shape := ⟨3, ![1, 512, 4096]⟩
abbrev S1x512x1536 : Shape := ⟨3, ![1, 512, 1536]⟩
abbrev S512x4224 : Shape := ⟨2, ![512, 4224]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩
abbrev S1x128 : Shape := ⟨2, ![1, 128]⟩
abbrev S512x256 : Shape := ⟨2, ![512, 256]⟩
abbrev S1x512x256 : Shape := ⟨3, ![1, 512, 256]⟩
abbrev S1x512x512 : Shape := ⟨3, ![1, 512, 512]⟩

abbrev nBuf : Space → Nat
  | .hbm => 35
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2x6x1024, .f32⟩
  | .hbm, ⟨2, _⟩ => ⟨S1024, .f32⟩
  | .hbm, ⟨3, _⟩ => ⟨S1024x4128, .f32⟩
  | .hbm, ⟨4, _⟩ => ⟨S2x512, .f32⟩
  | .hbm, ⟨5, _⟩ => ⟨S2x16x256, .f32⟩
  | .hbm, ⟨6, _⟩ => ⟨S2x256, .f32⟩
  | .hbm, ⟨7, _⟩ => ⟨S1x1024, .f32⟩
  | .hbm, ⟨8, _⟩ => ⟨S1024x4128, .bf16⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S128x512, .f32⟩
  | .hbm, ⟨16, _⟩ => ⟨S1x16x256, .f32⟩
  | .hbm, ⟨17, _⟩ => ⟨S16x256, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x512, .f32⟩
  | .hbm, ⟨24, _⟩ => ⟨S1x16x256, .f32⟩
  | .hbm, ⟨25, _⟩ => ⟨S16x256, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x512, .f32⟩
  | .hbm, ⟨32, _⟩ => ⟨S1x512, .f32⟩
  | .hbm, ⟨33, _⟩ => ⟨S8x2048x4096, .bf16⟩
  | .hbm, ⟨34, _⟩ => ⟨S8x2048x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x4128, .bf16⟩
  | .local _ .vmem, ⟨6, _⟩ => ⟨S1024x128, .bf16⟩
  | .local _ .vmem, ⟨7, _⟩ => ⟨S2x512, .f32⟩
  | .local _ .vmem, ⟨8, _⟩ => ⟨S128x512, .f32⟩
  | .local _ .vmem, ⟨9, _⟩ => ⟨S1x512, .f32⟩
  | .local _ .vmem, ⟨10, _⟩ => ⟨S1x512x4096, .bf16⟩
  | .local _ .vmem, ⟨11, _⟩ => ⟨S1x512x4096, .bf16⟩
  | .local _ .vmem, ⟨12, _⟩ => ⟨S1x512x1536, .f32⟩
  | .local _ .vmem, ⟨13, _⟩ => ⟨S1x512x1536, .f32⟩
  | .local _ .vmem, ⟨14, _⟩ => ⟨S512x4224, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "inv_sqrt_head" => some (((Real.sqrt 128)⁻¹ : ℝ) : EReal)
  | _ => none
-- ==== Reference3Ideal.lean ====
abbrev S8x2048x1024 : Shape := ⟨3, ![8, 2048, 1024]⟩
abbrev S8x2x6x1024 : Shape := ⟨4, ![8, 2, 6, 1024]⟩
abbrev S1024 : Shape := ⟨1, ![1024]⟩
abbrev S1024x4128 : Shape := ⟨2, ![1024, 4128]⟩
abbrev S2x512 : Shape := ⟨2, ![2, 512]⟩
abbrev S2x16x256 : Shape := ⟨3, ![2, 16, 256]⟩
abbrev S2x256 : Shape := ⟨2, ![2, 256]⟩
abbrev S8x1x6x1024 : Shape := ⟨4, ![8, 1, 6, 1024]⟩
abbrev S8x6x1024 : Shape := ⟨3, ![8, 6, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x4128 : Shape := ⟨3, ![8, 2048, 4128]⟩
abbrev S8x2048x512 : Shape := ⟨3, ![8, 2048, 512]⟩
abbrev S8x2048x256 : Shape := ⟨3, ![8, 2048, 256]⟩
abbrev S8x2048x32 : Shape := ⟨3, ![8, 2048, 32]⟩
abbrev S512 : Shape := ⟨1, ![512]⟩
abbrev S1x512 : Shape := ⟨2, ![1, 512]⟩
abbrev S1x1x512 : Shape := ⟨3, ![1, 1, 512]⟩
abbrev S8x2048x2x16 : Shape := ⟨4, ![8, 2048, 2, 16]⟩
abbrev S8x2048x1x16 : Shape := ⟨4, ![8, 2048, 1, 16]⟩
abbrev S8x2048x16 : Shape := ⟨3, ![8, 2048, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S8x2048x4096 : Shape := ⟨3, ![8, 2048, 4096]⟩
abbrev S8x2048x1536 : Shape := ⟨3, ![8, 2048, 1536]⟩

abbrev nBuf : Space → Nat
  | .hbm => 231
  | .vmem => 0
  | .smem => 0
  | _ => 0

abbrev hbmTy0_0 (i : Nat) : BufTy := match i % 128 with
  | 0 => ⟨S8x2048x1024, .f32⟩
  | 1 => ⟨S8x2x6x1024, .f32⟩
  | 2 => ⟨S1024, .f32⟩
  | 3 => ⟨S1024x4128, .f32⟩
  | 4 => ⟨S2x512, .f32⟩
  | 5 => ⟨S2x16x256, .f32⟩
  | 6 => ⟨S2x256, .f32⟩
  | 7 => ⟨S8x1x6x1024, .f32⟩
  | 8 => ⟨S8x6x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x1x1024, .f32⟩
  | 26 => ⟨S_, .f32⟩
  | 27 => ⟨S8x1x1024, .f32⟩
  | 28 => ⟨S8x1x1024, .f32⟩
  | 29 => ⟨S8x2048x1024, .f32⟩
  | 30 => ⟨S8x2048x1024, .f32⟩
  | 31 => ⟨S8x1x1024, .f32⟩
  | 32 => ⟨S8x2048x1024, .f32⟩
  | 33 => ⟨S8x2048x1024, .f32⟩
  | 34 => ⟨S8x2048x4128, .f32⟩
  | 35 => ⟨S8x2048x512, .f32⟩
  | 36 => ⟨S8x2048x512, .f32⟩
  | 37 => ⟨S8x2048x512, .f32⟩
  | 38 => ⟨S8x2048x512, .f32⟩
  | 39 => ⟨S8x2048x512, .f32⟩
  | 40 => ⟨S8x2048x256, .f32⟩
  | 41 => ⟨S8x2048x256, .f32⟩
  | 42 => ⟨S8x2048x512, .f32⟩
  | 43 => ⟨S8x2048x512, .f32⟩
  | 44 => ⟨S8x2048x32, .f32⟩
  | 45 => ⟨S_, .f32⟩
  | 46 => ⟨S512, .f32⟩
  | 47 => ⟨S_, .f32⟩
  | 48 => ⟨S512, .f32⟩
  | 49 => ⟨S512, .f32⟩
  | 50 => ⟨S1x512, .f32⟩
  | 51 => ⟨S2x512, .f32⟩
  | 52 => ⟨S2x512, .f32⟩
  | 53 => ⟨S2x512, .f32⟩
  | 54 => ⟨S_, .f32⟩
  | 55 => ⟨S512, .f32⟩
  | 56 => ⟨S1x512, .f32⟩
  | 57 => ⟨S2x512, .f32⟩
  | 58 => ⟨S2x512, .f32⟩
  | 59 => ⟨S_, .f32⟩
  | 60 => ⟨S_, .f32⟩
  | 61 => ⟨S2x512, .f32⟩
  | 62 => ⟨S1x512, .f32⟩
  | 63 => ⟨S512, .f32⟩
  | 64 => ⟨S1x512, .f32⟩
  | 65 => ⟨S2x512, .f32⟩
  | 66 => ⟨S2x512, .f32⟩
  | 67 => ⟨S1x512, .f32⟩
  | 68 => ⟨S512, .f32⟩
  | 69 => ⟨S_, .f32⟩
  | 70 => ⟨S512, .f32⟩
  | 71 => ⟨S512, .f32⟩
  | 72 => ⟨S8x2048x512, .f32⟩
  | 73 => ⟨S8x2048x512, .f32⟩
  | 74 => ⟨S_, .f32⟩
  | 75 => ⟨S8x2048x512, .f32⟩
  | 76 => ⟨S8x2048x512, .f32⟩
  | 77 => ⟨S_, .f32⟩
  | 78 => ⟨S8x2048x512, .f32⟩
  | 79 => ⟨S8x2048x512, .f32⟩
  | 80 => ⟨S1x1x512, .f32⟩
  | 81 => ⟨S8x2048x512, .f32⟩
  | 82 => ⟨S8x2048x512, .f32⟩
  | 83 => ⟨S1x1x512, .f32⟩
  | 84 => ⟨S8x2048x512, .f32⟩
  | 85 => ⟨S8x2048x512, .f32⟩
  | 86 => ⟨S8x2048x512, .f32⟩
  | 87 => ⟨S_, .f32⟩
  | 88 => ⟨S512, .f32⟩
  | 89 => ⟨S512, .f32⟩
  | 90 => ⟨S8x2048x512, .f32⟩
  | 91 => ⟨S8x2048x512, .f32⟩
  | 92 => ⟨S8x2048x512, .f32⟩
  | 93 => ⟨S_, .f32⟩
  | 94 => ⟨S8x2048x512, .f32⟩
  | 95 => ⟨S8x2048x512, .f32⟩
  | 96 => ⟨S_, .f32⟩
  | 97 => ⟨S8x2048x512, .f32⟩
  | 98 => ⟨S8x2048x512, .f32⟩
  | 99 => ⟨S1x1x512, .f32⟩
  | 100 => ⟨S8x2048x512, .f32⟩
  | 101 => ⟨S8x2048x512, .f32⟩
  | 102 => ⟨S_, .f32⟩
  | 103 => ⟨S512, .f32⟩
  | 104 => ⟨S512, .f32⟩
  | 105 => ⟨S8x2048x512, .f32⟩
  | 106 => ⟨S8x2048x512, .f32⟩
  | 107 => ⟨S_, .f32⟩
  | 108 => ⟨S8x2048x512, .f32⟩
  | 109 => ⟨S8x2048x512, .f32⟩
  | 110 => ⟨S_, .f32⟩
  | 111 => ⟨S8x2048x512, .f32⟩
  | 112 => ⟨S8x2048x512, .f32⟩
  | 113 => ⟨S1x1x512, .f32⟩
  | 114 => ⟨S8x2048x512, .f32⟩
  | 115 => ⟨S8x2048x512, .f32⟩
  | 116 => ⟨S1x1x512, .f32⟩
  | 117 => ⟨S8x2048x512, .f32⟩
  | 118 => ⟨S8x2048x512, .f32⟩
  | 119 => ⟨S8x2048x512, .f32⟩
  | 120 => ⟨S_, .f32⟩
  | 121 => ⟨S512, .f32⟩
  | 122 => ⟨S512, .f32⟩
  | 123 => ⟨S8x2048x512, .f32⟩
  | 124 => ⟨S8x2048x512, .f32⟩
  | 125 => ⟨S8x2048x512, .f32⟩
  | 126 => ⟨S_, .f32⟩
  | 127 => ⟨S8x2048x512, .f32⟩
  | _ => ⟨S8x2048x1024, .f32⟩

abbrev hbmTy0_1 (i : Nat) : BufTy := match i % 128 with
  | 0 => ⟨S8x2048x512, .f32⟩
  | 1 => ⟨S_, .f32⟩
  | 2 => ⟨S8x2048x512, .f32⟩
  | 3 => ⟨S8x2048x512, .f32⟩
  | 4 => ⟨S1x1x512, .f32⟩
  | 5 => ⟨S8x2048x512, .f32⟩
  | 6 => ⟨S8x2048x512, .f32⟩
  | 7 => ⟨S8x2048x2x16, .f32⟩
  | 8 => ⟨S8x2048x1x16, .f32⟩
  | 9 => ⟨S8x2048x16, .f32⟩
  | 10 => ⟨S1x16x256, .f32⟩
  | 11 => ⟨S16x256, .f32⟩
  | 12 => ⟨S8x2048x256, .f32⟩
  | 13 => ⟨S1x256, .f32⟩
  | 14 => ⟨S256, .f32⟩
  | 15 => ⟨S1x1x256, .f32⟩
  | 16 => ⟨S8x2048x256, .f32⟩
  | 17 => ⟨S8x2048x256, .f32⟩
  | 18 => ⟨S8x2048x256, .f32⟩
  | 19 => ⟨S_, .f32⟩
  | 20 => ⟨S8x2048x256, .f32⟩
  | 21 => ⟨S8x2048x256, .f32⟩
  | 22 => ⟨S8x2048x256, .f32⟩
  | 23 => ⟨S8x2048x256, .f32⟩
  | 24 => ⟨S8x2048x256, .i1⟩
  | 25 => ⟨S8x2048x256, .f32⟩
  | 26 => ⟨S8x2048x256, .f32⟩
  | 27 => ⟨S8x2048x256, .f32⟩
  | 28 => ⟨S8x2048x256, .f32⟩
  | 29 => ⟨S8x2048x256, .f32⟩
  | 30 => ⟨S8x2048x256, .f32⟩
  | 31 => ⟨S8x2048x256, .f32⟩
  | 32 => ⟨S8x2048x256, .f32⟩
  | 33 => ⟨S8x2048x256, .f32⟩
  | 34 => ⟨S_, .f32⟩
  | 35 => ⟨S8x2048x256, .f32⟩
  | 36 => ⟨S8x2048x256, .f32⟩
  | 37 => ⟨S8x2048x1x16, .f32⟩
  | 38 => ⟨S8x2048x16, .f32⟩
  | 39 => ⟨S1x16x256, .f32⟩
  | 40 => ⟨S16x256, .f32⟩
  | 41 => ⟨S8x2048x256, .f32⟩
  | 42 => ⟨S1x256, .f32⟩
  | 43 => ⟨S256, .f32⟩
  | 44 => ⟨S1x1x256, .f32⟩
  | 45 => ⟨S8x2048x256, .f32⟩
  | 46 => ⟨S8x2048x256, .f32⟩
  | 47 => ⟨S8x2048x256, .f32⟩
  | 48 => ⟨S_, .f32⟩
  | 49 => ⟨S8x2048x256, .f32⟩
  | 50 => ⟨S8x2048x256, .f32⟩
  | 51 => ⟨S8x2048x256, .f32⟩
  | 52 => ⟨S8x2048x256, .f32⟩
  | 53 => ⟨S8x2048x256, .i1⟩
  | 54 => ⟨S8x2048x256, .f32⟩
  | 55 => ⟨S8x2048x256, .f32⟩
  | 56 => ⟨S8x2048x256, .f32⟩
  | 57 => ⟨S8x2048x256, .f32⟩
  | 58 => ⟨S8x2048x256, .f32⟩
  | 59 => ⟨S8x2048x256, .f32⟩
  | 60 => ⟨S8x2048x256, .f32⟩
  | 61 => ⟨S8x2048x256, .f32⟩
  | 62 => ⟨S8x2048x256, .f32⟩
  | 63 => ⟨S_, .f32⟩
  | 64 => ⟨S8x2048x256, .f32⟩
  | 65 => ⟨S8x2048x256, .f32⟩
  | 66 => ⟨S8x2048x512, .f32⟩
  | 67 => ⟨S8x2048x512, .f32⟩
  | 68 => ⟨S_, .f32⟩
  | 69 => ⟨S8x2048x512, .f32⟩
  | 70 => ⟨S8x2048x512, .f32⟩
  | 71 => ⟨S_, .f32⟩
  | 72 => ⟨S8x2048x512, .f32⟩
  | 73 => ⟨S8x2048x512, .f32⟩
  | 74 => ⟨S8x2048x512, .f32⟩
  | 75 => ⟨S_, .f32⟩
  | 76 => ⟨S_, .f32⟩
  | 77 => ⟨S8x2048x512, .f32⟩
  | 78 => ⟨S8x2048x512, .f32⟩
  | 79 => ⟨S_, .f32⟩
  | 80 => ⟨S8x2048x256, .f32⟩
  | 81 => ⟨S8x2048x256, .f32⟩
  | 82 => ⟨S8x2048x512, .f32⟩
  | 83 => ⟨S8x2048x512, .f32⟩
  | 84 => ⟨S_, .f32⟩
  | 85 => ⟨S8x2048x512, .f32⟩
  | 86 => ⟨S8x2048x512, .f32⟩
  | 87 => ⟨S_, .f32⟩
  | 88 => ⟨S8x2048x512, .f32⟩
  | 89 => ⟨S8x2048x512, .f32⟩
  | 90 => ⟨S8x2048x512, .f32⟩
  | 91 => ⟨S8x2048x512, .f32⟩
  | 92 => ⟨S8x2048x512, .f32⟩
  | 93 => ⟨S_, .f32⟩
  | 94 => ⟨S8x2048x512, .f32⟩
  | 95 => ⟨S8x2048x512, .f32⟩
  | 96 => ⟨S_, .f32⟩
  | 97 => ⟨S8x2048x512, .f32⟩
  | 98 => ⟨S8x2048x512, .f32⟩
  | 99 => ⟨S8x2048x512, .f32⟩
  | 100 => ⟨S8x2048x4096, .f32⟩
  | 101 => ⟨S8x2048x4096, .bf16⟩
  | 102 => ⟨S8x2048x1536, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_call0_cst : Ref sig .tc := ⟨.hbm, 59, rfl⟩
abbrev main_call0_call0_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_16 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call1_v0 : Ref sig .tc := ⟨.hbm, 146, rfl⟩
abbrev main_call1_call0_cst : Ref sig .tc := ⟨.hbm, 147, rfl⟩
abbrev main_call1_call0_v0 : Ref sig .tc := ⟨.hbm, 148, rfl⟩
abbrev main_call1_call0_v1 : Ref sig .tc := ⟨.hbm, 149, rfl⟩
abbrev main_call1_call0_v2 : Ref sig .tc := ⟨.hbm, 150, rfl⟩
abbrev main_call1_call0_v3 : Ref sig .tc := ⟨.hbm, 151, rfl⟩
abbrev main_call1_call0_v4 : Ref sig .tc := ⟨.hbm, 152, rfl⟩
abbrev main_call1_call0_v5 : Ref sig .tc := ⟨.hbm, 153, rfl⟩
abbrev main_call1_call0_v6 : Ref sig .tc := ⟨.hbm, 154, rfl⟩
abbrev main_call1_call0_v7 : Ref sig .tc := ⟨.hbm, 155, rfl⟩
abbrev main_call1_call0_v8 : Ref sig .tc := ⟨.hbm, 156, rfl⟩
abbrev main_call1_call0_v9 : Ref sig .tc := ⟨.hbm, 157, rfl⟩
abbrev main_call1_call0_v10 : Ref sig .tc := ⟨.hbm, 158, rfl⟩
abbrev main_call1_call0_v11 : Ref sig .tc := ⟨.hbm, 159, rfl⟩
abbrev main_call1_v1 : Ref sig .tc := ⟨.hbm, 160, rfl⟩
abbrev main_v118 : Ref sig .tc := ⟨.hbm, 161, rfl⟩
abbrev main_cst_18 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_call2_v0 : Ref sig .tc := ⟨.hbm, 175, rfl⟩
abbrev main_call2_call0_cst : Ref sig .tc := ⟨.hbm, 176, rfl⟩
abbrev main_call2_call0_v0 : Ref sig .tc := ⟨.hbm, 177, rfl⟩
abbrev main_call2_call0_v1 : Ref sig .tc := ⟨.hbm, 178, rfl⟩
abbrev main_call2_call0_v2 : Ref sig .tc := ⟨.hbm, 179, rfl⟩
abbrev main_call2_call0_v3 : Ref sig .tc := ⟨.hbm, 180, rfl⟩
abbrev main_call2_call0_v4 : Ref sig .tc := ⟨.hbm, 181, rfl⟩
abbrev main_call2_call0_v5 : Ref sig .tc := ⟨.hbm, 182, rfl⟩
abbrev main_call2_call0_v6 : Ref sig .tc := ⟨.hbm, 183, rfl⟩
abbrev main_call2_call0_v7 : Ref sig .tc := ⟨.hbm, 184, rfl⟩
abbrev main_call2_call0_v8 : Ref sig .tc := ⟨.hbm, 185, rfl⟩
abbrev main_call2_call0_v9 : Ref sig .tc := ⟨.hbm, 186, rfl⟩
abbrev main_call2_call0_v10 : Ref sig .tc := ⟨.hbm, 187, rfl⟩
abbrev main_call2_call0_v11 : Ref sig .tc := ⟨.hbm, 188, rfl⟩
abbrev main_call2_v1 : Ref sig .tc := ⟨.hbm, 189, rfl⟩
abbrev main_v131 : Ref sig .tc := ⟨.hbm, 190, rfl⟩
abbrev main_cst_19 : Ref sig .tc := ⟨.hbm, 191, rfl⟩
abbrev main_v132 : Ref sig .tc := ⟨.hbm, 192, rfl⟩
abbrev main_v133 : Ref sig .tc := ⟨.hbm, 193, rfl⟩
abbrev main_call3_v0 : Ref sig .tc := ⟨.hbm, 194, rfl⟩
abbrev main_call3_v1 : Ref sig .tc := ⟨.hbm, 195, rfl⟩
abbrev main_call3_cst : Ref sig .tc := ⟨.hbm, 196, rfl⟩
abbrev main_call3_v2 : Ref sig .tc := ⟨.hbm, 197, rfl⟩
abbrev main_call3_v3 : Ref sig .tc := ⟨.hbm, 198, rfl⟩
abbrev main_call3_cst_0 : Ref sig .tc := ⟨.hbm, 199, rfl⟩
abbrev main_call3_v4 : Ref sig .tc := ⟨.hbm, 200, rfl⟩
abbrev main_call3_v5 : Ref sig .tc := ⟨.hbm, 201, rfl⟩
abbrev main_v134 : Ref sig .tc := ⟨.hbm, 202, rfl⟩
abbrev main_cst_20 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_21 : Ref sig .tc := ⟨.hbm, 207, rfl⟩
abbrev main_v138 : Ref sig .tc := ⟨.hbm, 208, rfl⟩
abbrev main_v139 : Ref sig .tc := ⟨.hbm, 209, rfl⟩
abbrev main_call4_v0 : Ref sig .tc := ⟨.hbm, 210, rfl⟩
abbrev main_call4_v1 : Ref sig .tc := ⟨.hbm, 211, rfl⟩
abbrev main_call4_cst : Ref sig .tc := ⟨.hbm, 212, rfl⟩
abbrev main_call4_v2 : Ref sig .tc := ⟨.hbm, 213, rfl⟩
abbrev main_call4_v3 : Ref sig .tc := ⟨.hbm, 214, rfl⟩
abbrev main_call4_cst_0 : Ref sig .tc := ⟨.hbm, 215, rfl⟩
abbrev main_call4_v4 : Ref sig .tc := ⟨.hbm, 216, rfl⟩
abbrev main_call4_v5 : Ref sig .tc := ⟨.hbm, 217, rfl⟩
abbrev main_v140 : Ref sig .tc := ⟨.hbm, 218, rfl⟩
abbrev main_call5_v0 : Ref sig .tc := ⟨.hbm, 219, rfl⟩
abbrev main_call5_v1 : Ref sig .tc := ⟨.hbm, 220, rfl⟩
abbrev main_call5_cst : Ref sig .tc := ⟨.hbm, 221, rfl⟩
abbrev main_call5_v2 : Ref sig .tc := ⟨.hbm, 222, rfl⟩
abbrev main_call5_v3 : Ref sig .tc := ⟨.hbm, 223, rfl⟩
abbrev main_call5_cst_0 : Ref sig .tc := ⟨.hbm, 224, rfl⟩
abbrev main_call5_v4 : Ref sig .tc := ⟨.hbm, 225, rfl⟩
abbrev main_call5_v5 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩

abbrev nD : Nat := 1
abbrev τ : Topo := Topo.v7x

variable {F : FTy → Type} [FloatOps F]
-- ==== Proof.ExpertsFrameBits.lean ====
/- The experts' pipeline in machine arithmetic: every launch with a table in range runs to its end, leaves the arguments
   as they were and every semaphore at zero. Nothing is said of the result here. -/
module

public import proofs.«01_k».proof.Proof.ExpertsTablesBits

@[expose] public section

set_option maxRecDepth 16384

noncomputable section

namespace Cert.Proof.ExpertsBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, and nothing said of what a step leaves. -/
def rdat (h : InRange m) (c : Dev nD) : Pipeline.RDat τ (Elt F) Unit ℕ (UR sig nD τ) ℕ (Pipeline.pin (pcfgs (F := F)) (adm m h) 0) c where
  A w := V m c (Pipeline.arrRef spec0 w)
  after _ _ _ _ := True
  Φ _ := iprop(Pipeline.ΦA spec0 c ∗ Pipeline.ΦT pre0 (tbl m) c)
  q _ := fullShare
  owed _ := 0

/-- The tables' halves, table by table. -/
theorem tables_eq (c : Dev nD) : (Pipeline.ΦT pre0 (tbl m) c : sProp 𝕄)
    = iprop(owns (c : Thread nD τ) (Memref.whole main_arg0) fullShare.right (tbl m 0) ∗ owns (c : Thread nD τ) (Memref.whole main_arg1) fullShare.right (tbl m 1)
        ∗ owns (c : Thread nD τ) (Memref.whole main_arg2) fullShare.right (tbl m 2)) := by
  refine (bigSep_univ_eq_bigSepL [(0 : Fin 3), (1 : Fin 3), (2 : Fin 3)] (by decide) (by decide) _).trans ?_
  exact congrArg₂ (fun a b : sProp 𝕄 => iprop(a ∗ b)) (owns_whole (c : Thread nD τ) main_arg0 fullShare.right (tbl m 0)).symm
    (congrArg₂ (fun a b : sProp 𝕄 => iprop(a ∗ b)) (owns_whole (c : Thread nD τ) main_arg1 fullShare.right (tbl m 1)).symm
      (owns_whole (c : Thread nD τ) main_arg2 fullShare.right (tbl m 2)).symm)

/-- A one-word table reads the same word everywhere. -/
theorem one_word (nv : Vec F S1 .i32) (j j' : S1.Idx) : nv j = nv j' := by
  congr 1
  funext a
  match a with
  | ⟨0, _⟩ => exact Subsingleton.elim (α := Fin 1) _ _

/-- Every step of the pipeline runs from the buffers it is handed to buffers at some contents. -/
theorem body_obligation (h : InRange m) (c : Dev nD) : (rdat m h c).BodyObligation (defs₀ (F := F)) Variants.none () Set.univ := by
  intro t Y hY
  rw [bigSep_W0, bigSep_W0]
  unfold defs₀; rw [Defs.onTc_tc]
  rw [show (rdat m h c).Φ t.castSucc = iprop(Pipeline.ΦA spec0 c ∗ Pipeline.ΦT pre0 (tbl m) c) from rfl,
    show (rdat m h c).Φ t.succ = iprop(Pipeline.ΦA spec0 c ∗ Pipeline.ΦT pre0 (tbl m) c) from rfl, tables_eq]
  iintro ⟨⟨HA, HT0, HT1, HT2⟩, Ho, H0, H1, H2, H3, H4⟩
  iapply (runBody c (grid0.coords t) (Memref.whole main_arg0) (Memref.isWhole_whole _) (Memref.whole main_arg1) (Memref.isWhole_whole _)
    (Memref.whole main_arg2) (Memref.isWhole_whole _) _ _ _ _ _ _ _ _ _ _ (tbl m 2) (tbl m 2 (Shape.Idx.first (lt_of_lt_of_eq Nat.one_pos numel1_S1.symm)))
    (fun j => one_word _ _ _) (Y 0) (Y 1) (Y 2) (Y 3) fullShare.right (Y 4) Set.univ _)
  isplitl [HT2]; · iexact HT2
  isplitl [H0]; · iexact H0
  isplitl [H1]; · iexact H1
  isplitl [H2]; · iexact H2
  isplitl [H3]; · iexact H3
  isplitl [H4]; · iexact H4
  iintro ⟨HT2, H0, H1, H2, H3, H4⟩
  isplitl [HA HT0 HT1 HT2]
  · isplitl [HA]; · iexact HA
    isplitl [HT0]; · iexact HT0
    isplitl [HT1]; · iexact HT1
    iexact HT2
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  iexists _; isplitr; swap; · iexact H4
  ipureintro; trivial

/-- The host operations before the pipeline make no fresh buffer. -/
theorem hostOps0_fresh : (hostOps0 : List (HloOp τ sig (Elt F))).Forall fun op => op.fresh = ∅ := ⟨rfl, rfl, rfl⟩

set_option backward.isDefEq.respectTransparency.types false in
/-- The launch: it ends, with the arrays as the proof data say and every semaphore at zero. -/
theorem run (h : InRange m) : θ_run defs (onTc (τ := τ) (main (F := F))) (s₀ m ρ) (fun r =>
    Pipeline.RDat.FramePost (Pipeline.pin (pcfgs (F := F)) (adm m h) 0) (rdat m h) (V m) r ∧ r.2.sem = fun _ => 0) :=
  Pipeline.RDat.θ_run_frameP (Q' := _) pcfgs (adm m h) (0 : Fin 1) launch0 defs₀ Variants.none (rdat m h) m ρ main
    (hbody := body_obligation m h) (hshare := fun c w => by unfold Pipeline.RDat.share; split <;> rfl) (howed := fun _ _ => rfl) (V := V m)
    (hmain := Pipeline.hmainP_prefix pcfgs 0 defs₀ Variants.none m main hostOps0 hostOps0_sub hostOps0_fresh main_chain)
    (hA := fun _ _ => rfl) (hpf := fun c k => by obtain rfl : c = 0 := Subsingleton.elim (α := Fin 1) _ _; rfl) (hΦ := fun _ _ => rfl)

/-- The frame: a launch with its table in range ends, its arguments as they were, its semaphores at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (hr : _ ∧ _) => ⟨fun c => by
    have hrest := (hr.1 c).2
    have hin := hr.1.arr_in c (0 : Fin 5) rfl
    refine ⟨(hrest main_arg0 ?_).trans (V_of_ne m c _ (by decide) (by decide) (by decide)), (hrest main_arg1 ?_).trans (V_of_ne m c _ (by decide) (by decide) (by decide)),
      (hrest main_arg2 ?_).trans (V_of_ne m c _ (by decide) (by decide) (by decide)), hin.trans (V_of_ne m c main_arg3 (by decide) (by decide) (by decide)),
      (hrest main_arg4 ?_).trans (V_of_ne m c _ (by decide) (by decide) (by decide)), (hrest main_arg5 ?_).trans (V_of_ne m c _ (by decide) (by decide) (by decide)),
      (hrest main_arg6 ?_).trans (V_of_ne m c _ (by decide) (by decide) (by decide))⟩
    all_goals exact Pipeline.mem_restRefs_of (win := spec0) _ (by decide) (by decide), hr.2⟩) (run m ρ h)

end Cert.Proof.ExpertsBits

end
-- ==== Proof.ExpertsBody.lean ====
/- What one run of the experts' body does with the buffers it is handed. -/
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows of the block, with the block's leading axis dropped. -/
def blockRows (x : Vec F S1x512x1024 .bf16) : FVec F S512x1024 .bf16 :=
  k0_pay1 (View.ld x (Rect.unit (s := S1x512x1024) ![0, 0, 0] S1x512x1024.size inb_S1x512x1024_S1x512x1024_0_0_0))

/-- The sum over the first two column groups of the hidden layer. -/
def part2 (x : Vec F S1x512x1024 .bf16) (wg wu : Vec F S1x1024x2816 .bf16) (wd : Vec F S1x2816x1024 .bf16) : FVec F S512x1024 .f32 :=
  k0_pay2 (View.ld x (Rect.unit (s := S1x512x1024) ![0, 0, 0] S1x512x1024.size inb_S1x512x1024_S1x512x1024_0_0_0))
    (View.ld wg (Rect.unit (s := S1x1024x2816) ![0, 0, 0] S1x1024x256.size inb_S1x1024x2816_S1x1024x256_0_0_0)) (View.ld wu (Rect.unit (s := S1x1024x2816) ![0, 0, 0] S1x1024x256.size inb_S1x1024x2816_S1x1024x256_0_0_0)) (View.ld wd (Rect.unit (s := S1x2816x1024) ![0, 0, 0] S1x256x1024.size inb_S1x2816x1024_S1x256x1024_0_0_0))
    (View.ld wg (Rect.unit (s := S1x1024x2816) ![0, 0, 256] S1x1024x256.size inb_S1x1024x2816_S1x1024x256_0_0_256)) (View.ld wu (Rect.unit (s := S1x1024x2816) ![0, 0, 256] S1x1024x256.size inb_S1x1024x2816_S1x1024x256_0_0_256)) (View.ld wd (Rect.unit (s := S1x2816x1024) ![0, 256, 0] S1x256x1024.size inb_S1x2816x1024_S1x256x1024_0_256_0))

/-- The sum over the first four column groups. -/
def part4 (x : Vec F S1x512x1024 .bf16) (wg wu : Vec F S1x1024x2816 .bf16) (wd : Vec F S1x2816x1024 .bf16) : FVec F S512x1024 .f32 :=
  k0_pay3 (blockRows x) (part2 x wg wu wd)
    (View.ld wg (Rect.unit (s := S1x1024x2816) ![0, 0, 512] S1x1024x256.size inb_S1x1024x2816_S1x1024x256_0_0_512)) (View.ld wu (Rect.unit (s := S1x1024x2816) ![0, 0, 512] S1x1024x256.size inb_S1x1024x2816_S1x1024x256_0_0_512)) (View.ld wd (Rect.unit (s := S1x2816x1024) ![0, 512, 0] S1x256x1024.size inb_S1x2816x1024_S1x256x1024_0_512_0))
    (View.ld wg (Rect.unit (s := S1x1024x2816) ![0, 0, 768] S1x1024x256.size inb_S1x1024x2816_S1x1024x256_0_0_768)) (View.ld wu (Rect.unit (s := S1x1024x2816) ![0, 0, 768] S1x1024x256.size inb_S1x1024x2816_S1x1024x256_0_0_768)) (View.ld wd (Rect.unit (s := S1x2816x1024) ![0, 768, 0] S1x256x1024.size inb_S1x2816x1024_S1x256x1024_0_768_0))

/-- The sum over the first six column groups. -/
def part6 (x : Vec F S1x512x1024 .bf16) (wg wu : Vec F S1x1024x2816 .bf16) (wd : Vec F S1x2816x1024 .bf16) : FVec F S512x1024 .f32 :=
  k0_pay5 (blockRows x) (part4 x wg wu wd) (k0_pay4 (blockRows x) (View.ld wg (Rect.unit (s := S1x1024x2816) ![0, 0, 1024] S1x1024x256.size inb_S1x1024x2816_S1x1024x256_0_0_1024)))
    (View.ld wu (Rect.unit (s := S1x1024x2816) ![0, 0, 1024] S1x1024x256.size inb_S1x1024x2816_S1x1024x256_0_0_1024)) (View.ld wd (Rect.unit (s := S1x2816x1024) ![0, 1024, 0] S1x256x1024.size inb_S1x2816x1024_S1x256x1024_0_1024_0))
    (View.ld wg (Rect.unit (s := S1x1024x2816) ![0, 0, 1280] S1x1024x256.size inb_S1x1024x2816_S1x1024x256_0_0_1280)) (View.ld wu (Rect.unit (s := S1x1024x2816) ![0, 0, 1280] S1x1024x256.size inb_S1x1024x2816_S1x1024x256_0_0_1280)) (View.ld wd (Rect.unit (s := S1x2816x1024) ![0, 1280, 0] S1x256x1024.size inb_S1x2816x1024_S1x256x1024_0_1280_0))

/-- The sum over the first eight column groups. -/
def part8 (x : Vec F S1x512x1024 .bf16) (wg wu : Vec F S1x1024x2816 .bf16) (wd : Vec F S1x2816x1024 .bf16) : FVec F S512x1024 .f32 :=
  k0_pay7 (blockRows x) (part6 x wg wu wd) (k0_pay6 (blockRows x) (View.ld wg (Rect.unit (s := S1x1024x2816) ![0, 0, 1536] S1x1024x256.size inb_S1x1024x2816_S1x1024x256_0_0_1536)) (View.ld wu (Rect.unit (s := S1x1024x2816) ![0, 0, 1536] S1x1024x256.size inb_S1x1024x2816_S1x1024x256_0_0_1536)))
    (View.ld wd (Rect.unit (s := S1x2816x1024) ![0, 1536, 0] S1x256x1024.size inb_S1x2816x1024_S1x256x1024_0_1536_0))
    (View.ld wg (Rect.unit (s := S1x1024x2816) ![0, 0, 1792] S1x1024x256.size inb_S1x1024x2816_S1x1024x256_0_0_1792)) (View.ld wu (Rect.unit (s := S1x1024x2816) ![0, 0, 1792] S1x1024x256.size inb_S1x1024x2816_S1x1024x256_0_0_1792)) (View.ld wd (Rect.unit (s := S1x2816x1024) ![0, 1792, 0] S1x256x1024.size inb_S1x2816x1024_S1x256x1024_0_1792_0))

/-- What the body leaves in the output block at a valid entry: the sum over all eleven column groups, rounded to the
    block's own type. -/
def blockOut (x : Vec F S1x512x1024 .bf16) (wg wu : Vec F S1x1024x2816 .bf16) (wd : Vec F S1x2816x1024 .bf16) : Vec F S1x512x1024 .bf16 :=
  k0_pay9 (blockRows x) (part8 x wg wu wd)
    (k0_pay8 (blockRows x) (View.ld wg (Rect.unit (s := S1x1024x2816) ![0, 0, 2048] S1x1024x256.size inb_S1x1024x2816_S1x1024x256_0_0_2048)) (View.ld wu (Rect.unit (s := S1x1024x2816) ![0, 0, 2048] S1x1024x256.size inb_S1x1024x2816_S1x1024x256_0_0_2048)) (View.ld wd (Rect.unit (s := S1x2816x1024) ![0, 2048, 0] S1x256x1024.size inb_S1x2816x1024_S1x256x1024_0_2048_0)))
    (View.ld wg (Rect.unit (s := S1x1024x2816) ![0, 0, 2304] S1x1024x256.size inb_S1x1024x2816_S1x1024x256_0_0_2304)) (View.ld wu (Rect.unit (s := S1x1024x2816) ![0, 0, 2304] S1x1024x256.size inb_S1x1024x2816_S1x1024x256_0_0_2304)) (View.ld wd (Rect.unit (s := S1x2816x1024) ![0, 2304, 0] S1x256x1024.size inb_S1x2816x1024_S1x256x1024_0_2304_0))
    (View.ld wg (Rect.unit (s := S1x1024x2816) ![0, 0, 2560] S1x1024x256.size inb_S1x1024x2816_S1x1024x256_0_0_2560)) (View.ld wu (Rect.unit (s := S1x1024x2816) ![0, 0, 2560] S1x1024x256.size inb_S1x1024x2816_S1x1024x256_0_0_2560)) (View.ld wd (Rect.unit (s := S1x2816x1024) ![0, 2560, 0] S1x256x1024.size inb_S1x2816x1024_S1x256x1024_0_2560_0))

set_option maxHeartbeats 1000000 in
/-- The body runs to its end and hands back the four input blocks as they were. Where the step's number is below the
    count of valid entries it leaves `blockOut` of the four blocks in the output block, elsewhere the output block as
    it was. -/
theorem runBody (c : Dev nD) (i : grid0.Coords)
    (M1 : Memref sig .tc .smem S80 .i32) (h1 : M1.IsWhole) (M2 : Memref sig .tc .smem S80 .i32) (h2 : M2.IsWhole) (M3 : Memref sig .tc .smem S1 .i32) (h3 : M3.IsWhole)
    (M4 : Memref sig .tc .vmem S1x512x1024 .bf16) (h4 : M4.IsWhole) (M5 : Memref sig .tc .vmem S1x1024x2816 .bf16) (h5 : M5.IsWhole)
    (M6 : Memref sig .tc .vmem S1x1024x2816 .bf16) (h6 : M6.IsWhole) (M7 : Memref sig .tc .vmem S1x2816x1024 .bf16) (h7 : M7.IsWhole)
    (M8 : Memref sig .tc .vmem S1x512x1024 .bf16) (h8 : M8.IsWhole) (nv : Vec F S1 .i32) (n : Elt F .i32) (hn : ∀ j, nv j = n)
    (x : Vec F S1x512x1024 .bf16) (wg : Vec F S1x1024x2816 .bf16) (wu : Vec F S1x1024x2816 .bf16) (wd : Vec F S1x2816x1024 .bf16) (q : PosShare TreeShare)
    (d : Vec F S1x512x1024 .bf16) (E : Set ℕ) (K : PUnit → sProp 𝕄) :
    iprop(owns (c : Thread nD τ) M3 q nv ∗ owns (c : Thread nD τ) M4 fullShare x ∗ owns (c : Thread nD τ) M5 fullShare wg
        ∗ owns (c : Thread nD τ) M6 fullShare wu ∗ owns (c : Thread nD τ) M7 fullShare wd ∗ owns (c : Thread nD τ) M8 fullShare d
        ∗ (iprop(owns (c : Thread nD τ) M3 q nv ∗ owns (c : Thread nD τ) M4 fullShare x ∗ owns (c : Thread nD τ) M5 fullShare wg
            ∗ owns (c : Thread nD τ) M6 fullShare wu ∗ owns (c : Thread nD τ) M7 fullShare wd
            ∗ owns (c : Thread nD τ) M8 fullShare (if k0_cond1 i n = 1#1 then blockOut x wg wu wd else d)) -∗ K ⟨⟩))
      ⊢ wp frame (wpE (defs₀ (F := F)) Variants.none c none) E
          (cc0_l1_moe_experts i M1 h1 M2 h2 M3 h3 M4 h4 M5 h5 M6 h6 M7 h7 M8 h8) K := by
  simp only [cc0_l1_moe_experts_eq_skeleton]; unfold cc0_l1_moe_experts_skel
  simp only [k0_part1_eq_skeleton, k0_part2_eq_skeleton, k0_part3_eq_skeleton, k0_part4_eq_skeleton, k0_part5_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  sl_exec
  sl_step
  iapply Hk
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  iexists _; isplitr; swap; · iexact H8
  ipureintro
  have hr : runBody.sl.r c M3 f3 = n := hn _
  rw [hr]
  split
  · exact View.read_writes_full _ _ _ _ _
  · rfl

end Cert.Proof.Experts

end
-- ==== Proof.ExpertsTables.lean ====
/- The tables the experts' pipeline reads, and the arrays' contents when it is entered. -/
module

public import proofs.«01_k».proof.Proof.ExpertsBody

@[expose] public section

set_option maxRecDepth 16384

noncomputable section

namespace Cert.Proof.Experts

open Cert.KernelIdeal Cert.KernelIdeal.Gen
open Idealize.ShloMosaic Idealize.ShloMosaic.TcCoe
open Idealize.SL Idealize.SL.Sem

variable {F : FTy → Type} [FloatOps F]

/-- An entry's block along the first two axes lies in the array, and its transfer moves whole words, as soon as the
    expert's number is below eight and the block's number below thirty-three. -/
theorem rowsBlock_ok (e b : ℕ) (he : e < 8) (hb : b < 33) :
    ∃ h : (∀ a, ((![e, b, 0] : Fin 3 → ℕ) a + 1) * S1x512x1024.size a ≤ S8x16896x1024.size a), EltTy.bits .bf16 = 32 ∨ (Rect.block (s := S8x16896x1024) S1x512x1024.size ![e, b, 0] h).WholeWords (EltTy.packing .bf16) := by
  refine ⟨fun a => ?_, .inr (.inl (.inr ⟨by decide, rfl, .inl ⟨?_, ?_⟩⟩))⟩
  · match a with
    | ⟨0, _⟩ => show (e + 1) * 1 ≤ 8; omega
    | ⟨1, _⟩ => show (b + 1) * 512 ≤ 16896; omega
    | ⟨2, _⟩ => show (0 + 1) * 1024 ≤ 1024; omega
  · show 2 ∣ b * 512; omega
  · show 2 ∣ 512; omega

/-- The first two weight arrays' blocks: the whole matrix of one expert. -/
theorem upBlock_ok (e : ℕ) (he : e < 8) :
    ∃ h : (∀ a, ((![e, 0, 0] : Fin 3 → ℕ) a + 1) * S1x1024x2816.size a ≤ S8x1024x2816.size a), EltTy.bits .bf16 = 32 ∨ (Rect.block (s := S8x1024x2816) S1x1024x2816.size ![e, 0, 0] h).WholeWords (EltTy.packing .bf16) := by
  refine ⟨fun a => ?_, .inr (.inl (.inr ⟨by decide, rfl, .inl ⟨?_, ?_⟩⟩))⟩
  · match a with
    | ⟨0, _⟩ => show (e + 1) * 1 ≤ 8; omega
    | ⟨1, _⟩ => show (0 + 1) * 1024 ≤ 1024; omega
    | ⟨2, _⟩ => show (0 + 1) * 2816 ≤ 2816; omega
  · show 2 ∣ 0 * 1024; omega
  · show 2 ∣ 1024; omega

/-- The third weight array's blocks. -/
theorem downBlock_ok (e : ℕ) (he : e < 8) :
    ∃ h : (∀ a, ((![e, 0, 0] : Fin 3 → ℕ) a + 1) * S1x2816x1024.size a ≤ S8x2816x1024.size a), EltTy.bits .bf16 = 32 ∨ (Rect.block (s := S8x2816x1024) S1x2816x1024.size ![e, 0, 0] h).WholeWords (EltTy.packing .bf16) := by
  refine ⟨fun a => ?_, .inr (.inl (.inr ⟨by decide, rfl, .inl ⟨?_, ?_⟩⟩))⟩
  · match a with
    | ⟨0, _⟩ => show (e + 1) * 1 ≤ 8; omega
    | ⟨1, _⟩ => show (0 + 1) * 2816 ≤ 2816; omega
    | ⟨2, _⟩ => show (0 + 1) * 1024 ≤ 1024; omega
  · show 2 ∣ 0 * 2816; omega
  · show 2 ∣ 2816; omega

variable (m : (ℓ : Loc nD τ sig) → Buf (Elt F) ℓ)

/-- A core's buffers when the pipeline is entered: the launch memory with the three weight arrays cast. -/
abbrev V (c : Dev nD) (b : Ref sig .tc) : Buf (Elt F) ((c : Thread nD τ).loc b) := StableHlo.after hostOps0 (fun b => m (c, b)) b

/-- A buffer that is no cast's result is as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The three tables' contents when the pipeline is entered. -/
def tbl : pre0.Contents (Elt F) := fun k => V m 0 (pre0.ref k)

/-- The expert an entry names. -/
def eid (t : S80.Idx) : BitVec 32 := m (((0 : Dev nD) : Thread nD τ).loc main_arg0) t
/-- The block of that expert's rows an entry names. -/
def blk (t : S80.Idx) : BitVec 32 := m (((0 : Dev nD) : Thread nD τ).loc main_arg1) t

/-- Entry `i`'s place in a table. -/
abbrev ent (i : grid0.Coords) : S80.Idx := fun a => ⟨(i 0).val, match a with | ⟨0, _⟩ => (i 0).isLt⟩

theorem tbl_0 (x : S80.Idx) : tbl m 0 x = eid m x := congrFun (V_of_ne m 0 main_arg0 (by decide) (by decide) (by decide)) x
theorem tbl_1 (x : S80.Idx) : tbl m 1 x = blk m x := congrFun (V_of_ne m 0 main_arg1 (by decide) (by decide) (by decide)) x

/-- What an index map reads of a table at entry `i`. -/
theorem tbl_at0 (i : grid0.Coords) :
    (tbl m).at 0 (Rect.unit (s := S80) (k0_off1 i) S1.size (k0_off1_inb i)) numel1_S1 = eid m (ent i) := by
  refine (tbl_0 m ((Rect.unit (s := S80) (k0_off1 i) S1.size (k0_off1_inb i)).emb (Shape.Idx.first (lt_of_lt_of_eq Nat.one_pos numel1_S1.symm)))).trans (congrArg (eid m) ?_)
  funext a
  match a with
  | ⟨0, _⟩ => exact Fin.ext (congrFun (k0_off1_eq i) 0)

theorem tbl_at1 (i : grid0.Coords) :
    (tbl m).at 1 (Rect.unit (s := S80) (k0_off1 i) S1.size (k0_off1_inb i)) numel1_S1 = blk m (ent i) := by
  refine (tbl_1 m ((Rect.unit (s := S80) (k0_off1 i) S1.size (k0_off1_inb i)).emb (Shape.Idx.first (lt_of_lt_of_eq Nat.one_pos numel1_S1.symm)))).trans (congrArg (blk m) ?_)
  funext a
  match a with
  | ⟨0, _⟩ => exact Fin.ext (congrFun (k0_off1_eq i) 0)

/-- The five index maps at the launch's tables: the rows' windows take the entry's expert and block, the weights' windows the entry's expert. -/
theorem ix_0 (i : grid0.Coords) : ix0 (tbl m) 0 i = ![(eid m (ent i)).toNat, (blk m (ent i)).toNat, 0] := by
  exact congrArg₂ (fun e b : BitVec 32 => ![e.toNat, b.toNat, 0]) (tbl_at0 m i) (tbl_at1 m i)
theorem ix_1 (i : grid0.Coords) : ix0 (tbl m) 1 i = ![(eid m (ent i)).toNat, 0, 0] := by
  exact congrArg (fun e : BitVec 32 => ![e.toNat, 0, 0]) (tbl_at0 m i)
theorem ix_2 (i : grid0.Coords) : ix0 (tbl m) 2 i = ![(eid m (ent i)).toNat, 0, 0] := by
  exact congrArg (fun e : BitVec 32 => ![e.toNat, 0, 0]) (tbl_at0 m i)
theorem ix_3 (i : grid0.Coords) : ix0 (tbl m) 3 i = ![(eid m (ent i)).toNat, 0, 0] := by
  exact congrArg (fun e : BitVec 32 => ![e.toNat, 0, 0]) (tbl_at0 m i)
theorem ix_4 (i : grid0.Coords) : ix0 (tbl m) 4 i = ![(eid m (ent i)).toNat, (blk m (ent i)).toNat, 0] := by
  exact congrArg₂ (fun e b : BitVec 32 => ![e.toNat, b.toNat, 0]) (tbl_at0 m i) (tbl_at1 m i)

/-- The launch's entries are in range: eight experts, thirty-three blocks of rows each. -/
def InRange : Prop := ∀ t, (eid m t).toNat < 8 ∧ (blk m t).toNat < 33

/-- Entries in range meet the pipeline's side condition: every block lies in its array and moves in whole words. -/
theorem ok_of_inRange (h : InRange m) : ok0 (tbl m) := by
  unfold ok0
  refine ⟨fun i => ?_, fun i => ?_, fun i => ?_, fun i => ?_, fun i => ?_⟩
  · have e : cc0_transform_0 k0_off1_inb numel1_S1 (tbl m) i = _ := ix_0 m i
    rw [e]; exact rowsBlock_ok _ _ (h _).1 (h _).2
  · have e : cc0_transform_1 k0_off1_inb numel1_S1 (tbl m) i = _ := ix_1 m i
    rw [e]; exact upBlock_ok _ (h _).1
  · have e : cc0_transform_2 k0_off1_inb numel1_S1 (tbl m) i = _ := ix_2 m i
    rw [e]; exact upBlock_ok _ (h _).1
  · have e : cc0_transform_3 k0_off1_inb numel1_S1 (tbl m) i = _ := ix_3 m i
    rw [e]; exact downBlock_ok _ (h _).1
  · have e : cc0_transform_4 k0_off1_inb numel1_S1 (tbl m) i = _ := ix_4 m i
    rw [e]; exact rowsBlock_ok _ _ (h _).1 (h _).2

/-- The tables as the pipeline takes them. -/
def adm (h : InRange m) : (p : Fin 1) → (pcfgs (F := F) p).Adm := fun _ => ⟨tbl m, ok_of_inRange m h⟩

end Cert.Proof.Experts

end
-- ==== Proof.ExpertsRun.lean ====
/- The experts' pipeline in ideal arithmetic: every launch with a table in range runs to its end, leaves the arguments as
   they were and every semaphore at zero, and a step whose entry counts leaves its expert's block of results. -/
module

public import proofs.«01_k».proof.Proof.ExpertsTables
public import Idealize.ShloMosaic.Lib.Pipeline.Value
public import Idealize.ShloMosaic.Lib.Pipeline.FrameBody

@[expose] public section

set_option maxRecDepth 16384

noncomputable section

namespace Cert.Proof.Experts

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Entry `t`'s expert, and its block of rows. -/
def eOf (h : InRange m) (t : S80.Idx) : Fin 8 := ⟨(eid m t).toNat, (h t).1⟩
def bOf (h : InRange m) (t : S80.Idx) : Fin 33 := ⟨(blk m t).toNat, (h t).2⟩

/-- Row `r` of block `b` of expert `e`'s rows, in the array of rows. -/
abbrev rowIx (e : Fin 8) (b : Fin 33) (j : S1x512x1024.Idx) : S8x16896x1024.Idx := fun a =>
  ⟨(![e.val, b.val * 512 + (j 1).val, (j 2).val] : Fin 3 → ℕ) a, by
    have h1 : (j 1).val < 512 := (j 1).isLt
    have h2 : (j 2).val < 1024 := (j 2).isLt
    match a with
    | ⟨0, _⟩ => exact e.isLt
    | ⟨1, _⟩ => show b.val * 512 + (j 1).val < 16896; omega
    | ⟨2, _⟩ => exact h2⟩

/-- Expert `e`'s part of an array that holds one matrix for each expert. -/
abbrev upIx (e : Fin 8) (j : S1x1024x2816.Idx) : S8x1024x2816.Idx := fun a =>
  ⟨(![e.val, (j 1).val, (j 2).val] : Fin 3 → ℕ) a, by
    match a with
    | ⟨0, _⟩ => exact e.isLt
    | ⟨1, _⟩ => exact (j 1).isLt
    | ⟨2, _⟩ => exact (j 2).isLt⟩
abbrev downIx (e : Fin 8) (j : S1x2816x1024.Idx) : S8x2816x1024.Idx := fun a =>
  ⟨(![e.val, (j 1).val, (j 2).val] : Fin 3 → ℕ) a, by
    match a with
    | ⟨0, _⟩ => exact e.isLt
    | ⟨1, _⟩ => exact (j 1).isLt
    | ⟨2, _⟩ => exact (j 2).isLt⟩

/-- The four input blocks of an entry of expert `e` and block `b`. -/
def rowsBlk (c : Dev nD) (e : Fin 8) (b : Fin 33) : Vec F S1x512x1024 .bf16 := fun j => V m c main_arg3 (rowIx e b j)
def gateBlk (c : Dev nD) (e : Fin 8) : Vec F S1x1024x2816 .bf16 := fun j => V m c main_v0 (upIx e j)
def upBlk (c : Dev nD) (e : Fin 8) : Vec F S1x1024x2816 .bf16 := fun j => V m c main_v1 (upIx e j)
def downBlk (c : Dev nD) (e : Fin 8) : Vec F S1x2816x1024 .bf16 := fun j => V m c main_v2 (downIx e j)

/-- The block of results of expert `e` and block `b`. -/
def outBlk (c : Dev nD) (e : Fin 8) (b : Fin 33) : Vec F S1x512x1024 .bf16 :=
  blockOut (rowsBlk m c e b) (gateBlk m c e) (upBlk m c e) (downBlk m c e)

/-- The number of entries that count. -/
def cnt : BitVec 32 := tbl m 2 (Shape.Idx.first (lt_of_lt_of_eq Nat.one_pos numel1_S1.symm))

/-- What a step leaves in a window's buffer it finds at `Y`: an input's as it was; the result's block, computed when the
    entry counts and otherwise as it was. -/
def leaves (h : InRange m) (c : Dev nD) (w : Fin 5) (t : Fin grid0.N) : (Y X : (spec0 w).block.Idx → Elt F (spec0 w).elt) → Prop :=
  match w with
  | ⟨0, _⟩ | ⟨1, _⟩ | ⟨2, _⟩ | ⟨3, _⟩ => fun Y X => X = Y
  | ⟨4, _⟩ => fun Y X => X = if k0_cond1 (grid0.coords t) (cnt m) = 1#1 then outBlk m c (eOf m h (ent (grid0.coords t))) (bOf m h (ent (grid0.coords t))) else Y

/-- The pipeline's proof data: the arrays as the region finds them, and what a step leaves. -/
def rdat (h : InRange m) (c : Dev nD) : Pipeline.RDat τ (Elt F) Unit ℕ (UR sig nD τ) ℕ (Pipeline.pin (pcfgs (F := F)) (adm m h) 0) c where
  A w := V m c (Pipeline.arrRef spec0 w)
  after w t Y X := leaves m h c w t Y X
  Φ _ := iprop(Pipeline.ΦA spec0 c ∗ Pipeline.ΦT pre0 (tbl m) c)
  q _ := fullShare
  owed _ := 0

/-- What an input's window holds at a step: its entry's block. -/
theorem fetched_0 (h : InRange m) (c : Dev nD) (t : Fin grid0.N) (d) :
    (rdat m h c).fetched 0 t d = rowsBlk m c (eOf m h (ent (grid0.coords t))) (bOf m h (ent (grid0.coords t))) := by
  funext (j : S1x512x1024.Idx)
  refine (show (rdat m h c).fetched 0 t d j = V m c main_arg3 ((((Pipeline.pin (pcfgs (F := F)) (adm m h) 0).win 0).blk t).view.emb j) from rfl).trans ?_
  refine congrArg (V m c main_arg3) (funext fun a => Fin.ext ?_)
  refine (Pipeline.Window.rect_emb_val ((Pipeline.pin (pcfgs (F := F)) (adm m h) 0).win 0) t j a rfl).trans ?_
  refine (congrArg (fun e : Fin 3 → ℕ => e a * _ + _) (ix_0 m (grid0.coords t))).trans ?_
  match a with
  | ⟨0, _⟩ => show (eid m (ent (grid0.coords t))).toNat * 1 + (j 0).val = (eid m (ent (grid0.coords t))).toNat; have h0 : (j 0).val < 1 := (j 0).isLt; omega
  | ⟨1, _⟩ => rfl
  | ⟨2, _⟩ => show 0 * 1024 + (j 2).val = (j 2).val; omega
theorem fetched_1 (h : InRange m) (c : Dev nD) (t : Fin grid0.N) (d) :
    (rdat m h c).fetched 1 t d = gateBlk m c (eOf m h (ent (grid0.coords t))) := by
  funext (j : S1x1024x2816.Idx)
  refine (show (rdat m h c).fetched 1 t d j = V m c main_v0 ((((Pipeline.pin (pcfgs (F := F)) (adm m h) 0).win 1).blk t).view.emb j) from rfl).trans ?_
  refine congrArg (V m c main_v0) (funext fun a => Fin.ext ?_)
  refine (Pipeline.Window.rect_emb_val ((Pipeline.pin (pcfgs (F := F)) (adm m h) 0).win 1) t j a rfl).trans ?_
  refine (congrArg (fun e : Fin 3 → ℕ => e a * _ + _) (ix_1 m (grid0.coords t))).trans ?_
  match a with
  | ⟨0, _⟩ => show (eid m (ent (grid0.coords t))).toNat * 1 + (j 0).val = (eid m (ent (grid0.coords t))).toNat; have h0 : (j 0).val < 1 := (j 0).isLt; omega
  | ⟨1, _⟩ => show 0 * 1024 + (j 1).val = (j 1).val; omega
  | ⟨2, _⟩ => show 0 * 2816 + (j 2).val = (j 2).val; omega
theorem fetched_2 (h : InRange m) (c : Dev nD) (t : Fin grid0.N) (d) :
    (rdat m h c).fetched 2 t d = upBlk m c (eOf m h (ent (grid0.coords t))) := by
  funext (j : S1x1024x2816.Idx)
  refine (show (rdat m h c).fetched 2 t d j = V m c main_v1 ((((Pipeline.pin (pcfgs (F := F)) (adm m h) 0).win 2).blk t).view.emb j) from rfl).trans ?_
  refine congrArg (V m c main_v1) (funext fun a => Fin.ext ?_)
  refine (Pipeline.Window.rect_emb_val ((Pipeline.pin (pcfgs (F := F)) (adm m h) 0).win 2) t j a rfl).trans ?_
  refine (congrArg (fun e : Fin 3 → ℕ => e a * _ + _) (ix_2 m (grid0.coords t))).trans ?_
  match a with
  | ⟨0, _⟩ => show (eid m (ent (grid0.coords t))).toNat * 1 + (j 0).val = (eid m (ent (grid0.coords t))).toNat; have h0 : (j 0).val < 1 := (j 0).isLt; omega
  | ⟨1, _⟩ => show 0 * 1024 + (j 1).val = (j 1).val; omega
  | ⟨2, _⟩ => show 0 * 2816 + (j 2).val = (j 2).val; omega
theorem fetched_3 (h : InRange m) (c : Dev nD) (t : Fin grid0.N) (d) :
    (rdat m h c).fetched 3 t d = downBlk m c (eOf m h (ent (grid0.coords t))) := by
  funext (j : S1x2816x1024.Idx)
  refine (show (rdat m h c).fetched 3 t d j = V m c main_v2 ((((Pipeline.pin (pcfgs (F := F)) (adm m h) 0).win 3).blk t).view.emb j) from rfl).trans ?_
  refine congrArg (V m c main_v2) (funext fun a => Fin.ext ?_)
  refine (Pipeline.Window.rect_emb_val ((Pipeline.pin (pcfgs (F := F)) (adm m h) 0).win 3) t j a rfl).trans ?_
  refine (congrArg (fun e : Fin 3 → ℕ => e a * _ + _) (ix_3 m (grid0.coords t))).trans ?_
  match a with
  | ⟨0, _⟩ => show (eid m (ent (grid0.coords t))).toNat * 1 + (j 0).val = (eid m (ent (grid0.coords t))).toNat; have h0 : (j 0).val < 1 := (j 0).isLt; omega
  | ⟨1, _⟩ => show 0 * 2816 + (j 1).val = (j 1).val; omega
  | ⟨2, _⟩ => show 0 * 1024 + (j 2).val = (j 2).val; omega

/-- An input's window holds its entry's block wherever the body is handed it, fetched there or not. -/
theorem finds_in (h : InRange m) (c : Dev nD) (w : Fin 5) (hw : (spec0 w).isOut = false) (hkeep : ∀ t Y X, leaves m h c w t Y X → X = Y)
    (t : Fin grid0.N) (Y) (hY : (rdat m h c).Finds w t Y) : ∃ d, Y = (rdat m h c).fetched w t d :=
  Pipeline.RDat.finds_in_eq_fetched (rdat m h c) w hw (fun _ _ _ => rfl) hkeep t Y hY

/-- The tables' halves, table by table. -/
theorem tables_eq (c : Dev nD) : (Pipeline.ΦT pre0 (tbl m) c : sProp 𝕄)
    = iprop(owns (c : Thread nD τ) (Memref.whole main_arg0) fullShare.right (tbl m 0) ∗ owns (c : Thread nD τ) (Memref.whole main_arg1) fullShare.right (tbl m 1)
        ∗ owns (c : Thread nD τ) (Memref.whole main_arg2) fullShare.right (tbl m 2)) := by
  refine (bigSep_univ_eq_bigSepL [(0 : Fin 3), (1 : Fin 3), (2 : Fin 3)] (by decide) (by decide) _).trans ?_
  exact congrArg₂ (fun a b : sProp 𝕄 => iprop(a ∗ b)) (owns_whole (c : Thread nD τ) main_arg0 fullShare.right (tbl m 0)).symm
    (congrArg₂ (fun a b : sProp 𝕄 => iprop(a ∗ b)) (owns_whole (c : Thread nD τ) main_arg1 fullShare.right (tbl m 1)).symm
      (owns_whole (c : Thread nD τ) main_arg2 fullShare.right (tbl m 2)).symm)

/-- A one-word table reads the same word everywhere. -/
theorem one_word (nv : Vec F S1 .i32) (j j' : S1.Idx) : nv j = nv j' := by
  congr 1
  funext a
  match a with
  | ⟨0, _⟩ => exact Subsingleton.elim (α := Fin 1) _ _

/-- What a step leaves in the result's buffer is the block computed from the entry's blocks, when the entry counts. -/
theorem stepLeaves (h : InRange m) (c : Dev nD) (t : Fin grid0.N) (x wg wu wd d)
    (e0 : x = rowsBlk m c (eOf m h (ent (grid0.coords t))) (bOf m h (ent (grid0.coords t)))) (e1 : wg = gateBlk m c (eOf m h (ent (grid0.coords t))))
    (e2 : wu = upBlk m c (eOf m h (ent (grid0.coords t)))) (e3 : wd = downBlk m c (eOf m h (ent (grid0.coords t)))) :
    leaves m h c 4 t d (if k0_cond1 (grid0.coords t) (cnt m) = 1#1 then blockOut x wg wu wd else d) := by
  subst e0 e1 e2 e3
  exact rfl

/-- Every step of the pipeline runs from the buffers it is handed to buffers at some contents. -/
theorem body_obligation (h : InRange m) (c : Dev nD) : (rdat m h c).BodyObligation (defs₀ (F := F)) Variants.none () Set.univ := by
  intro t Y hY
  obtain ⟨d0, e0⟩ := finds_in m h c 0 rfl (fun _ _ _ h => h) t (Y 0) (hY 0)
  obtain ⟨d1, e1⟩ := finds_in m h c 1 rfl (fun _ _ _ h => h) t (Y 1) (hY 1)
  obtain ⟨d2, e2⟩ := finds_in m h c 2 rfl (fun _ _ _ h => h) t (Y 2) (hY 2)
  obtain ⟨d3, e3⟩ := finds_in m h c 3 rfl (fun _ _ _ h => h) t (Y 3) (hY 3)
  have f0 := e0.trans (fetched_0 m h c t d0)
  have f1 := e1.trans (fetched_1 m h c t d1)
  have f2 := e2.trans (fetched_2 m h c t d2)
  have f3 := e3.trans (fetched_3 m h c t d3)
  rw [bigSep_W0, bigSep_W0]
  unfold defs₀; rw [Defs.onTc_tc]
  rw [show (rdat m h c).Φ t.castSucc = iprop(Pipeline.ΦA spec0 c ∗ Pipeline.ΦT pre0 (tbl m) c) from rfl,
    show (rdat m h c).Φ t.succ = iprop(Pipeline.ΦA spec0 c ∗ Pipeline.ΦT pre0 (tbl m) c) from rfl, tables_eq]
  iintro ⟨⟨HA, HT0, HT1, HT2⟩, Ho, H0, H1, H2, H3, H4⟩
  iapply (runBody c (grid0.coords t) (Memref.whole main_arg0) (Memref.isWhole_whole _) (Memref.whole main_arg1) (Memref.isWhole_whole _)
    (Memref.whole main_arg2) (Memref.isWhole_whole _) _ _ _ _ _ _ _ _ _ _ (tbl m 2) (tbl m 2 (Shape.Idx.first (lt_of_lt_of_eq Nat.one_pos numel1_S1.symm)))
    (fun j => one_word _ _ _) (Y 0) (Y 1) (Y 2) (Y 3) fullShare.right (Y 4) Set.univ _)
  isplitl [HT2]; · iexact HT2
  isplitl [H0]; · iexact H0
  isplitl [H1]; · iexact H1
  isplitl [H2]; · iexact H2
  isplitl [H3]; · iexact H3
  isplitl [H4]; · iexact H4
  iintro ⟨HT2, H0, H1, H2, H3, H4⟩
  isplitl [HA HT0 HT1 HT2]
  · isplitl [HA]; · iexact HA
    isplitl [HT0]; · iexact HT0
    isplitl [HT1]; · iexact HT1
    iexact HT2
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  iexists _; isplitr; swap; · iexact H4
  ipureintro; exact stepLeaves m h c t _ _ _ _ _ f0 f1 f2 f3

/-- The host operations before the pipeline make no fresh buffer. -/
theorem hostOps0_fresh : (hostOps0 : List (HloOp τ sig (Elt F))).Forall fun op => op.fresh = ∅ := ⟨rfl, rfl, rfl⟩

set_option backward.isDefEq.respectTransparency.types false in
/-- The launch: it ends, with the arrays as the proof data say and every semaphore at zero. -/
theorem run (h : InRange m) : θ_run defs (onTc (τ := τ) (main (F := F))) (s₀ m ρ) (fun r =>
    Pipeline.RDat.FramePost (Pipeline.pin (pcfgs (F := F)) (adm m h) 0) (rdat m h) (V m) r ∧ r.2.sem = fun _ => 0) :=
  Pipeline.RDat.θ_run_frameP (Q' := _) pcfgs (adm m h) (0 : Fin 1) launch0 defs₀ Variants.none (rdat m h) m ρ main
    (hbody := body_obligation m h) (hshare := fun c w => by unfold Pipeline.RDat.share; split <;> rfl) (howed := fun _ _ => rfl) (V := V m)
    (hmain := Pipeline.hmainP_prefix pcfgs 0 defs₀ Variants.none m main hostOps0 hostOps0_sub hostOps0_fresh main_chain)
    (hA := fun _ _ => rfl) (hpf := fun c k => by obtain rfl : c = 0 := Subsingleton.elim (α := Fin 1) _ _; rfl) (hΦ := fun _ _ => rfl)

/-- After a run the arguments are as they were. -/
theorem args_kept (h : InRange m) (r : PUnit × MemSt nD τ sig (Elt F))
    (hr : Pipeline.RDat.FramePost (Pipeline.pin (pcfgs (F := F)) (adm m h) 0) (rdat m h) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hrest := (hr c).2
  have hin := hr.arr_in c (0 : Fin 5) rfl
  refine ⟨(hrest main_arg0 ?_).trans (V_of_ne m c _ (by decide) (by decide) (by decide)), (hrest main_arg1 ?_).trans (V_of_ne m c _ (by decide) (by decide) (by decide)),
    (hrest main_arg2 ?_).trans (V_of_ne m c _ (by decide) (by decide) (by decide)), hin.trans (V_of_ne m c main_arg3 (by decide) (by decide) (by decide)),
    (hrest main_arg4 ?_).trans (V_of_ne m c _ (by decide) (by decide) (by decide)), (hrest main_arg5 ?_).trans (V_of_ne m c _ (by decide) (by decide) (by decide)),
    (hrest main_arg6 ?_).trans (V_of_ne m c _ (by decide) (by decide) (by decide))⟩
  all_goals exact Pipeline.mem_restRefs_of (win := spec0) _ (by decide) (by decide)

/-- The frame: a launch with its table in range ends, its arguments as they were, its semaphores at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (hr : _ ∧ _) => ⟨args_kept m h r hr.1, hr.2⟩) (run m ρ h)

end Cert.Proof.Experts

end
-- ==== Proof.Table.lean ====
/- The table's two conditions in plain words: what the precondition says of each entry, and what the mask says of each row. -/
module

public import proofs.«01_k».proof.Proof.Gen.Pre_block_table
public import proofs.«01_k».proof.Proof.Gen.On_routed_rows
public import Idealize.ShloMosaic.Lib.StableHlo.Predicate
public import Idealize.ShloMosaic.Lib.Affine
public import Idealize.ShloMosaic.Lib.Pipeline.Value
public import Idealize.ShloMosaic.PureOps.Reduce

@[expose] public section

noncomputable section

namespace Cert.Proof.Table

open Idealize.ShloMosaic

variable {F : FTy → Type} [FloatOps F]

/-- A table of eighty words, and a table of one. -/
abbrev T80 : Shape := ⟨1, ![80]⟩
abbrev T1 : Shape := ⟨1, ![1]⟩

/-- The single word of a one-word table. -/
abbrev word (nv : IVec T1 32) : BitVec 32 := nv (fun a => match a with | ⟨0, _⟩ => ⟨0, Nat.one_pos⟩)

theorem word_at (nv : IVec T1 32) (j : T1.Idx) : nv j = word nv := by
  refine congrArg nv (funext fun a => ?_)
  match a with
  | ⟨0, _⟩ => exact Subsingleton.elim (α := Fin 1) _ _

/-- A word that is at least zero and below a small bound, both signed, is below it as a number. -/
theorem toNat_lt {a : BitVec 32} (n : ℕ) (hn : n < 2 ^ 31) (h0 : IntOp.cmpi .sge a 0#32 = 1#1) (h1 : IntOp.cmpi .slt a (BitVec.ofNat 32 n) = 1#1) : a.toNat < n := by
  simp only [IntOp.cmpi, StableHlo.Predicate.ofBool_eq_one_iff, BitVec.sle, BitVec.slt, decide_eq_true_eq, StableHlo.Predicate.toInt_ofNat_small n hn] at h0 h1
  have hz : (0#32 : BitVec 32).toInt = 0 := by decide
  rw [hz] at h0
  rw [BitVec.toInt_eq_toNat_cond] at h0 h1
  split at h0 <;> omega

/-- The entry before an entry, in the table shifted by one. -/
theorem prev_at (a : IVec T80 32) (h1 : T80.Slices ![0] T1) (h79 : T80.Slices ![0] ⟨1, ![79]⟩) (hc : Shape.Concatenates [T1, ⟨1, ![79]⟩] T80 0)
    (t p : T80.Idx) (hp : (p 0).val + 1 = (t 0).val) :
    concatenate T80 0 [⟨T1, extractStridedSlice T1 ![0] a h1⟩, ⟨⟨1, ![79]⟩, extractStridedSlice ⟨1, ![79]⟩ ![0] a h79⟩] hc t = a p := by
  have ht : (t 0).val < 80 := (t 0).isLt
  refine (concatenate_pair_apply_right 0 _ _ hc t rfl rfl (fun b => ⟨(p 0).val, by match b with | ⟨0, _⟩ => show (p 0).val < 79; omega⟩) ?_ ?_).trans ?_
  · intro b hb
    match b with
    | ⟨0, _⟩ => exact absurd rfl hb
  · exact hp
  · refine extractStridedSlice_apply _ _ _ _ p fun b => ?_
    match b with
    | ⟨0, _⟩ => show (p 0).val = 0 + (p 0).val; omega

/-- What the precondition says of entry `t`: its expert is one of eight, its block one of thirty-three, and it counts or
    repeats the entry before it. -/
theorem pre_at (a0 a1 : IVec T80 32) (a2 : IVec T1 32) (a3 a4 a5 a6)
    (h : Cert.Pre_block_table.fn (F := F) a0 a1 a2 a3 a4 a5 a6 = fun _ => 1#1) (t : T80.Idx) :
    (a0 t).toNat < 8 ∧ (a1 t).toNat < 33 ∧ (IntOp.cmpi .slt (BitVec.ofNat 32 (t 0).val) (word a2) = 1#1
      ∨ ∀ p : T80.Idx, (p 0).val + 1 = (t 0).val → a0 t = a0 p ∧ a1 t = a1 p) := by
  have e := congrFun h t
  unfold Cert.Pre_block_table.fn Cert.Pre_block_table.fn_part1 at e
  rw [show ∀ x y : IVec Cert.Pre_block_table.S80 1, andi x y t = IntOp.andi (x t) (y t) from fun _ _ => rfl] at e
  obtain ⟨e1, e2⟩ := IntOp.andi_eq_one.mp e
  obtain ⟨e3, hb1⟩ := IntOp.andi_eq_one.mp e1
  obtain ⟨e4, hb0⟩ := IntOp.andi_eq_one.mp e3
  obtain ⟨ha0, ha1⟩ := IntOp.andi_eq_one.mp e4
  refine ⟨toNat_lt 8 (by decide) ha0 ha1, toNat_lt 33 (by decide) hb0 hb1, ?_⟩
  rcases IntOp.ori_eq_one.mp e2 with hv | hr
  · refine .inl ?_
    have hw : IntOp.cmpi .slt (BitVec.ofNat 32 (t 0).val) (a2 _) = 1#1 := hv
    rwa [word_at a2] at hw
  · refine .inr fun p hp => ?_
    obtain ⟨r0, r1⟩ := IntOp.andi_eq_one.mp hr
    exact ⟨(StableHlo.Predicate.cmpi_eq_iff.mp r0).trans (prev_at a0 _ _ _ t p hp), (StableHlo.Predicate.cmpi_eq_iff.mp r1).trans (prev_at a1 _ _ _ t p hp)⟩

/-- A disjunction over a list that comes out true has a true member, when it started false. -/
theorem foldl_ori {ι : Type} (f : ι → BitVec 1) : ∀ (L : List ι) (z : BitVec 1), L.foldl (fun r i => IntOp.ori r (f i)) z = 1#1 → z = 1#1 ∨ ∃ i ∈ L, f i = 1#1
  | [], z, h => .inl h
  | i :: L, z, h => by
    rcases foldl_ori f L _ h with h' | ⟨k, hk, hf⟩
    · rcases IntOp.ori_eq_one.mp h' with hz | hi
      · exact .inl hz
      · exact .inr ⟨i, .head _, hi⟩
    · exact .inr ⟨k, .tail _ hk, hf⟩

/-- What the mask says of an element of the result: some entry that counts names its expert and its block of rows. -/
theorem mask_at (a0 a1 : IVec T80 32) (a2 : IVec T1 32) (a3 a4 a5 a6) (i : (⟨3, ![8, 16896, 1024]⟩ : Shape).Idx)
    (h : Cert.On_routed_rows.fn (F := F) a0 a1 a2 a3 a4 a5 a6 i = 1#1) :
    ∃ t : T80.Idx, IntOp.cmpi .slt (BitVec.ofNat 32 (t 0).val) (word a2) = 1#1 ∧ a0 t = BitVec.ofNat 32 (i 0).val ∧ a1 t = BitVec.ofNat 32 ((i 1).val / 512) := by
  unfold Cert.On_routed_rows.fn at h
  have h1 : (i 1).val < 16896 := (i 1).isLt
  rw [shapeCast_apply _ _ i (fun a => ⟨(![(i 0).val, (i 1).val / 512, (i 1).val % 512, (i 2).val] : Fin 4 → ℕ) a, by
    match a with
    | ⟨0, _⟩ => exact (i 0).isLt
    | ⟨1, _⟩ => show (i 1).val / 512 < 33; omega
    | ⟨2, _⟩ => show (i 1).val % 512 < 512; omega
    | ⟨3, _⟩ => exact (i 2).isLt⟩) (by
    rw [Shape.rowMajor_val_four, Shape.rowMajor_val_three]
    show ((((i 0).val * 33 + (i 1).val / 512) * 512 + (i 1).val % 512) * 1024 + (i 2).val : ℕ) = ((i 0).val * 16896 + (i 1).val) * 1024 + (i 2).val
    omega)] at h
  rw [broadcastInDim_apply _ _ _ _ (fun a => ⟨(![(i 0).val, (i 1).val / 512] : Fin 2 → ℕ) a, by
    match a with
    | ⟨0, _⟩ => exact (i 0).isLt
    | ⟨1, _⟩ => show (i 1).val / 512 < 33; omega⟩) (fun a => by
    match a with
    | ⟨0, _⟩ => rfl
    | ⟨1, _⟩ => rfl)] at h
  simp only [Host.reduce_eq_foldl] at h
  rcases foldl_ori _ _ _ h with hz | ⟨k, hk, hf⟩
  · exact absurd hz (by decide)
  have hd := of_decide_eq_true (List.mem_filter.mp hk).2
  obtain ⟨f1, f2⟩ := IntOp.andi_eq_one.mp hf
  obtain ⟨f3, f4⟩ := IntOp.andi_eq_one.mp f1
  refine ⟨fun a => ⟨(k 0).val, by match a with | ⟨0, _⟩ => exact (k 0).isLt⟩, ?_, ?_, ?_⟩
  · have hw : IntOp.cmpi .slt (BitVec.ofNat 32 (k 0).val) (a2 _) = 1#1 := f3
    rwa [word_at a2] at hw
  · have e := StableHlo.Predicate.cmpi_eq_iff.mp f4
    have ed : (k 1).val = (i 0).val := (Shape.ReducesTo.drop_apply_val_of_eq Cert.On_routed_rows.Gen.reducesTo_S80x8x33_S8x33_d0 k 0 1).symm.trans (congrArg Fin.val (congrFun hd 0))
    refine (broadcastInDim_apply ![0] (by decide) a0 k _ fun a => ?_).symm.trans (e.trans (congrArg (BitVec.ofNat 32) ed))
    match a with
    | ⟨0, _⟩ => rfl
  · have e := StableHlo.Predicate.cmpi_eq_iff.mp f2
    have ed : (k 2).val = (i 1).val / 512 := (Shape.ReducesTo.drop_apply_val_of_eq Cert.On_routed_rows.Gen.reducesTo_S80x8x33_S8x33_d0 k 1 2).symm.trans (congrArg Fin.val (congrFun hd 1))
    refine (broadcastInDim_apply ![0] (by decide) a1 k _ fun a => ?_).symm.trans (e.trans (congrArg (BitVec.ofNat 32) ed))
    match a with
    | ⟨0, _⟩ => rfl

end Cert.Proof.Table

end
-- ==== Proof.ExpertsArray.lean ====
/- What the result's array holds after the run: every block of rows that a counting entry names holds that expert's results. -/
module

public import proofs.«01_k».proof.Proof.ExpertsRun
public import Idealize.ShloMosaic.Lib.Pipeline.ArrRel

@[expose] public section

set_option maxRecDepth 16384

noncomputable section

namespace Cert.Proof.Experts

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The table's entry of step `t`. -/
abbrev en (t : Fin grid0.N) : S80.Idx := ent (grid0.coords t)

/-- The entry of step `t` counts. -/
abbrev Counts (t : Fin grid0.N) : Prop := k0_cond1 (grid0.coords t) (cnt m) = 1#1

/-- An entry that does not count repeats the one before it. -/
def Repeats : Prop := ∀ (t : ℕ) (h : t + 1 < grid0.N), ¬ Counts m ⟨t + 1, h⟩ →
  eid m (en ⟨t + 1, h⟩) = eid m (en ⟨t, Nat.lt_of_succ_lt h⟩) ∧ blk m (en ⟨t + 1, h⟩) = blk m (en ⟨t, Nat.lt_of_succ_lt h⟩)

/-- The result's block index at a step. -/
theorem index_4 (h : InRange m) (t : Fin grid0.N) :
    (((Pipeline.pin (pcfgs (F := F)) (adm m h) 0).win 4).index t : Fin 3 → ℕ) = ![(eid m (en t)).toNat, (blk m (en t)).toNat, 0] :=
  ix_4 m (grid0.coords t)

/-- Where a step's block lies in the result's array. -/
theorem emb_4 (h : InRange m) (t : Fin grid0.N) (j : S1x512x1024.Idx) :
    (((Pipeline.pin (pcfgs (F := F)) (adm m h) 0).win 4).blk t).view.emb j = rowIx (eOf m h (en t)) (bOf m h (en t)) j := by
  refine funext fun a => Fin.ext ?_
  refine (Pipeline.Window.rect_emb_val ((Pipeline.pin (pcfgs (F := F)) (adm m h) 0).win 4) t j a rfl).trans ?_
  refine (congrArg (fun e : Fin 3 → ℕ => e a * _ + _) (ix_4 m (grid0.coords t))).trans ?_
  match a with
  | ⟨0, _⟩ => show (eid m (ent (grid0.coords t))).toNat * 1 + (j 0).val = (eid m (ent (grid0.coords t))).toNat; have h0 : (j 0).val < 1 := (j 0).isLt; omega
  | ⟨1, _⟩ => rfl
  | ⟨2, _⟩ => show 0 * 1024 + (j 2).val = (j 2).val; omega

/-- When the first entry counts, what any step leaves in the result's buffer is its entry's block of results: an entry that
    does not count finds there what the step before left, and names the same block. -/
theorem leaves_out (h : InRange m) (hr : Repeats m) (c : Dev nD) (h0 : Counts m ⟨0, by decide⟩) : ∀ (n : ℕ) (hn : n < grid0.N) (X),
    (rdat m h c).Leaves 4 ⟨n, hn⟩ X → X = outBlk m c (eOf m h (en ⟨n, hn⟩)) (bOf m h (en ⟨n, hn⟩)) := by
  intro n
  induction n with
  | zero =>
    intro hn X hX
    obtain ⟨Y, hY, hXY⟩ := hX
    exact (show X = ite _ _ _ from hXY).trans (if_pos h0)
  | succ n ih =>
    intro hn X hX
    obtain ⟨Y, hY, hXY⟩ := hX
    by_cases hv : Counts m ⟨n + 1, hn⟩
    · exact (show X = ite _ _ _ from hXY).trans (if_pos hv)
    obtain ⟨he, hb⟩ := hr n hn hv
    have hX' : X = Y := (show X = ite _ _ _ from hXY).trans (if_neg hv)
    have hE : eOf m h (en ⟨n + 1, hn⟩) = eOf m h (en ⟨n, Nat.lt_of_succ_lt hn⟩) := Fin.ext (show (eid m _).toNat = (eid m _).toNat from congrArg BitVec.toNat he)
    have hB : bOf m h (en ⟨n + 1, hn⟩) = bOf m h (en ⟨n, Nat.lt_of_succ_lt hn⟩) := Fin.ext (show (blk m _).toNat = (blk m _).toNat from congrArg BitVec.toNat hb)
    rw [hX', hE, hB]
    rcases ((rdat m h c).finds_of_pos (w := 4) (t := ⟨n + 1, hn⟩) rfl (Nat.succ_ne_zero n) Y).mp hY with hf | hL
    · exfalso
      have hix : ((Pipeline.pin (pcfgs (F := F)) (adm m h) 0).win 4).index ⟨n + 1, hn⟩ = ((Pipeline.pin (pcfgs (F := F)) (adm m h) 0).win 4).index ⟨n, Nat.lt_of_succ_lt hn⟩ := by
        refine (index_4 m h _).trans (Eq.trans ?_ (index_4 m h _).symm)
        rw [he, hb]
      have hf' : ((Pipeline.pin (pcfgs (F := F)) (adm m h) 0).win 4).flush ⟨n, Nat.lt_of_succ_lt hn⟩ = true := hf
      unfold Pipeline.Window.flush at hf'
      rw [Bool.and_eq_true, Bool.or_eq_true, decide_eq_true_iff, decide_eq_true_iff] at hf'
      rcases hf'.2 with h1 | ⟨h1, h2⟩
      · exact absurd h1 (Nat.ne_of_lt hn)
      · exact h2 hix
    · exact ih _ Y hL

/-- Every step's block is written back at some step. -/
theorem flush_of (h : InRange m) : ∀ (k n : ℕ) (hn : n < grid0.N), n + k + 1 = grid0.N → ∃ u : Fin grid0.N,
    ((Pipeline.pin (pcfgs (F := F)) (adm m h) 0).win 4).flush u = true
      ∧ ((Pipeline.pin (pcfgs (F := F)) (adm m h) 0).win 4).index u = ((Pipeline.pin (pcfgs (F := F)) (adm m h) 0).win 4).index ⟨n, hn⟩ := by
  intro k
  induction k with
  | zero =>
    intro n hn e
    refine ⟨⟨n, hn⟩, ?_, rfl⟩
    unfold Pipeline.Window.flush
    rw [Bool.and_eq_true, Bool.or_eq_true, decide_eq_true_iff]
    exact ⟨rfl, .inl e⟩
  | succ k ih =>
    intro n hn e
    have hn' : n + 1 < grid0.N := by omega
    by_cases hix : ((Pipeline.pin (pcfgs (F := F)) (adm m h) 0).win 4).index ⟨n + 1, hn'⟩ = ((Pipeline.pin (pcfgs (F := F)) (adm m h) 0).win 4).index ⟨n, hn⟩
    · obtain ⟨u, hu, hi⟩ := ih (n + 1) hn' (by omega)
      exact ⟨u, hu, hi.trans hix⟩
    · refine ⟨⟨n, hn⟩, ?_, rfl⟩
      unfold Pipeline.Window.flush
      rw [Bool.and_eq_true, Bool.or_eq_true, decide_eq_true_iff, decide_eq_true_iff]
      exact ⟨rfl, .inr ⟨hn', hix⟩⟩

/-- A row's block, and its place in the block. -/
abbrev blkOf (i : S8x16896x1024.Idx) : Fin 33 := ⟨(i 1).val / 512, by have h : (i 1).val < 16896 := (i 1).isLt; omega⟩
abbrev inBlk (i : S8x16896x1024.Idx) : S1x512x1024.Idx := fun a =>
  ⟨(![0, (i 1).val % 512, (i 2).val] : Fin 3 → ℕ) a, by
    match a with
    | ⟨0, _⟩ => exact Nat.one_pos
    | ⟨1, _⟩ => exact Nat.mod_lt _ (by decide)
    | ⟨2, _⟩ => exact (i 2).isLt⟩

/-- The results of every expert at every row. -/
def outAll (c : Dev nD) (i : S8x16896x1024.Idx) : Elt F .bf16 := outBlk m c (i 0) (blkOf i) (inBlk i)

theorem outAll_rowIx (c : Dev nD) (e : Fin 8) (b : Fin 33) (j : S1x512x1024.Idx) : outAll m c (rowIx e b j) = outBlk m c e b j := by
  have h1 : (j 1).val < 512 := (j 1).isLt
  have hb : blkOf (rowIx e b j) = b := Fin.ext (show (b.val * 512 + (j 1).val) / 512 = b.val by omega)
  have hj : inBlk (rowIx e b j) = j := by
    funext a
    match a with
    | ⟨0, _⟩ => exact Subsingleton.elim (α := Fin 1) _ _
    | ⟨1, _⟩ => exact Fin.ext (show (b.val * 512 + (j 1).val) % 512 = (j 1).val by omega)
    | ⟨2, _⟩ => rfl
  unfold outAll
  rw [hb, hj]
  rfl

/-- After the run, a row of a block that a counting entry names holds its expert's result. -/
theorem out_at (h : InRange m) (hr : Repeats m) (c : Dev nD) (h0 : Counts m ⟨0, by decide⟩) (r : PUnit × MemSt nD τ sig (Elt F))
    (hpost : Pipeline.RDat.FramePost (Pipeline.pin (pcfgs (F := F)) (adm m h) 0) (rdat m h) (V m) r) (t : Fin grid0.N)
    (i : S8x16896x1024.Idx) (hi : ∃ j, i = rowIx (eOf m h (en t)) (bOf m h (en t)) j) :
    r.2.mem ((c.tc : Thread nD τ).loc main_v3) i = outAll m c i := by
  obtain ⟨after, hL, hA⟩ := Pipeline.RDat.FramePost.exists_exact hpost c
  obtain ⟨j, hj⟩ := hi
  obtain ⟨u, hu, hix⟩ := flush_of m h (grid0.N - t.val - 1) t.val t.isLt (by have := t.isLt; omega)
  have hix' : (![(eid m (en u)).toNat, (blk m (en u)).toNat, 0] : Fin 3 → ℕ) = ![(eid m (en t)).toNat, (blk m (en t)).toNat, 0] :=
    (index_4 m h u).symm.trans (hix.trans (index_4 m h t))
  have hE : eOf m h (en u) = eOf m h (en t) := Fin.ext (congrFun hix' 0)
  have hB : bOf m h (en u) = bOf m h (en t) := Fin.ext (congrFun hix' 1)
  refine (congrFun (hA 4) i).trans ?_
  refine Pipeline.Dat.arrAt_forall_of_flushed ((rdat m h c).withAfter after) 4 (fun i v => v = outAll m c i) ?_ _ u i u.isLt hu ?_
  · intro t' hf y
    have hx : after 4 t' = _ := leaves_out m h hr c h0 t'.val t'.isLt _ (hL 4 t' hf)
    refine Eq.trans ?_ (congrArg (outAll m c) (emb_4 m h t' y)).symm
    refine Eq.trans ?_ (outAll_rowIx m c _ _ y).symm
    exact congrFun hx y
  · refine Finset.mem_map.mpr ⟨j, Finset.mem_univ _, ?_⟩
    rw [hj, ← hE, ← hB]
    exact emb_4 m h u j

end Cert.Proof.Experts

end
-- ==== Proof.ExpertsCond.lean ====
/- What the precondition and the mask say of the experts' table: every entry is in range, an entry that does not count
   repeats the one before it, and a selected row lies in the block of an entry that counts. -/
module

public import proofs.«01_k».proof.Proof.Table
public import proofs.«01_k».proof.Proof.ExpertsArray

@[expose] public section

set_option maxRecDepth 16384

noncomputable section

namespace Cert.Proof.Experts

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The precondition, of the one device's arguments. -/
abbrev PreAt : Prop :=
  Cert.Pre_block_table.fn (F := F) (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) = fun _ => 1#1

/-- The mask, of the one device's arguments. -/
abbrev MaskAt (i : S8x16896x1024.Idx) : Prop :=
  Cert.On_routed_rows.fn (F := F) (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) i = 1#1

/-- The count of entries, as launched. -/
abbrev nvWord : BitVec 32 := Table.word (m (((0 : Dev nD).tc : Thread nD τ).loc main_arg2))

theorem cnt_eq : cnt m = nvWord m :=
  (congrFun (V_of_ne m 0 main_arg2 (by decide) (by decide) (by decide)) _).trans (Table.word_at _ _)

/-- The body's test is the comparison of the step's number with the count. -/
theorem cond_of_slt (i : grid0.Coords) (v : BitVec 32) (h : IntOp.cmpi .slt (BitVec.ofNat 32 (i 0).val) v = 1#1) : k0_cond1 i v = 1#1 := by
  have e : k0_cond1 i v = Scalar.cmpi .ne (Scalar.extui (IntOp.cmpi .slt (BitVec.ofNat 32 (i 0).val) v)) 0#32 := rfl
  rw [e, h]
  decide

/-- A step's number is its entry's place in the table. -/
theorem en_val (t : Fin grid0.N) : (en t 0).val = t.val := by
  have h : t.val < 80 := t.isLt
  show t.val / 1 % 80 = t.val
  omega

/-- The step of an entry. -/
abbrev stepOf (x : S80.Idx) : Fin grid0.N := ⟨(x 0).val, (x 0).isLt⟩
theorem en_stepOf (x : S80.Idx) : en (stepOf x) = x := by
  funext a
  match a with
  | ⟨0, _⟩ => exact Fin.ext (en_val (stepOf x))

theorem counts_of_slt (t : Fin grid0.N) (h : IntOp.cmpi .slt (BitVec.ofNat 32 (en t 0).val) (nvWord m) = 1#1) : Counts m t := by
  show k0_cond1 (grid0.coords t) (cnt m) = 1#1
  rw [cnt_eq]
  exact cond_of_slt (grid0.coords t) _ h

theorem inRange_of_pre (h : PreAt m) : InRange m := fun t => ⟨(Table.pre_at _ _ _ _ _ _ _ h t).1, (Table.pre_at _ _ _ _ _ _ _ h t).2.1⟩

theorem repeats_of_pre (h : PreAt m) : Repeats m := by
  intro t ht hc
  rcases (Table.pre_at _ _ _ _ _ _ _ h (en ⟨t + 1, ht⟩)).2.2 with hs | hp
  · exact absurd (counts_of_slt m _ hs) hc
  · exact hp (en ⟨t, Nat.lt_of_succ_lt ht⟩) (by rw [en_val, en_val])

/-- An entry that counts means the first one does. -/
theorem slt_zero (n : ℕ) (hn : n < 80) (v : BitVec 32) (h : IntOp.cmpi .slt (BitVec.ofNat 32 n) v = 1#1) : IntOp.cmpi .slt (BitVec.ofNat 32 0) v = 1#1 := by
  simp only [IntOp.cmpi, StableHlo.Predicate.ofBool_eq_one_iff, BitVec.slt, decide_eq_true_eq, StableHlo.Predicate.toInt_ofNat_small n (by omega), StableHlo.Predicate.toInt_ofNat_small 0 (by omega)] at h ⊢
  omega

/-- A selected row lies in the block of a step that counts, and then the first step counts too. -/
theorem step_of_mask (h : InRange m) (i : S8x16896x1024.Idx) (hm : MaskAt m i) :
    Counts m ⟨0, by decide⟩ ∧ ∃ t, Counts m t ∧ ∃ j, i = rowIx (eOf m h (en t)) (bOf m h (en t)) j := by
  obtain ⟨x, hs, he, hb⟩ := Table.mask_at _ _ _ _ _ _ _ i hm
  have h1 : (i 1).val < 16896 := (i 1).isLt
  have h0 : (i 0).val < 8 := (i 0).isLt
  refine ⟨counts_of_slt m _ ?_, stepOf x, counts_of_slt m _ ?_, inBlk i, ?_⟩
  · rw [en_val]; exact slt_zero _ (x 0).isLt _ hs
  · rw [en_stepOf]; exact hs
  · rw [en_stepOf]
    have e0 : (eOf m h x).val = (i 0).val := by
      show (eid m x).toNat = _
      rw [show eid m x = BitVec.ofNat 32 (i 0).val from he, BitVec.toNat_ofNat]; omega
    have e1 : (bOf m h x).val = (i 1).val / 512 := by
      show (blk m x).toNat = _
      rw [show blk m x = BitVec.ofNat 32 ((i 1).val / 512) from hb, BitVec.toNat_ofNat]; omega
    funext a
    match a with
    | ⟨0, _⟩ => exact Fin.ext e0.symm
    | ⟨1, _⟩ => exact Fin.ext (show (i 1).val = (bOf m h x).val * 512 + (i 1).val % 512 by rw [e1]; omega)
    | ⟨2, _⟩ => rfl

/-- A selected row holds its expert's result after the run. -/
theorem out_of_mask (hp : PreAt m) (c : Dev nD) (r : PUnit × MemSt nD τ sig (Elt F))
    (hpost : Pipeline.RDat.FramePost (Pipeline.pin (pcfgs (F := F)) (adm m (inRange_of_pre m hp)) 0) (rdat m (inRange_of_pre m hp)) (V m) r)
    (i : S8x16896x1024.Idx) (hm : MaskAt m i) :
    r.2.mem ((c.tc : Thread nD τ).loc main_v3) i = outAll m c i := by
  obtain ⟨h0, t, ht, hj⟩ := step_of_mask m (inRange_of_pre m hp) i hm
  exact out_at m (inRange_of_pre m hp) (repeats_of_pre m hp) c h0 r hpost t i hj

end Cert.Proof.Experts

end
-- ==== Proof.ExpertsValue.lean ====
/- What the block a counting step leaves holds, in ideal arithmetic: the eleven column groups' sums are one sum over
   the hidden layer. -/
module

public import proofs.«01_k».proof.Proof.ExpertsBody
public import Idealize.ShloMosaic.Lib.MatmulPlain
public import Idealize.ShloMosaic.Lib.ValueLayout
public import Idealize.ShloMosaic.Lib.Pipeline.Value
public import Idealize.ShloMosaic.Lib.Pipeline.ValueKit.Tiles
public import Idealize.ShloMosaic.PureOps.Ideal.Laws

@[expose] public section

set_option maxRecDepth 16384

noncomputable section

namespace Cert.Proof.Experts

open Cert.KernelIdeal Cert.KernelIdeal.Gen
open Idealize.ShloMosaic Idealize.ShloMosaic.ValueIdx
open scoped BigOperators

variable {F : FTy → Type} [FloatOps F]

/-- The gate's columns of one group: the product of the rows with them, through silu. -/
def groupGate (x : FVec F S512x1024 .bf16) (wg : Vec F S1x1024x256 .bf16) : FVec F S512x256 .f32 :=
  mulf (matmul dot_S512x1024_S1024x256_S512x256_1_0_0_1_n_n none x (shapeCast S1024x256 wg shapeCasts_S1x1024x256_S1024x256) (constant S512x256 .f32 0x00000000#32))
    (logistic (matmul dot_S512x1024_S1024x256_S512x256_1_0_0_1_n_n none x (shapeCast S1024x256 wg shapeCasts_S1x1024x256_S1024x256) (constant S512x256 .f32 0x00000000#32)))

/-- One group's part of the hidden layer. -/
def groupHidden (x : FVec F S512x1024 .bf16) (wg wu : Vec F S1x1024x256 .bf16) : FVec F S512x256 .f32 :=
  mulf (groupGate x wg)
    (matmul dot_S512x1024_S1024x256_S512x256_1_0_0_1_n_n none x (shapeCast S1024x256 wu shapeCasts_S1x1024x256_S1024x256) (constant S512x256 .f32 0x00000000#32))

/-- One group's contribution to the rows' results. -/
def group (x : FVec F S512x1024 .bf16) (wg wu : Vec F S1x1024x256 .bf16) (wd : Vec F S1x256x1024 .bf16) : FVec F S512x1024 .f32 :=
  matmul dot_S512x256_S256x1024_S512x1024_1_0_0_1_n_n none (truncf .bf16 (groupHidden x wg wu) bitsLt_bf16_f32)
    (shapeCast S256x1024 wd shapeCasts_S1x256x1024_S256x1024) (constant S512x1024 .f32 0x00000000#32)

/-- The payloads of the body, as sums of groups. -/
theorem pay2_eq (v4 : Vec F S1x512x1024 .bf16) (a b : Vec F S1x1024x256 .bf16) (d : Vec F S1x256x1024 .bf16) (a' b' : Vec F S1x1024x256 .bf16) (d' : Vec F S1x256x1024 .bf16) :
    k0_pay2 v4 a b d a' b' d' = addf (addf (broadcast S512x1024 (Scalar.ofBits .f32 0x00000000#32)) (group (k0_pay1 v4) a b d)) (group (k0_pay1 v4) a' b' d') := rfl
theorem pay3_eq (x : FVec F S512x1024 .bf16) (s : FVec F S512x1024 .f32) (a b : Vec F S1x1024x256 .bf16) (d : Vec F S1x256x1024 .bf16) (a' b' : Vec F S1x1024x256 .bf16) (d' : Vec F S1x256x1024 .bf16) :
    k0_pay3 x s a b d a' b' d' = addf (addf s (group x a b d)) (group x a' b' d') := rfl
theorem pay5_eq (x : FVec F S512x1024 .bf16) (s : FVec F S512x1024 .f32) (a b : Vec F S1x1024x256 .bf16) (d : Vec F S1x256x1024 .bf16) (a' b' : Vec F S1x1024x256 .bf16) (d' : Vec F S1x256x1024 .bf16) :
    k0_pay5 x s (k0_pay4 x a) b d a' b' d' = addf (addf s (group x a b d)) (group x a' b' d') := rfl
theorem pay7_eq (x : FVec F S512x1024 .bf16) (s : FVec F S512x1024 .f32) (a b : Vec F S1x1024x256 .bf16) (d : Vec F S1x256x1024 .bf16) (a' b' : Vec F S1x1024x256 .bf16) (d' : Vec F S1x256x1024 .bf16) :
    k0_pay7 x s (k0_pay6 x a b) d a' b' d' = addf (addf s (group x a b d)) (group x a' b' d') := rfl
theorem pay9_eq (x : FVec F S512x1024 .bf16) (s : FVec F S512x1024 .f32) (a b : Vec F S1x1024x256 .bf16) (d : Vec F S1x256x1024 .bf16) (a' b' : Vec F S1x1024x256 .bf16) (d' : Vec F S1x256x1024 .bf16)
    (a'' b'' : Vec F S1x1024x256 .bf16) (d'' : Vec F S1x256x1024 .bf16) :
    k0_pay9 x s (k0_pay8 x a b d) a' b' d' a'' b'' d''
      = shapeCast S1x512x1024 (truncf .bf16 (addf (addf (addf s (group x a b d)) (group x a' b' d')) (group x a'' b'' d'')) bitsLt_bf16_f32) shapeCasts_S512x1024_S1x512x1024 := rfl

/-! ### In ideal arithmetic -/

/-- Row `r` of the block against column `f` of a weight. -/
def proj (x : Vec Ideal S1x512x1024 .bf16) (w : Vec Ideal S1x1024x2816 .bf16) (r : Fin 512) (f : Fin 2816) : EReal :=
  ∑ k : Fin 1024, x (ix3 (0 : Fin 1) r k) * w (ix3 (0 : Fin 1) k f)

/-- Entry `f` of the hidden layer of row `r`. -/
def hidden (x : Vec Ideal S1x512x1024 .bf16) (wg wu : Vec Ideal S1x1024x2816 .bf16) (r : Fin 512) (f : Fin 2816) : EReal :=
  proj x wg r f * Ideal.logistic (proj x wg r f) * proj x wu r f

/-- The term of hidden entry `f` in result `(r, n)`. -/
def term (x : Vec Ideal S1x512x1024 .bf16) (wg wu : Vec Ideal S1x1024x2816 .bf16) (wd : Vec Ideal S1x2816x1024 .bf16) (r : Fin 512) (n : Fin 1024) (f : Fin 2816) : EReal :=
  hidden x wg wu r f * wd (ix3 (0 : Fin 1) f n)

/-- The sum of the terms of the first `o` hidden entries. -/
def total (x : Vec Ideal S1x512x1024 .bf16) (wg wu : Vec Ideal S1x1024x2816 .bf16) (wd : Vec Ideal S1x2816x1024 .bf16) (r : Fin 512) (n : Fin 1024) (o : ℕ) : EReal :=
  ∑ k ∈ Finset.range o, if h : k < 2816 then term x wg wu wd r n ⟨k, h⟩ else 0

theorem blockRows_apply (x : Vec Ideal S1x512x1024 .bf16) (r : Fin 512) (k : Fin 1024) : blockRows x (ix2 r k) = x (ix3 (0 : Fin 1) r k) := by
  unfold blockRows k0_pay1
  refine (shapeCast_1ab_ab_apply _ shapeCasts_S1x512x1024_S512x1024 r k).trans ?_
  refine View.ld_unit_apply_of x _ _ _ _ _ fun a => ?_
  match a with
  | ⟨0, _⟩ => rfl
  | ⟨1, _⟩ => exact (Nat.zero_add _).symm
  | ⟨2, _⟩ => exact (Nat.zero_add _).symm

/-- The product of the rows with the columns of a weight from `o` on. -/
theorem groupProj_apply (x : Vec Ideal S1x512x1024 .bf16) (w : Vec Ideal S1x1024x2816 .bf16) (o : ℕ) (ho : o + 256 ≤ 2816)
    (inb : ∀ a, (![0, 0, o] : Fin 3 → ℕ) a + S1x1024x256.size a ≤ S1x1024x2816.size a) (r : Fin 512) (f : Fin 256) :
    matmul (φ₂ := .bf16) dot_S512x1024_S1024x256_S512x256_1_0_0_1_n_n none (blockRows x)
      (shapeCast (α := Ideal .bf16) S1024x256 (View.ld (Val := Elt Ideal) (e' := .bf16) w (Rect.unit (s := S1x1024x2816) ![0, 0, o] S1x1024x256.size inb)) shapeCasts_S1x1024x256_S1024x256)
      (constant S512x256 .f32 0x00000000#32) (ix2 r f) = proj x w r ⟨o + f.val, by omega⟩ := by
  refine (Ideal.matmul_plain_apply (M := 512) (K := 1024) (N := 256) none _ _ _ r f).trans ?_
  refine (congrArg (· + _) (Ideal.ofBits_zero_f32)).trans ((zero_add _).trans ?_)
  refine Finset.sum_congr rfl fun k _ => ?_
  refine congrArg₂ (· * ·) (blockRows_apply x r k) ?_
  refine (shapeCast_1ab_ab_apply _ shapeCasts_S1x1024x256_S1024x256 k f).trans ?_
  refine View.ld_unit_apply_of w _ _ _ _ _ fun a => ?_
  match a with
  | ⟨0, _⟩ => rfl
  | ⟨1, _⟩ => exact (Nat.zero_add _).symm
  | ⟨2, _⟩ => rfl

theorem groupHidden_apply (x : Vec Ideal S1x512x1024 .bf16) (wg wu : Vec Ideal S1x1024x2816 .bf16) (o : ℕ) (ho : o + 256 ≤ 2816)
    (inb inb' : ∀ a, (![0, 0, o] : Fin 3 → ℕ) a + S1x1024x256.size a ≤ S1x1024x2816.size a) (r : Fin 512) (f : Fin 256) :
    groupHidden (blockRows x) (View.ld wg (Rect.unit (s := S1x1024x2816) ![0, 0, o] S1x1024x256.size inb)) (View.ld wu (Rect.unit (s := S1x1024x2816) ![0, 0, o] S1x1024x256.size inb')) (ix2 r f)
      = hidden x wg wu r ⟨o + f.val, by omega⟩ := by
  have hg := groupProj_apply x wg o ho inb r f
  have hu := groupProj_apply x wu o ho inb' r f
  exact congrArg₂ (· * ·) (congrArg₂ (· * ·) hg (congrArg Ideal.logistic hg)) hu

/-- A group from column `o` on adds the terms of its 256 hidden entries. -/
theorem group_apply (x : Vec Ideal S1x512x1024 .bf16) (wg wu : Vec Ideal S1x1024x2816 .bf16) (wd : Vec Ideal S1x2816x1024 .bf16) (o : ℕ) (ho : o + 256 ≤ 2816)
    (inb inb' : ∀ a, (![0, 0, o] : Fin 3 → ℕ) a + S1x1024x256.size a ≤ S1x1024x2816.size a)
    (inbd : ∀ a, (![0, o, 0] : Fin 3 → ℕ) a + S1x256x1024.size a ≤ S1x2816x1024.size a) (r : Fin 512) (n : Fin 1024) :
    group (blockRows x) (View.ld wg (Rect.unit (s := S1x1024x2816) ![0, 0, o] S1x1024x256.size inb)) (View.ld wu (Rect.unit (s := S1x1024x2816) ![0, 0, o] S1x1024x256.size inb'))
      (View.ld wd (Rect.unit (s := S1x2816x1024) ![0, o, 0] S1x256x1024.size inbd)) (ix2 r n)
      = ∑ f : Fin 256, term x wg wu wd r n ⟨o + f.val, by omega⟩ := by
  refine (Ideal.matmul_plain_apply (M := 512) (K := 256) (N := 1024) none _ _ _ r n).trans ?_
  refine (congrArg (· + _) (Ideal.ofBits_zero_f32)).trans ((zero_add _).trans ?_)
  refine Finset.sum_congr rfl fun f _ => ?_
  refine congrArg₂ (· * ·) (groupHidden_apply x wg wu o ho inb inb' r f) ?_
  refine (shapeCast_1ab_ab_apply _ shapeCasts_S1x256x1024_S256x1024 f n).trans ?_
  refine View.ld_unit_apply_of wd _ _ _ _ _ fun a => ?_
  match a with
  | ⟨0, _⟩ => rfl
  | ⟨1, _⟩ => rfl
  | ⟨2, _⟩ => exact (Nat.zero_add _).symm

/-- Adding a group to the sum of the terms before it. -/
theorem total_group (x : Vec Ideal S1x512x1024 .bf16) (wg wu : Vec Ideal S1x1024x2816 .bf16) (wd : Vec Ideal S1x2816x1024 .bf16) (o : ℕ) (ho : o + 256 ≤ 2816)
    (inb inb' : ∀ a, (![0, 0, o] : Fin 3 → ℕ) a + S1x1024x256.size a ≤ S1x1024x2816.size a)
    (inbd : ∀ a, (![0, o, 0] : Fin 3 → ℕ) a + S1x256x1024.size a ≤ S1x2816x1024.size a) (r : Fin 512) (n : Fin 1024)
    (s : FVec Ideal S512x1024 .f32) (hs : s (ix2 r n) = total x wg wu wd r n o) :
    addf s (group (blockRows x) (View.ld wg (Rect.unit (s := S1x1024x2816) ![0, 0, o] S1x1024x256.size inb)) (View.ld wu (Rect.unit (s := S1x1024x2816) ![0, 0, o] S1x1024x256.size inb'))
      (View.ld wd (Rect.unit (s := S1x2816x1024) ![0, o, 0] S1x256x1024.size inbd))) (ix2 r n) = total x wg wu wd r n (o + 256) := by
  refine (congrArg₂ (· + ·) hs (group_apply x wg wu wd o ho inb inb' inbd r n)).trans ?_
  unfold total
  rw [Finset.sum_range_add]
  refine congrArg (_ + ·) ?_
  rw [Finset.sum_range]
  refine Finset.sum_congr rfl fun f _ => ?_
  rw [dif_pos (show o + f.val < 2816 by omega)]

theorem part2_apply (x : Vec Ideal S1x512x1024 .bf16) (wg wu : Vec Ideal S1x1024x2816 .bf16) (wd : Vec Ideal S1x2816x1024 .bf16) (r : Fin 512) (n : Fin 1024) :
    part2 x wg wu wd (ix2 r n) = total x wg wu wd r n 512 := by
  unfold part2
  rw [pay2_eq]
  refine total_group x wg wu wd 256 (by decide) _ _ _ r n _ (total_group x wg wu wd 0 (by decide) _ _ _ r n _ ?_)
  exact Ideal.ofBits_zero_f32.trans (Finset.sum_range_zero _).symm

theorem part4_apply (x : Vec Ideal S1x512x1024 .bf16) (wg wu : Vec Ideal S1x1024x2816 .bf16) (wd : Vec Ideal S1x2816x1024 .bf16) (r : Fin 512) (n : Fin 1024) :
    part4 x wg wu wd (ix2 r n) = total x wg wu wd r n 1024 := by
  unfold part4
  rw [pay3_eq]
  exact total_group x wg wu wd 768 (by decide) _ _ _ r n _ (total_group x wg wu wd 512 (by decide) _ _ _ r n _ (part2_apply x wg wu wd r n))

theorem part6_apply (x : Vec Ideal S1x512x1024 .bf16) (wg wu : Vec Ideal S1x1024x2816 .bf16) (wd : Vec Ideal S1x2816x1024 .bf16) (r : Fin 512) (n : Fin 1024) :
    part6 x wg wu wd (ix2 r n) = total x wg wu wd r n 1536 := by
  unfold part6
  rw [pay5_eq]
  exact total_group x wg wu wd 1280 (by decide) _ _ _ r n _ (total_group x wg wu wd 1024 (by decide) _ _ _ r n _ (part4_apply x wg wu wd r n))

theorem part8_apply (x : Vec Ideal S1x512x1024 .bf16) (wg wu : Vec Ideal S1x1024x2816 .bf16) (wd : Vec Ideal S1x2816x1024 .bf16) (r : Fin 512) (n : Fin 1024) :
    part8 x wg wu wd (ix2 r n) = total x wg wu wd r n 2048 := by
  unfold part8
  rw [pay7_eq]
  exact total_group x wg wu wd 1792 (by decide) _ _ _ r n _ (total_group x wg wu wd 1536 (by decide) _ _ _ r n _ (part6_apply x wg wu wd r n))

/-- Result `(r, n)` of the block: the sum over the whole hidden layer. -/
theorem blockOut_apply (x : Vec Ideal S1x512x1024 .bf16) (wg wu : Vec Ideal S1x1024x2816 .bf16) (wd : Vec Ideal S1x2816x1024 .bf16) (u : Fin 1) (r : Fin 512) (n : Fin 1024) :
    blockOut x wg wu wd (ix3 u r n) = ∑ f : Fin 2816, term x wg wu wd r n f := by
  unfold blockOut
  rw [pay9_eq]
  refine (shapeCast_ab_1ab_apply _ shapeCasts_S512x1024_S1x512x1024 u r n).trans ?_
  refine (total_group x wg wu wd 2560 (by decide) _ _ _ r n _ (total_group x wg wu wd 2304 (by decide) _ _ _ r n _
    (total_group x wg wu wd 2048 (by decide) _ _ _ r n _ (part8_apply x wg wu wd r n)))).trans ?_
  unfold total
  rw [show 2560 + 256 = 2816 from rfl, Finset.sum_range]
  exact Finset.sum_congr rfl fun f _ => dif_pos f.isLt

end Cert.Proof.Experts
-- ==== Proof.ExpertsReference.lean ====
/- The reference in ideal arithmetic, and that a row's result of the experts' pipeline is the reference's. -/
module

public import proofs.«01_k».proof.Proof.ExpertsArray
public import proofs.«01_k».proof.Proof.ExpertsValue
public import proofs.«01_k».proof.Proof.Gen.ReferenceIdeal.Run
public import Idealize.ShloMosaic.Lib.IdealHost
public import proofs.«01_k».proof.Proof.Gen.ReferenceIdeal.Read

@[expose] public section

set_option maxRecDepth 16384

noncomputable section

namespace Cert.Proof.Experts

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- In ideal arithmetic the casts on the host leave the weights as they are. -/
theorem V_main_v0 (c : Dev nD) : V m c main_v0 = (m ((c.tc : Thread nD τ).loc main_arg4) : S8x1024x2816.Idx → EReal) := by
  unfold V hostOps0; after_results; rfl
theorem V_main_v1 (c : Dev nD) : V m c main_v1 = (m ((c.tc : Thread nD τ).loc main_arg5) : S8x1024x2816.Idx → EReal) := by
  unfold V hostOps0; after_results; rfl
theorem V_main_v2 (c : Dev nD) : V m c main_v2 = (m ((c.tc : Thread nD τ).loc main_arg6) : S8x2816x1024.Idx → EReal) := by
  unfold V hostOps0; after_results; rfl
theorem V_main_arg3 (c : Dev nD) : V m c main_arg3 = (m ((c.tc : Thread nD τ).loc main_arg3) : S8x16896x1024.Idx → EReal) :=
  V_of_ne m c main_arg3 (by decide) (by decide) (by decide)

section Reference
open Cert.ReferenceIdeal.Read

variable (x3 : S8x16896x1024.Idx → EReal) (x4 x5 : S8x1024x2816.Idx → EReal) (x6 : S8x2816x1024.Idx → EReal)

/-- One row of an expert against one column of its weight. -/
def dotRow (w : S8x1024x2816.Idx → EReal) (i : Cert.ReferenceIdeal.S8x16896x2816.Idx) : EReal :=
  ∑ k : Fin 1024, x3 (lidx_main_v1 i k) * w (ridx_main_v1 i k)

theorem gate_at (i) : val_main_v1 (F := Ideal) x3 x4 i = dotRow x3 x4 i :=
  (val_main_v1_apply x3 x4 i).trans rfl
theorem up_at (i) : val_main_v2 (F := Ideal) x3 x5 i = dotRow x3 x5 i :=
  (val_main_v2_apply x3 x5 i).trans rfl

theorem silu_at (i) : val_main_v3 (F := Ideal) x3 x4 i = dotRow x3 x4 i * Ideal.logistic (dotRow x3 x4 i) := by
  rw [val_main_v3_apply, val_main_call0_v5_apply, val_main_call0_v3_apply, val_main_call0_v1_apply, val_main_call0_v0_apply, val_main_call0_v4_apply,
    val_main_call0_v2_apply, val_main_call0_cst_apply, val_main_call0_cst_0_apply, gate_at]
  refine congrArg (dotRow x3 x4 i * ·) ?_
  show Ideal.div (Ideal.ofBits .f32 0x3F800000#32) (Ideal.ofBits .f32 0x3F800000#32 + Ideal.exp (-(dotRow x3 x4 i))) = Ideal.div 1 (1 + Ideal.exp (-(dotRow x3 x4 i)))
  rw [Ideal.ofBits_one_f32]

/-- The reference's result: the sum over the hidden layer. -/
theorem reference_at (i : S8x16896x1024.Idx) :
    val_main_v6 (F := Ideal) x3 x4 x5 x6 i
      = ∑ f : Fin 2816, (dotRow x3 x4 (lidx_main_v5 i f) * Ideal.logistic (dotRow x3 x4 (lidx_main_v5 i f)) * dotRow x3 x5 (lidx_main_v5 i f)) * x6 (ridx_main_v5 i f) := by
  rw [val_main_v6_apply]
  refine (show _ = val_main_v5 (F := Ideal) x3 x4 x5 x6 i from rfl).trans ((val_main_v5_apply x3 x4 x5 x6 i).trans (Finset.sum_congr rfl fun f _ => ?_))
  refine congrArg (· * x6 (ridx_main_v5 i f)) ?_
  rw [val_main_v4_apply, silu_at, up_at]
  rfl

end Reference

open Cert.ReferenceIdeal.Read in
/-- A row's result of the pipeline is the reference's. -/
theorem outAll_eq (c : Dev nD) (i : S8x16896x1024.Idx) :
    outAll m c i = val_main_v6 (F := Ideal) (m ((c.tc : Thread nD τ).loc main_arg3)) (m ((c.tc : Thread nD τ).loc main_arg4)) (m ((c.tc : Thread nD τ).loc main_arg5)) (m ((c.tc : Thread nD τ).loc main_arg6)) i := by
  have h1 : (i 1).val < 16896 := (i 1).isLt
  have hi : inBlk i = ix3 (0 : Fin 1) (⟨(i 1).val % 512, Nat.mod_lt _ (by decide)⟩ : Fin 512) (i 2) := by
    funext a
    match a with
    | ⟨0, _⟩ => rfl
    | ⟨1, _⟩ => rfl
    | ⟨2, _⟩ => rfl
  refine Eq.trans ?_ (reference_at (m ((c.tc : Thread nD τ).loc main_arg3)) (m ((c.tc : Thread nD τ).loc main_arg4)) (m ((c.tc : Thread nD τ).loc main_arg5)) (m ((c.tc : Thread nD τ).loc main_arg6)) i).symm
  unfold outAll outBlk
  rw [hi]
  refine (blockOut_apply _ _ _ _ _ _ _).trans (Finset.sum_congr rfl fun f _ => ?_)
  have hrow : ∀ k : Fin 1024, rowIx (i 0) (blkOf i) (ix3 (0 : Fin 1) (⟨(i 1).val % 512, Nat.mod_lt _ (by decide)⟩ : Fin 512) k) = lidx_main_v1 (lidx_main_v5 i f) k := fun k => by
    funext a
    match a with
    | ⟨0, _⟩ => rfl
    | ⟨1, _⟩ => exact Fin.ext (show (i 1).val / 512 * 512 + (i 1).val % 512 = (i 1).val by omega)
    | ⟨2, _⟩ => rfl
  have hcol : ∀ k : Fin 1024, upIx (i 0) (ix3 (0 : Fin 1) k f) = ridx_main_v1 (lidx_main_v5 i f) k := fun k => by
    funext a
    match a with
    | ⟨0, _⟩ => rfl
    | ⟨1, _⟩ => rfl
    | ⟨2, _⟩ => rfl
  have hdown : downIx (i 0) (ix3 (0 : Fin 1) f (i 2)) = ridx_main_v5 i f := by
    funext a
    match a with
    | ⟨0, _⟩ => rfl
    | ⟨1, _⟩ => rfl
    | ⟨2, _⟩ => rfl
  have hg : proj (rowsBlk m c (i 0) (blkOf i)) (gateBlk m c (i 0)) ⟨(i 1).val % 512, Nat.mod_lt _ (by decide)⟩ f
      = dotRow (m ((c.tc : Thread nD τ).loc main_arg3)) (m ((c.tc : Thread nD τ).loc main_arg4)) (lidx_main_v5 i f) :=
    Finset.sum_congr rfl fun k _ => congrArg₂ (fun a b : EReal => a * b) ((congrFun (V_main_arg3 m c) _).trans (congrArg _ (hrow k))) ((congrFun (V_main_v0 m c) _).trans (congrArg _ (hcol k)))
  have hu : proj (rowsBlk m c (i 0) (blkOf i)) (upBlk m c (i 0)) ⟨(i 1).val % 512, Nat.mod_lt _ (by decide)⟩ f
      = dotRow (m ((c.tc : Thread nD τ).loc main_arg3)) (m ((c.tc : Thread nD τ).loc main_arg5)) (lidx_main_v5 i f) :=
    Finset.sum_congr rfl fun k _ => congrArg₂ (fun a b : EReal => a * b) ((congrFun (V_main_arg3 m c) _).trans (congrArg _ (hrow k))) ((congrFun (V_main_v1 m c) _).trans (congrArg _ (hcol k)))
  have hd : downBlk m c (i 0) (ix3 (0 : Fin 1) f (i 2)) = (m ((c.tc : Thread nD τ).loc main_arg6) : S8x2816x1024.Idx → EReal) (ridx_main_v5 i f) :=
    (congrFun (V_main_v2 m c) _).trans (congrArg _ hdown)
  unfold term hidden
  rw [hg, hu, hd]

end Cert.Proof.Experts

end
-- ==== Proof.TailBody.lean ====
/- What one run of the body does with the buffers it is handed: the rows' two mixers are joined, projected and added, and
   the feed-forward network follows. -/
module

public import proofs.«01_k».proof.Proof.Gen.Kernel2Ideal.Launch
public import proofs.«01_k».proof.Proof.Gen.Kernel2Ideal.Skeleton
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.Proof.Tail

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The rows of the block's table of modulations that the body reads. -/
def mod2 (mt : Vec F S1x1x6x1024 .f32) : Vec F S1x1x1x1024 .f32 := View.ld mt (Rect.unit (s := S1x1x6x1024) ![0, 0, 2, 0] S1x1x1x1024.size inb_S1x1x6x1024_S1x1x1x1024_0_0_2_0)
def mod3 (mt : Vec F S1x1x6x1024 .f32) : Vec F S1x1x1x1024 .f32 := View.ld mt (Rect.unit (s := S1x1x6x1024) ![0, 0, 3, 0] S1x1x1x1024.size inb_S1x1x6x1024_S1x1x1x1024_0_0_3_0)
def mod4 (mt : Vec F S1x1x6x1024 .f32) : Vec F S1x1x1x1024 .f32 := View.ld mt (Rect.unit (s := S1x1x6x1024) ![0, 0, 4, 0] S1x1x1x1024.size inb_S1x1x6x1024_S1x1x1x1024_0_0_4_0)
def mod5 (mt : Vec F S1x1x6x1024 .f32) : Vec F S1x1x1x1024 .f32 := View.ld mt (Rect.unit (s := S1x1x6x1024) ![0, 0, 5, 0] S1x1x1x1024.size inb_S1x1x6x1024_S1x1x1x1024_0_0_5_0)

/-- The two mixers of 128 rows side by side: the gated sum of the two scans, and the four normalized heads. -/
def joined (hf hb : Vec F S1x128x512 .f32) (ga : Vec F S1x128x512 .bf16) (ng : Vec F S1x128 .f32)
    (a0 b0 s0 a1 b1 s1 a2 b2 s2 a3 b3 s3 : Vec F S1x128x128 .bf16) : FVec F S128x1024 .bf16 :=
  concatenate S128x1024 1 [⟨S128x512, k0_pay4 hf hb ga⟩, ⟨S128x128, k0_pay7 a0 b0 ng s0⟩, ⟨S128x128, k0_pay7 a1 b1 ng s1⟩, ⟨S128x128, k0_pay7 a2 b2 ng s2⟩,
    ⟨S128x128, k0_pay7 a3 b3 ng s3⟩] concatenates_S128x512_S128x128_S128x128_S128x128_S128x128_S128x1024_d1

/-- 128 rows after the projection has been added. -/
def added (n : BitVec 32) (y : FVec F S128x1024 .bf16) (ct xl : Vec F S1x128x1024 .f32) (mt : Vec F S1x1x6x1024 .f32) (wo : Vec F S1024x1024 .bf16) : FVec F S128x1024 .f32 :=
  k0_pay23 n y ct xl (mod2 mt) (View.ld wo (Rect.unit (s := S1024x1024) ![0, 0] S1024x1024.size inb_S1024x1024_S1024x1024_0_0))

/-- The rows' input of the feed-forward network: normalized, scaled and shifted. -/
def normed (h : FVec F S128x1024 .f32) (mt : Vec F S1x1x6x1024 .f32) (gf : Vec F S1x1024 .f32) : FVec F S128x1024 .bf16 :=
  k0_pay25 h (View.ld gf (Rect.unit (s := S1x1024) ![0, 0] S1x1024.size inb_S1x1024_S1x1024_0_0)) (mod3 mt) (mod4 mt)

/-- The network's result, modulated. -/
def network (xm : FVec F S128x1024 .bf16) (mt : Vec F S1x1x6x1024 .f32) (wg wu : Vec F S1024x2816 .bf16) (wd : Vec F S2816x1024 .bf16) : FVec F S128x1024 .f32 :=
  k0_pay36 xm (k0_pay34 xm (k0_pay26 (F := F)) (View.ld wg (Rect.unit (s := S1024x2816) ![0, 0] S1024x1408.size inb_S1024x2816_S1024x1408_0_0)) (View.ld wu (Rect.unit (s := S1024x2816) ![0, 0] S1024x1408.size inb_S1024x2816_S1024x1408_0_0))
      (View.ld wd (Rect.unit (s := S2816x1024) ![0, 0] S1408x1024.size inb_S2816x1024_S1408x1024_0_0)))
    (View.ld wg (Rect.unit (s := S1024x2816) ![0, 1408] S1024x1408.size inb_S1024x2816_S1024x1408_0_1408)) (View.ld wu (Rect.unit (s := S1024x2816) ![0, 1408] S1024x1408.size inb_S1024x2816_S1024x1408_0_1408))
    (View.ld wd (Rect.unit (s := S2816x1024) ![1408, 0] S1408x1024.size inb_S2816x1024_S1408x1024_1408_0)) (mod5 mt)

/-- 128 rows of the result. -/
def rows (n : BitVec 32) (y : FVec F S128x1024 .bf16) (ct xl : Vec F S1x128x1024 .f32) (mt : Vec F S1x1x6x1024 .f32) (wo : Vec F S1024x1024 .bf16) (gf : Vec F S1x1024 .f32)
    (wg wu : Vec F S1024x2816 .bf16) (wd : Vec F S2816x1024 .bf16) : FVec F S128x1024 .f32 :=
  addf (added n y ct xl mt wo) (network (normed (added n y ct xl mt wo) mt gf) mt wg wu wd)

/-- The first 128 rows of the block. -/
def joined0 (hf : Vec F S1x256x512 .f32) (hb : Vec F S1x256x512 .f32) (ga : Vec F S1x256x512 .bf16) (o0 : Vec F S1x256x512 .bf16) (o1 : Vec F S1x256x512 .bf16) (sz : Vec F S1x256x512 .bf16) (ng : Vec F S1x128 .f32) : FVec F S128x1024 .bf16 :=
  joined (View.ld hf (Rect.unit (s := S1x256x512) ![0, 0, 0] S1x128x512.size inb_S1x256x512_S1x128x512_0_0_0)) (View.ld hb (Rect.unit (s := S1x256x512) ![0, 0, 0] S1x128x512.size inb_S1x256x512_S1x128x512_0_0_0))
    (View.ld ga (Rect.unit (s := S1x256x512) ![0, 0, 0] S1x128x512.size inb_S1x256x512_S1x128x512_0_0_0)) (View.ld ng (Rect.unit (s := S1x128) ![0, 0] S1x128.size inb_S1x128_S1x128_0_0))
    (View.ld o0 (Rect.unit (s := S1x256x512) ![0, 0, 0] S1x128x128.size inb_S1x256x512_S1x128x128_0_0_0)) (View.ld o1 (Rect.unit (s := S1x256x512) ![0, 0, 0] S1x128x128.size inb_S1x256x512_S1x128x128_0_0_0)) (View.ld sz (Rect.unit (s := S1x256x512) ![0, 0, 0] S1x128x128.size inb_S1x256x512_S1x128x128_0_0_0))
    (View.ld o0 (Rect.unit (s := S1x256x512) ![0, 0, 128] S1x128x128.size inb_S1x256x512_S1x128x128_0_0_128)) (View.ld o1 (Rect.unit (s := S1x256x512) ![0, 0, 128] S1x128x128.size inb_S1x256x512_S1x128x128_0_0_128)) (View.ld sz (Rect.unit (s := S1x256x512) ![0, 0, 128] S1x128x128.size inb_S1x256x512_S1x128x128_0_0_128))
    (View.ld o0 (Rect.unit (s := S1x256x512) ![0, 0, 256] S1x128x128.size inb_S1x256x512_S1x128x128_0_0_256)) (View.ld o1 (Rect.unit (s := S1x256x512) ![0, 0, 256] S1x128x128.size inb_S1x256x512_S1x128x128_0_0_256)) (View.ld sz (Rect.unit (s := S1x256x512) ![0, 0, 256] S1x128x128.size inb_S1x256x512_S1x128x128_0_0_256))
    (View.ld o0 (Rect.unit (s := S1x256x512) ![0, 0, 384] S1x128x128.size inb_S1x256x512_S1x128x128_0_0_384)) (View.ld o1 (Rect.unit (s := S1x256x512) ![0, 0, 384] S1x128x128.size inb_S1x256x512_S1x128x128_0_0_384)) (View.ld sz (Rect.unit (s := S1x256x512) ![0, 0, 384] S1x128x128.size inb_S1x256x512_S1x128x128_0_0_384))
def rows0 (n : BitVec 32) (hf : Vec F S1x256x512 .f32) (hb : Vec F S1x256x512 .f32) (ga : Vec F S1x256x512 .bf16) (o0 : Vec F S1x256x512 .bf16) (o1 : Vec F S1x256x512 .bf16) (sz : Vec F S1x256x512 .bf16) (ct : Vec F S1x256x1024 .f32) (xl : Vec F S1x256x1024 .f32) (mt : Vec F S1x1x6x1024 .f32) (ng : Vec F S1x128 .f32) (wo : Vec F S1024x1024 .bf16) (gf : Vec F S1x1024 .f32) (wg : Vec F S1024x2816 .bf16) (wu : Vec F S1024x2816 .bf16) (wd : Vec F S2816x1024 .bf16) : FVec F S128x1024 .f32 :=
  rows n (joined0 hf hb ga o0 o1 sz ng) (View.ld ct (Rect.unit (s := S1x256x1024) ![0, 0, 0] S1x128x1024.size inb_S1x256x1024_S1x128x1024_0_0_0)) (View.ld xl (Rect.unit (s := S1x256x1024) ![0, 0, 0] S1x128x1024.size inb_S1x256x1024_S1x128x1024_0_0_0)) mt wo gf wg wu wd

/-- The last 128 rows of the block. -/
def joined1 (hf : Vec F S1x256x512 .f32) (hb : Vec F S1x256x512 .f32) (ga : Vec F S1x256x512 .bf16) (o0 : Vec F S1x256x512 .bf16) (o1 : Vec F S1x256x512 .bf16) (sz : Vec F S1x256x512 .bf16) (ng : Vec F S1x128 .f32) : FVec F S128x1024 .bf16 :=
  joined (View.ld hf (Rect.unit (s := S1x256x512) ![0, 128, 0] S1x128x512.size inb_S1x256x512_S1x128x512_0_128_0)) (View.ld hb (Rect.unit (s := S1x256x512) ![0, 128, 0] S1x128x512.size inb_S1x256x512_S1x128x512_0_128_0))
    (View.ld ga (Rect.unit (s := S1x256x512) ![0, 128, 0] S1x128x512.size inb_S1x256x512_S1x128x512_0_128_0)) (View.ld ng (Rect.unit (s := S1x128) ![0, 0] S1x128.size inb_S1x128_S1x128_0_0))
    (View.ld o0 (Rect.unit (s := S1x256x512) ![0, 128, 0] S1x128x128.size inb_S1x256x512_S1x128x128_0_128_0)) (View.ld o1 (Rect.unit (s := S1x256x512) ![0, 128, 0] S1x128x128.size inb_S1x256x512_S1x128x128_0_128_0)) (View.ld sz (Rect.unit (s := S1x256x512) ![0, 128, 0] S1x128x128.size inb_S1x256x512_S1x128x128_0_128_0))
    (View.ld o0 (Rect.unit (s := S1x256x512) ![0, 128, 128] S1x128x128.size inb_S1x256x512_S1x128x128_0_128_128)) (View.ld o1 (Rect.unit (s := S1x256x512) ![0, 128, 128] S1x128x128.size inb_S1x256x512_S1x128x128_0_128_128)) (View.ld sz (Rect.unit (s := S1x256x512) ![0, 128, 128] S1x128x128.size inb_S1x256x512_S1x128x128_0_128_128))
    (View.ld o0 (Rect.unit (s := S1x256x512) ![0, 128, 256] S1x128x128.size inb_S1x256x512_S1x128x128_0_128_256)) (View.ld o1 (Rect.unit (s := S1x256x512) ![0, 128, 256] S1x128x128.size inb_S1x256x512_S1x128x128_0_128_256)) (View.ld sz (Rect.unit (s := S1x256x512) ![0, 128, 256] S1x128x128.size inb_S1x256x512_S1x128x128_0_128_256))
    (View.ld o0 (Rect.unit (s := S1x256x512) ![0, 128, 384] S1x128x128.size inb_S1x256x512_S1x128x128_0_128_384)) (View.ld o1 (Rect.unit (s := S1x256x512) ![0, 128, 384] S1x128x128.size inb_S1x256x512_S1x128x128_0_128_384)) (View.ld sz (Rect.unit (s := S1x256x512) ![0, 128, 384] S1x128x128.size inb_S1x256x512_S1x128x128_0_128_384))
def rows1 (n : BitVec 32) (hf : Vec F S1x256x512 .f32) (hb : Vec F S1x256x512 .f32) (ga : Vec F S1x256x512 .bf16) (o0 : Vec F S1x256x512 .bf16) (o1 : Vec F S1x256x512 .bf16) (sz : Vec F S1x256x512 .bf16) (ct : Vec F S1x256x1024 .f32) (xl : Vec F S1x256x1024 .f32) (mt : Vec F S1x1x6x1024 .f32) (ng : Vec F S1x128 .f32) (wo : Vec F S1024x1024 .bf16) (gf : Vec F S1x1024 .f32) (wg : Vec F S1024x2816 .bf16) (wu : Vec F S1024x2816 .bf16) (wd : Vec F S2816x1024 .bf16) : FVec F S128x1024 .f32 :=
  rows n (joined1 hf hb ga o0 o1 sz ng) (View.ld ct (Rect.unit (s := S1x256x1024) ![0, 128, 0] S1x128x1024.size inb_S1x256x1024_S1x128x1024_0_128_0)) (View.ld xl (Rect.unit (s := S1x256x1024) ![0, 128, 0] S1x128x1024.size inb_S1x256x1024_S1x128x1024_0_128_0)) mt wo gf wg wu wd

/-- The block of 256 rows of the result. -/
def blockOut (n : BitVec 32) (hf : Vec F S1x256x512 .f32) (hb : Vec F S1x256x512 .f32) (ga : Vec F S1x256x512 .bf16) (o0 : Vec F S1x256x512 .bf16) (o1 : Vec F S1x256x512 .bf16) (sz : Vec F S1x256x512 .bf16) (ct : Vec F S1x256x1024 .f32) (xl : Vec F S1x256x1024 .f32) (mt : Vec F S1x1x6x1024 .f32) (ng : Vec F S1x128 .f32) (wo : Vec F S1024x1024 .bf16) (gf : Vec F S1x1024 .f32) (wg : Vec F S1024x2816 .bf16) (wu : Vec F S1024x2816 .bf16) (wd : Vec F S2816x1024 .bf16) : Vec F S1x256x1024 .f32 :=
  shapeCast S1x256x1024 (concatenate S256x1024 0 [⟨S128x1024, rows0 n hf hb ga o0 o1 sz ct xl mt ng wo gf wg wu wd⟩, ⟨S128x1024, rows1 n hf hb ga o0 o1 sz ct xl mt ng wo gf wg wu wd⟩] concatenates_S128x1024_S128x1024_S256x1024_d0) shapeCasts_S256x1024_S1x256x1024

set_option maxHeartbeats 4000000 in
/-- The body runs to its end and hands back the fifteen input blocks as they were. It leaves `blockOut` of them in the
    first output block where the step is one of the context's, in the second elsewhere, and the other as it was. -/
theorem runBody (c : Dev nD) (i : grid0.Coords)
    (M0 : Memref sig .tc .vmem S1x256x512 .f32) (h0 : M0.IsWhole)
    (M1 : Memref sig .tc .vmem S1x256x512 .f32) (h1 : M1.IsWhole)
    (M2 : Memref sig .tc .vmem S1x256x512 .bf16) (h2 : M2.IsWhole)
    (M3 : Memref sig .tc .vmem S1x256x512 .bf16) (h3 : M3.IsWhole)
    (M4 : Memref sig .tc .vmem S1x256x512 .bf16) (h4 : M4.IsWhole)
    (M5 : Memref sig .tc .vmem S1x256x512 .bf16) (h5 : M5.IsWhole)
    (M6 : Memref sig .tc .vmem S1x256x1024 .f32) (h6 : M6.IsWhole)
    (M7 : Memref sig .tc .vmem S1x256x1024 .f32) (h7 : M7.IsWhole)
    (M8 : Memref sig .tc .vmem S1x1x6x1024 .f32) (h8 : M8.IsWhole)
    (M9 : Memref sig .tc .vmem S1x128 .f32) (h9 : M9.IsWhole)
    (M10 : Memref sig .tc .vmem S1024x1024 .bf16) (h10 : M10.IsWhole)
    (M11 : Memref sig .tc .vmem S1x1024 .f32) (h11 : M11.IsWhole)
    (M12 : Memref sig .tc .vmem S1024x2816 .bf16) (h12 : M12.IsWhole)
    (M13 : Memref sig .tc .vmem S1024x2816 .bf16) (h13 : M13.IsWhole)
    (M14 : Memref sig .tc .vmem S2816x1024 .bf16) (h14 : M14.IsWhole)
    (M15 : Memref sig .tc .vmem S1x256x1024 .f32) (h15 : M15.IsWhole)
    (M16 : Memref sig .tc .vmem S1x256x1024 .f32) (h16 : M16.IsWhole)
    (hf : Vec F S1x256x512 .f32) (hb : Vec F S1x256x512 .f32) (ga : Vec F S1x256x512 .bf16) (o0 : Vec F S1x256x512 .bf16) (o1 : Vec F S1x256x512 .bf16) (sz : Vec F S1x256x512 .bf16) (ct : Vec F S1x256x1024 .f32) (xl : Vec F S1x256x1024 .f32) (mt : Vec F S1x1x6x1024 .f32) (ng : Vec F S1x128 .f32) (wo : Vec F S1024x1024 .bf16) (gf : Vec F S1x1024 .f32) (wg : Vec F S1024x2816 .bf16) (wu : Vec F S1024x2816 .bf16) (wd : Vec F S2816x1024 .bf16) (d15 d16 : Vec F S1x256x1024 .f32)
    (E : Set ℕ) (K : PUnit → sProp 𝕄) :
    iprop(owns (c : Thread nD τ) M0 fullShare hf ∗ owns (c : Thread nD τ) M1 fullShare hb ∗ owns (c : Thread nD τ) M2 fullShare ga ∗ owns (c : Thread nD τ) M3 fullShare o0 ∗ owns (c : Thread nD τ) M4 fullShare o1 ∗ owns (c : Thread nD τ) M5 fullShare sz ∗ owns (c : Thread nD τ) M6 fullShare ct ∗ owns (c : Thread nD τ) M7 fullShare xl ∗ owns (c : Thread nD τ) M8 fullShare mt ∗ owns (c : Thread nD τ) M9 fullShare ng ∗ owns (c : Thread nD τ) M10 fullShare wo ∗ owns (c : Thread nD τ) M11 fullShare gf ∗ owns (c : Thread nD τ) M12 fullShare wg ∗ owns (c : Thread nD τ) M13 fullShare wu ∗ owns (c : Thread nD τ) M14 fullShare wd ∗ owns (c : Thread nD τ) M15 fullShare d15 ∗ owns (c : Thread nD τ) M16 fullShare d16
        ∗ (iprop(owns (c : Thread nD τ) M0 fullShare hf ∗ owns (c : Thread nD τ) M1 fullShare hb ∗ owns (c : Thread nD τ) M2 fullShare ga ∗ owns (c : Thread nD τ) M3 fullShare o0 ∗ owns (c : Thread nD τ) M4 fullShare o1 ∗ owns (c : Thread nD τ) M5 fullShare sz ∗ owns (c : Thread nD τ) M6 fullShare ct ∗ owns (c : Thread nD τ) M7 fullShare xl ∗ owns (c : Thread nD τ) M8 fullShare mt ∗ owns (c : Thread nD τ) M9 fullShare ng ∗ owns (c : Thread nD τ) M10 fullShare wo ∗ owns (c : Thread nD τ) M11 fullShare gf ∗ owns (c : Thread nD τ) M12 fullShare wg ∗ owns (c : Thread nD τ) M13 fullShare wu ∗ owns (c : Thread nD τ) M14 fullShare wd
            ∗ owns (c : Thread nD τ) M15 fullShare (if k0_cond1 i = 1#1 then blockOut (BitVec.ofNat 32 (i 1).val) hf hb ga o0 o1 sz ct xl mt ng wo gf wg wu wd else d15)
            ∗ owns (c : Thread nD τ) M16 fullShare (if k0_cond2 i = 1#1 then blockOut (BitVec.ofNat 32 (i 1).val) hf hb ga o0 o1 sz ct xl mt ng wo gf wg wu wd else d16)) -∗ K ⟨⟩))
      ⊢ wp frame (wpE (defs₀ (F := F)) Variants.none c none) E
          (cc0_l0_tail i M0 h0 M1 h1 M2 h2 M3 h3 M4 h4 M5 h5 M6 h6 M7 h7 M8 h8 M9 h9 M10 h10 M11 h11 M12 h12 M13 h13 M14 h14 M15 h15 M16 h16) K := by
  simp only [cc0_l0_tail_eq_skeleton]; unfold cc0_l0_tail_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  sl_exec
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr; swap; · iexact H15
    ipureintro
    split
    · exact View.read_writes_full _ _ _ _ _
    · rfl
  iexists _; isplitr; swap; · iexact H16
  ipureintro
  split
  · exact View.read_writes_full _ _ _ _ _
  · rfl

end Cert.Proof.Tail

end
-- ==== Proof.TailRun.lean ====
/- The pipeline of the rows' blocks: every launch runs to its end, leaves the arguments as they were and every semaphore at
   zero, and says what each step leaves in the two result buffers. -/
module

public import proofs.«01_k».proof.Proof.TailBody
public import proofs.«01_k».proof.Proof.Gen.Kernel2Ideal.Frame
public import Idealize.ShloMosaic.Lib.Pipeline.Value
public import Idealize.ShloMosaic.Lib.Pipeline.FrameBody

@[expose] public section

set_option maxRecDepth 16384

noncomputable section

namespace Cert.Proof.Tail

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of results of step `t`. -/
def outBlk (c : Dev nD) (t : Fin grid0.N) : Vec F S1x256x1024 .f32 :=
  blockOut (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What a step leaves in a window's buffer it finds at `Y`: an input's as it was; its block of results in the context's
    buffer at a step of the context, in the other rows' buffer elsewhere. -/
def leaves (c : Dev nD) (w : Fin 17) (t : Fin grid0.N) : (Y X : (spec0 w).block.Idx → Elt F (spec0 w).elt) → Prop :=
  match w with
  | ⟨15, _⟩ => fun Y X => X = if k0_cond1 (grid0.coords t) = 1#1 then outBlk m c t else Y
  | ⟨16, _⟩ => fun Y X => X = if k0_cond2 (grid0.coords t) = 1#1 then outBlk m c t else Y
  | _ => fun Y X => X = Y

/-- The pipeline's proof data: the arrays as the region finds them, and what a step leaves. -/
def rdat (c : Dev nD) : Pipeline.RDat τ (Elt F) Unit ℕ (UR sig nD τ) ℕ cfg0 c where
  A w := V m c (Pipeline.arrRef spec0 w)
  after w t Y X := leaves m c w t Y X
  Φ _ := Pipeline.ΦA spec0 c
  q _ := fullShare
  owed _ := 0

/-- What a step leaves in result buffer 0 is computed from its input blocks. -/
theorem stepLeaves0 (c : Dev nD) (t : Fin grid0.N) (x0 x1 x2 x3 x4 x5 x6 x7 x8 x9 x10 x11 x12 x13 x14 d) (e0 : x0 = iblk m c 0 t) (e1 : x1 = iblk m c 1 t) (e2 : x2 = iblk m c 2 t) (e3 : x3 = iblk m c 3 t) (e4 : x4 = iblk m c 4 t) (e5 : x5 = iblk m c 5 t) (e6 : x6 = iblk m c 6 t) (e7 : x7 = iblk m c 7 t) (e8 : x8 = iblk m c 8 t) (e9 : x9 = iblk m c 9 t) (e10 : x10 = iblk m c 10 t) (e11 : x11 = iblk m c 11 t) (e12 : x12 = iblk m c 12 t) (e13 : x13 = iblk m c 13 t) (e14 : x14 = iblk m c 14 t) :
    leaves m c 15 t d (if k0_cond1 (grid0.coords t) = 1#1 then blockOut (BitVec.ofNat 32 (grid0.coords t 1).val) x0 x1 x2 x3 x4 x5 x6 x7 x8 x9 x10 x11 x12 x13 x14 else d) := by
  subst e0 e1 e2 e3 e4 e5 e6 e7 e8 e9 e10 e11 e12 e13 e14
  exact rfl

/-- What a step leaves in result buffer 1 is computed from its input blocks. -/
theorem stepLeaves1 (c : Dev nD) (t : Fin grid0.N) (x0 x1 x2 x3 x4 x5 x6 x7 x8 x9 x10 x11 x12 x13 x14 d) (e0 : x0 = iblk m c 0 t) (e1 : x1 = iblk m c 1 t) (e2 : x2 = iblk m c 2 t) (e3 : x3 = iblk m c 3 t) (e4 : x4 = iblk m c 4 t) (e5 : x5 = iblk m c 5 t) (e6 : x6 = iblk m c 6 t) (e7 : x7 = iblk m c 7 t) (e8 : x8 = iblk m c 8 t) (e9 : x9 = iblk m c 9 t) (e10 : x10 = iblk m c 10 t) (e11 : x11 = iblk m c 11 t) (e12 : x12 = iblk m c 12 t) (e13 : x13 = iblk m c 13 t) (e14 : x14 = iblk m c 14 t) :
    leaves m c 16 t d (if k0_cond2 (grid0.coords t) = 1#1 then blockOut (BitVec.ofNat 32 (grid0.coords t 1).val) x0 x1 x2 x3 x4 x5 x6 x7 x8 x9 x10 x11 x12 x13 x14 else d) := by
  subst e0 e1 e2 e3 e4 e5 e6 e7 e8 e9 e10 e11 e12 e13 e14
  exact rfl

/-- Every step of the pipeline runs from the buffers it is handed to buffers at the contents the proof data say. -/
theorem body_obligation (c : Dev nD) : (rdat m c).BodyObligation (defs₀ (F := F)) Variants.none () Set.univ := by
  intro t Y hY
  obtain ⟨d0, e0⟩ := Pipeline.RDat.finds_in_eq_fetched (rdat m c) 0 rfl (fun _ _ _ => rfl) (fun _ _ _ h => h) t (Y 0) (hY 0)
  have f0 : Y 0 = iblk m c 0 t := e0
  obtain ⟨d1, e1⟩ := Pipeline.RDat.finds_in_eq_fetched (rdat m c) 1 rfl (fun _ _ _ => rfl) (fun _ _ _ h => h) t (Y 1) (hY 1)
  have f1 : Y 1 = iblk m c 1 t := e1
  obtain ⟨d2, e2⟩ := Pipeline.RDat.finds_in_eq_fetched (rdat m c) 2 rfl (fun _ _ _ => rfl) (fun _ _ _ h => h) t (Y 2) (hY 2)
  have f2 : Y 2 = iblk m c 2 t := e2
  obtain ⟨d3, e3⟩ := Pipeline.RDat.finds_in_eq_fetched (rdat m c) 3 rfl (fun _ _ _ => rfl) (fun _ _ _ h => h) t (Y 3) (hY 3)
  have f3 : Y 3 = iblk m c 3 t := e3
  obtain ⟨d4, e4⟩ := Pipeline.RDat.finds_in_eq_fetched (rdat m c) 4 rfl (fun _ _ _ => rfl) (fun _ _ _ h => h) t (Y 4) (hY 4)
  have f4 : Y 4 = iblk m c 4 t := e4
  obtain ⟨d5, e5⟩ := Pipeline.RDat.finds_in_eq_fetched (rdat m c) 5 rfl (fun _ _ _ => rfl) (fun _ _ _ h => h) t (Y 5) (hY 5)
  have f5 : Y 5 = iblk m c 5 t := e5
  obtain ⟨d6, e6⟩ := Pipeline.RDat.finds_in_eq_fetched (rdat m c) 6 rfl (fun _ _ _ => rfl) (fun _ _ _ h => h) t (Y 6) (hY 6)
  have f6 : Y 6 = iblk m c 6 t := e6
  obtain ⟨d7, e7⟩ := Pipeline.RDat.finds_in_eq_fetched (rdat m c) 7 rfl (fun _ _ _ => rfl) (fun _ _ _ h => h) t (Y 7) (hY 7)
  have f7 : Y 7 = iblk m c 7 t := e7
  obtain ⟨d8, e8⟩ := Pipeline.RDat.finds_in_eq_fetched (rdat m c) 8 rfl (fun _ _ _ => rfl) (fun _ _ _ h => h) t (Y 8) (hY 8)
  have f8 : Y 8 = iblk m c 8 t := e8
  obtain ⟨d9, e9⟩ := Pipeline.RDat.finds_in_eq_fetched (rdat m c) 9 rfl (fun _ _ _ => rfl) (fun _ _ _ h => h) t (Y 9) (hY 9)
  have f9 : Y 9 = iblk m c 9 t := e9
  obtain ⟨d10, e10⟩ := Pipeline.RDat.finds_in_eq_fetched (rdat m c) 10 rfl (fun _ _ _ => rfl) (fun _ _ _ h => h) t (Y 10) (hY 10)
  have f10 : Y 10 = iblk m c 10 t := e10
  obtain ⟨d11, e11⟩ := Pipeline.RDat.finds_in_eq_fetched (rdat m c) 11 rfl (fun _ _ _ => rfl) (fun _ _ _ h => h) t (Y 11) (hY 11)
  have f11 : Y 11 = iblk m c 11 t := e11
  obtain ⟨d12, e12⟩ := Pipeline.RDat.finds_in_eq_fetched (rdat m c) 12 rfl (fun _ _ _ => rfl) (fun _ _ _ h => h) t (Y 12) (hY 12)
  have f12 : Y 12 = iblk m c 12 t := e12
  obtain ⟨d13, e13⟩ := Pipeline.RDat.finds_in_eq_fetched (rdat m c) 13 rfl (fun _ _ _ => rfl) (fun _ _ _ h => h) t (Y 13) (hY 13)
  have f13 : Y 13 = iblk m c 13 t := e13
  obtain ⟨d14, e14⟩ := Pipeline.RDat.finds_in_eq_fetched (rdat m c) 14 rfl (fun _ _ _ => rfl) (fun _ _ _ h => h) t (Y 14) (hY 14)
  have f14 : Y 14 = iblk m c 14 t := e14
  rw [bigSep_W0, bigSep_W0]
  unfold defs₀; rw [Defs.onTc_tc]
  rw [show (rdat m c).Φ t.castSucc = Pipeline.ΦA spec0 c from rfl, show (rdat m c).Φ t.succ = Pipeline.ΦA spec0 c from rfl]
  iintro ⟨HA, Ho, H0, H1, H2, H3, H4, H5, H6, H7, H8, H9, H10, H11, H12, H13, H14, H15, H16⟩
  iapply (runBody c (grid0.coords t) _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  isplitl [HA]; · iexact HA
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact stepLeaves0 m c t _ _ _ _ _ _ _ _ _ _ _ _ _ _ _ _ f0 f1 f2 f3 f4 f5 f6 f7 f8 f9 f10 f11 f12 f13 f14
  iexists _; isplitr; swap; · iexact H16
  ipureintro; exact stepLeaves1 m c t _ _ _ _ _ _ _ _ _ _ _ _ _ _ _ _ f0 f1 f2 f3 f4 f5 f6 f7 f8 f9 f10 f11 f12 f13 f14

set_option backward.isDefEq.respectTransparency.types false in
/-- The launch: it ends, with the arrays as the proof data say and every semaphore at zero. -/
theorem run : θ_run defs (onTc (τ := τ) (main (F := F))) (s₀ m ρ) (fun r =>
    Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl) (howed := fun _ _ => rfl) (V := V m)
    (hmain := hmain m Variants.none) (hA := fun _ _ => rfl) (hΦ := fun _ _ => rfl)

/-- After a run the arguments are as they were. -/
theorem args_kept (r : PUnit × MemSt nD τ sig (Elt F)) (hr : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  have hrest := (hr c).2
  refine ⟨(hr.arr_in c (0 : Fin 17) rfl).trans (V_main_arg0 m c),
    (hr.arr_in c (1 : Fin 17) rfl).trans (V_main_arg1 m c),
    (hr.arr_in c (2 : Fin 17) rfl).trans (V_main_arg2 m c),
    (hr.arr_in c (3 : Fin 17) rfl).trans (V_main_arg3 m c),
    (hr.arr_in c (4 : Fin 17) rfl).trans (V_main_arg4 m c),
    (hr.arr_in c (5 : Fin 17) rfl).trans (V_main_arg5 m c),
    (hr.arr_in c (6 : Fin 17) rfl).trans (V_main_arg6 m c),
    (hr.arr_in c (7 : Fin 17) rfl).trans (V_main_arg7 m c),
    (hr.arr_in c (8 : Fin 17) rfl).trans (V_main_arg8 m c),
    (hrest main_arg9 ?_).trans (V_main_arg9 m c),
    (hrest main_arg10 ?_).trans (V_main_arg10 m c),
    (hrest main_arg11 ?_).trans (V_main_arg11 m c),
    (hrest main_arg12 ?_).trans (V_main_arg12 m c),
    (hrest main_arg13 ?_).trans (V_main_arg13 m c),
    (hrest main_arg14 ?_).trans (V_main_arg14 m c)⟩
  all_goals exact Pipeline.mem_restRefs_of (win := spec0) _ (by decide) (by decide)

/-- The frame: a launch ends, its arguments as they were, its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r (hr : _ ∧ _) => ⟨args_kept m r hr.1, hr.2⟩) (run m ρ)

end Cert.Proof.Tail

end
-- ==== Proof.TailArray.lean ====
/- What the two result arrays hold after the run: every row is in the block its step computed. -/
module

public import proofs.«01_k».proof.Proof.TailRun
public import proofs.«01_k».proof.Proof.Gen.Kernel2Ideal.Points
public import Idealize.ShloMosaic.Lib.Pipeline.ArrRel
public import Idealize.ShloMosaic.Lib.ValueLayout

@[expose] public section

set_option maxRecDepth 16384

noncomputable section

namespace Cert.Proof.Tail

open Cert.Kernel2Ideal Cert.Kernel2Ideal.Gen
open Idealize.ShloMosaic
open Idealize.ShloMosaic.TcCoe Idealize.ShloMosaic.ValueIdx
open Idealize.SL Idealize.SL.Sem

variable {F : FTy → Type} [FloatOps F]
variable (m : (ℓ : Loc nD τ sig) → Buf (Elt F) ℓ)

/-! ### Where a step's blocks lie -/

theorem coord_1 : ∀ t : Fin grid0.N, (grid0.coords t 1).val = t.val % 9 := by decide +kernel
theorem at_0 : ∀ t : Fin grid0.N, cc0_transform_0 (grid0.coords t) = ![t.val / 9, t.val % 9, 0] := by decide +kernel
theorem at_1 : ∀ t : Fin grid0.N, cc0_transform_1 (grid0.coords t) = ![t.val / 9, t.val % 9, 0] := at_0
theorem at_2 : ∀ t : Fin grid0.N, cc0_transform_2 (grid0.coords t) = ![t.val / 9, t.val % 9, 0] := at_0
theorem at_3 : ∀ t : Fin grid0.N, cc0_transform_3 (grid0.coords t) = ![t.val / 9, t.val % 9, 0] := at_0
theorem at_4 : ∀ t : Fin grid0.N, cc0_transform_4 (grid0.coords t) = ![t.val / 9, t.val % 9, 0] := at_0
theorem at_5 : ∀ t : Fin grid0.N, cc0_transform_5 (grid0.coords t) = ![t.val / 9, t.val % 9, 0] := at_0
theorem at_6 : ∀ t : Fin grid0.N, cc0_transform_6 (grid0.coords t) = ![t.val / 9, 0, 0] := by decide +kernel
theorem at_7 : ∀ t : Fin grid0.N, cc0_transform_7 (grid0.coords t) = ![t.val / 9, t.val % 9 - 1, 0] := by decide +kernel
theorem at_8 : ∀ t : Fin grid0.N, cc0_transform_8 (grid0.coords t) = ![t.val / 9, if t.val % 9 = 0 then 0 else 1, 0, 0] := by decide +kernel
theorem at_15 : ∀ t : Fin grid0.N, cc0_transform_15 (grid0.coords t) = ![t.val / 9, 0, 0] := by decide +kernel
theorem at_16 : ∀ t : Fin grid0.N, cc0_transform_16 (grid0.coords t) = ![t.val / 9, t.val % 9 - 1, 0] := by decide +kernel

/-- The first step of each sequence is the context's, the others are not. -/
theorem cond1_iff : ∀ t : Fin grid0.N, k0_cond1 (grid0.coords t) = 1#1 ↔ t.val % 9 = 0 := by decide +kernel
theorem cond2_iff : ∀ t : Fin grid0.N, k0_cond2 (grid0.coords t) = 1#1 ↔ t.val % 9 ≠ 0 := by decide +kernel
theorem first_iff : ∀ t : Fin grid0.N, Scalar.cmpi .slt (BitVec.ofNat 32 (grid0.coords t 1).val) 1#32 = 1#1 ↔ t.val % 9 = 0 := by decide +kernel

/-- Where a place of the context's result block lies in its array. -/
abbrev ctxIx (b : Fin 8) (j : S1x256x1024.Idx) : S8x256x1024.Idx := ix3 b (j 1) (j 2)
/-- Where a place of a step's block of the other rows' results lies in its array. -/
abbrev latIx (b : Fin 8) (k : Fin 8) (j : S1x256x1024.Idx) : S8x2048x1024.Idx :=
  ix3 b (⟨k.val * 256 + (j 1).val, by have h : (j 1).val < 256 := (j 1).isLt; omega⟩ : Fin 2048) (j 2)

/-- The sequence of step `t`. -/
abbrev seqOf (t : Fin grid0.N) : Fin 8 := ⟨t.val / 9, by have h : t.val < 72 := t.isLt; omega⟩
/-- The block of the other rows of step `t`. -/
abbrev latOf (t : Fin grid0.N) : Fin 8 := ⟨t.val % 9 - 1, by omega⟩
/-- The context's step of sequence `b`, and the step of its block `k` of the other rows. -/
abbrev ctxStep (b : Fin 8) : Fin grid0.N := ⟨9 * b.val, show 9 * b.val < 72 by omega⟩
abbrev latStep (b k : Fin 8) : Fin grid0.N := ⟨9 * b.val + 1 + k.val, show 9 * b.val + 1 + k.val < 72 by omega⟩

theorem emb_15 (t : Fin grid0.N) (j : S1x256x1024.Idx) : ((cfg0.win 15).blk t).view.emb j = ctxIx (seqOf t) j := by
  refine funext fun a => Fin.ext ?_
  refine (Pipeline.Window.rect_emb_val (cfg0.win 15) t j a rfl).trans ?_
  refine (congrArg (fun e : Fin 3 → ℕ => e a * _ + _) (at_15 t)).trans ?_
  match a with
  | ⟨0, _⟩ => show t.val / 9 * 1 + (j 0).val = t.val / 9; have h0 : (j 0).val < 1 := (j 0).isLt; omega
  | ⟨1, _⟩ => show 0 * 256 + (j 1).val = (j 1).val; omega
  | ⟨2, _⟩ => show 0 * 1024 + (j 2).val = (j 2).val; omega

theorem emb_16 (t : Fin grid0.N) (j : S1x256x1024.Idx) : ((cfg0.win 16).blk t).view.emb j = latIx (seqOf t) (latOf t) j := by
  refine funext fun a => Fin.ext ?_
  refine (Pipeline.Window.rect_emb_val (cfg0.win 16) t j a rfl).trans ?_
  refine (congrArg (fun e : Fin 3 → ℕ => e a * _ + _) (at_16 t)).trans ?_
  match a with
  | ⟨0, _⟩ => show t.val / 9 * 1 + (j 0).val = t.val / 9; have h0 : (j 0).val < 1 := (j 0).isLt; omega
  | ⟨1, _⟩ => rfl
  | ⟨2, _⟩ => show 0 * 1024 + (j 2).val = (j 2).val; omega

/-- The context's results. -/
def ctxOut (c : Dev nD) (i : S8x256x1024.Idx) : Elt F .f32 := outBlk m c (ctxStep (i 0)) (ix3 (0 : Fin 1) (i 1) (i 2))
/-- The other rows' results. -/
def latOut (c : Dev nD) (i : S8x2048x1024.Idx) : Elt F .f32 :=
  outBlk m c (latStep (i 0) ⟨(i 1).val / 256, by have h : (i 1).val < 2048 := (i 1).isLt; omega⟩)
    (ix3 (0 : Fin 1) (⟨(i 1).val % 256, Nat.mod_lt _ (by decide)⟩ : Fin 256) (i 2))

theorem place_eq (j : S1x256x1024.Idx) : (ix3 (0 : Fin 1) (j 1) (j 2) : S1x256x1024.Idx) = j := by
  funext a
  match a with
  | ⟨0, _⟩ => exact Subsingleton.elim (α := Fin 1) _ _
  | ⟨1, _⟩ => rfl
  | ⟨2, _⟩ => rfl

theorem latOut_latIx (c : Dev nD) (b k : Fin 8) (j : S1x256x1024.Idx) : latOut m c (latIx b k j) = outBlk m c (latStep b k) j := by
  have h1 : (j 1).val < 256 := (j 1).isLt
  have hk : (⟨(k.val * 256 + (j 1).val) / 256, by omega⟩ : Fin 8) = k := Fin.ext (show (k.val * 256 + (j 1).val) / 256 = k.val by omega)
  have hr : (⟨(k.val * 256 + (j 1).val) % 256, Nat.mod_lt _ (by decide)⟩ : Fin 256) = j 1 := Fin.ext (show (k.val * 256 + (j 1).val) % 256 = (j 1).val by omega)
  exact congrArg₂ (fun k r => outBlk m c (latStep b k) r) hk ((congrArg (fun r : Fin 256 => (ix3 (0 : Fin 1) r (j 2) : S1x256x1024.Idx)) hr).trans (place_eq j))

/-- What a step leaves in the context's result buffer is the block of its sequence's first step. -/
theorem leaves_15 (c : Dev nD) : ∀ (n : ℕ) (hn : n < grid0.N) (X), (rdat m c).Leaves 15 ⟨n, hn⟩ X → X = outBlk m c (ctxStep (seqOf ⟨n, hn⟩)) := by
  intro n
  induction n with
  | zero =>
    intro hn X hX
    obtain ⟨Y, hY, hXY⟩ := hX
    exact ((show X = ite _ _ _ from hXY).trans (if_pos ((cond1_iff ⟨0, hn⟩).mpr rfl))).trans (congrArg (outBlk m c) (Fin.ext (show 0 = 9 * (0 / 9) from rfl)))
  | succ n ih =>
    intro hn X hX
    obtain ⟨Y, hY, hXY⟩ := hX
    by_cases hv : (n + 1) % 9 = 0
    · refine ((show X = ite _ _ _ from hXY).trans (if_pos ((cond1_iff ⟨n + 1, hn⟩).mpr hv))).trans (congrArg (outBlk m c) (Fin.ext ?_))
      show n + 1 = 9 * ((n + 1) / 9)
      omega
    have hX' : X = Y := (show X = ite _ _ _ from hXY).trans (if_neg fun h => hv ((cond1_iff ⟨n + 1, hn⟩).mp h))
    have hE : ctxStep (seqOf ⟨n + 1, hn⟩) = ctxStep (seqOf ⟨n, Nat.lt_of_succ_lt hn⟩) := Fin.ext (show 9 * ((n + 1) / 9) = 9 * (n / 9) by omega)
    rw [hX', hE]
    rcases ((rdat m c).finds_of_pos (w := 15) (t := ⟨n + 1, hn⟩) rfl (Nat.succ_ne_zero n) Y).mp hY with hf | hL
    · exfalso
      have h8 : n % 9 = 8 := (flush0_15 ⟨n, Nat.lt_of_succ_lt hn⟩).mp hf
      omega
    · exact ih _ Y hL

/-- The other rows' result block is written back at every step that is not the context's, and only there. -/
theorem flush_16 : ∀ t : Fin grid0.N, (cfg0.win 16).flush t = true ↔ t.val % 9 ≠ 0 := by
  intro t
  have ht : t.val < 72 := t.isLt
  have hix : ∀ u : Fin grid0.N, (cfg0.win 16).index u = ![u.val / 9, u.val % 9 - 1, 0] := at_16
  unfold Pipeline.Window.flush
  rw [Bool.and_eq_true, Bool.or_eq_true, decide_eq_true_iff, decide_eq_true_iff]
  constructor
  · rintro ⟨-, h | ⟨h, hne⟩⟩ h0
    · have h' : t.val + 1 = 72 := h
      omega
    · refine hne ((hix _).trans (Eq.trans ?_ (hix _).symm))
      have e1 : (t.val + 1) / 9 = t.val / 9 := by omega
      have e2 : (t.val + 1) % 9 - 1 = t.val % 9 - 1 := by omega
      show ![(t.val + 1) / 9, (t.val + 1) % 9 - 1, 0] = _
      rw [e1, e2]
  · intro h0
    refine ⟨rfl, ?_⟩
    by_cases hl : t.val + 1 = 72
    · exact .inl hl
    refine .inr ⟨show t.val + 1 < 72 by omega, fun he => ?_⟩
    have he' : (![(t.val + 1) / 9, (t.val + 1) % 9 - 1, 0] : Fin 3 → ℕ) = ![t.val / 9, t.val % 9 - 1, 0] := (hix ⟨t.val + 1, _⟩).symm.trans (he.trans (hix t))
    have a0 : (t.val + 1) / 9 = t.val / 9 := congrFun he' 0
    have a1 : (t.val + 1) % 9 - 1 = t.val % 9 - 1 := congrFun he' 1
    omega

/-- After the run the first result array holds the context's results. -/
theorem ctx_at (c : Dev nD) (r : PUnit × MemSt nD τ sig (Elt F)) (hpost : Pipeline.RDat.FramePost cfg0 (rdat m) (V m) r) (i : S8x256x1024.Idx) :
    r.2.mem ((c.tc : Thread nD τ).loc main_v6_0) i = ctxOut m c i := by
  obtain ⟨after, hL, hA⟩ := Pipeline.RDat.FramePost.exists_exact hpost c
  have hb : (i 0).val < 8 := (i 0).isLt
  let u : Fin grid0.N := ⟨9 * (i 0).val + 8, show 9 * (i 0).val + 8 < 72 by omega⟩
  have hu : (cfg0.win 15).flush u = true := (flush0_15 u).mpr (show (9 * (i 0).val + 8) % 9 = 8 by omega)
  refine (congrFun (hA 15) i).trans ?_
  refine Pipeline.Dat.arrAt_forall_of_flushed ((rdat m c).withAfter after) 15 (fun i v => v = ctxOut m c i) ?_ _ u i u.isLt hu ?_
  · intro t' hf y
    have hx : after 15 t' = _ := leaves_15 m c t'.val t'.isLt _ (hL 15 t' hf)
    refine Eq.trans ?_ (congrArg (ctxOut m c) (emb_15 t' y)).symm
    refine (congrFun hx y).trans (congrArg (outBlk m c (ctxStep (seqOf t'))) (place_eq y).symm)
  · refine Finset.mem_map.mpr ⟨ix3 (0 : Fin 1) (i 1) (i 2), Finset.mem_univ _, ?_⟩
    refine (emb_15 u _).trans ?_
    funext a
    match a with
    | ⟨0, _⟩ => exact Fin.ext (show (9 * (i 0).val + 8) / 9 = (i 0).val by omega)
    | ⟨1, _⟩ => rfl
    | ⟨2, _⟩ => rfl

/-- After the run the second result array holds the other rows' results. -/
theorem lat_at (c : Dev nD) (r : PUnit × MemSt nD τ sig (Elt F)) (hpost : Pipeline.RDat.FramePost cfg0 (rdat m) (V m) r) (i : S8x2048x1024.Idx) :
    r.2.mem ((c.tc : Thread nD τ).loc main_v6_1) i = latOut m c i := by
  obtain ⟨after, hL, hA⟩ := Pipeline.RDat.FramePost.exists_exact hpost c
  have hb : (i 0).val < 8 := (i 0).isLt
  have hi : (i 1).val < 2048 := (i 1).isLt
  let u : Fin grid0.N := ⟨9 * (i 0).val + 1 + (i 1).val / 256, show 9 * (i 0).val + 1 + (i 1).val / 256 < 72 by omega⟩
  have hu : (cfg0.win 16).flush u = true := (flush_16 u).mpr (show (9 * (i 0).val + 1 + (i 1).val / 256) % 9 ≠ 0 by omega)
  refine (congrFun (hA 16) i).trans ?_
  refine Pipeline.Dat.arrAt_forall_of_flushed ((rdat m c).withAfter after) 16 (fun i v => v = latOut m c i) ?_ _ u i u.isLt hu ?_
  · intro t' hf y
    have h0 : t'.val % 9 ≠ 0 := (flush_16 t').mp hf
    obtain ⟨Y, hY, hXY⟩ := hL 16 t' hf
    have hx : after 16 t' = outBlk m c t' := (show after 16 t' = ite _ _ _ from hXY).trans (if_pos ((cond2_iff t').mpr h0))
    refine Eq.trans ?_ (congrArg (latOut m c) (emb_16 t' y)).symm
    refine Eq.trans ?_ (latOut_latIx m c _ _ y).symm
    have ht : t' = latStep (seqOf t') (latOf t') := Fin.ext (show t'.val = 9 * (t'.val / 9) + 1 + (t'.val % 9 - 1) by omega)
    exact (congrFun hx y).trans (congrArg (fun t => outBlk m c t y) ht)
  · refine Finset.mem_map.mpr ⟨ix3 (0 : Fin 1) (⟨(i 1).val % 256, Nat.mod_lt _ (by decide)⟩ : Fin 256) (i 2), Finset.mem_univ _, ?_⟩
    refine (emb_16 u _).trans ?_
    funext a
    match a with
    | ⟨0, _⟩ => exact Fin.ext (show (9 * (i 0).val + 1 + (i 1).val / 256) / 9 = (i 0).val by omega)
    | ⟨1, _⟩ => exact Fin.ext (show ((9 * (i 0).val + 1 + (i 1).val / 256) % 9 - 1) * 256 + (i 1).val % 256 = (i 1).val by omega)
    | ⟨2, _⟩ => rfl

end Cert.Proof.Tail

end
-- ==== Proof.TailRow.lean ====
/- One row of the layer's tail, in ideal arithmetic: the two mixers joined, the projection added, and the modulated
   feed-forward network. -/
module

public import Idealize.ShloMosaic.PureOps.Ideal.Laws

@[expose] public section

noncomputable section

namespace Cert.Proof.Tail

open Idealize.ShloMosaic
open scoped BigOperators

/-- Place `l` of the head that `k` belongs to. -/
abbrev inHead (k : Fin 512) (l : Fin 128) : Fin 512 := ⟨k.val / 128 * 128 + l.val, by omega⟩

/-- The heads of a row, each divided by its root mean square, scaled and gated. -/
def headRow (o z : Fin 512 → EReal) (g : Fin 128 → EReal) (k : Fin 512) : EReal :=
  o k * Ideal.rsqrt (Ideal.div (∑ l : Fin 128, o (inHead k l) * o (inHead k l)) (Ideal.ofBits .f32 0x43000000#32) + Ideal.ofBits .f32 0x358637BD#32)
    * g ⟨k.val % 128, Nat.mod_lt _ (by decide)⟩ * z k

/-- Two halves of a row side by side. -/
def joinRow (a h : Fin 512 → EReal) (k : Fin 1024) : EReal :=
  if hk : k.val < 512 then a ⟨k.val, hk⟩ else h ⟨k.val - 512, by omega⟩

/-- A row with its modulated projection added. -/
def addRow (x y m2 : Fin 1024 → EReal) (wo : Fin 1024 → Fin 1024 → EReal) (n : Fin 1024) : EReal :=
  x n + m2 n * ∑ k : Fin 1024, y k * wo k n

/-- A row divided by its root mean square, scaled, modulated and shifted. -/
def normRow (h g m3 m4 : Fin 1024 → EReal) (n : Fin 1024) : EReal :=
  h n * Ideal.rsqrt (Ideal.div (∑ l : Fin 1024, h l * h l) (Ideal.ofBits .f32 0x44800000#32) + Ideal.ofBits .f32 0x358637BD#32) * g n
    * (Ideal.ofBits .f32 0x3F800000#32 + m4 n) + m3 n

/-- A row against column `f` of a weight. -/
def projRow (x : Fin 1024 → EReal) (w : Fin 1024 → Fin 2816 → EReal) (f : Fin 2816) : EReal := ∑ k : Fin 1024, x k * w k f

/-- Entry `f` of a row's hidden layer. -/
def hiddenRow (x : Fin 1024 → EReal) (wg wu : Fin 1024 → Fin 2816 → EReal) (f : Fin 2816) : EReal :=
  projRow x wg f * Ideal.logistic (projRow x wg f) * projRow x wu f

/-- The network's result for a row. -/
def netRow (x : Fin 1024 → EReal) (wg wu : Fin 1024 → Fin 2816 → EReal) (wd : Fin 2816 → Fin 1024 → EReal) (n : Fin 1024) : EReal :=
  ∑ f : Fin 2816, hiddenRow x wg wu f * wd f n

/-- A row of the result. -/
def outRow (x y : Fin 1024 → EReal) (mt : Fin 6 → Fin 1024 → EReal) (wo : Fin 1024 → Fin 1024 → EReal) (gf : Fin 1024 → EReal)
    (wg wu : Fin 1024 → Fin 2816 → EReal) (wd : Fin 2816 → Fin 1024 → EReal) (n : Fin 1024) : EReal :=
  addRow x y (mt 2) wo n + mt 5 n * netRow (normRow (addRow x y (mt 2) wo) gf (mt 3) (mt 4)) wg wu wd n

end Cert.Proof.Tail
-- ==== Proof.TailValue.lean ====
/- What the block a step leaves holds, in ideal arithmetic: each of its rows is the layer's tail of that row. -/
module

public import proofs.«01_k».proof.Proof.TailBody
public import proofs.«01_k».proof.Proof.TailRow
public import Idealize.ShloMosaic.Lib.MatmulPlain
public import Idealize.ShloMosaic.Lib.ValueLayout
public import Idealize.ShloMosaic.Lib.ValueLayoutCasts
public import Idealize.ShloMosaic.Lib.Pointwise.Reduce
public import Idealize.ShloMosaic.Lib.Pipeline.Value
public import Idealize.ShloMosaic.Lib.Pipeline.ValueKit.Tiles
public import Idealize.ShloMosaic.PureOps.Ideal.Laws

@[expose] public section

set_option maxRecDepth 16384

noncomputable section

namespace Cert.Proof.Tail

open Cert.Kernel2Ideal Cert.Kernel2Ideal.Gen
open Idealize.ShloMosaic hiding ix1 ix2 ix3 ix4
open Idealize.ShloMosaic.ValueIdx
open scoped BigOperators

/-- A cast to the same shape changes nothing. -/
theorem cast_self {α : Type} {s : Shape} (x : s.Idx → α) (h : s.ShapeCasts s) (j : s.Idx) : shapeCast s x h j = x j :=
  shapeCast_apply x h j j rfl

/-- A row's sum. -/
theorem sum_row {a b : ℕ} (v : FVec Ideal ⟨2, ![a, b]⟩ .f32) (h : (⟨2, ![a, b]⟩ : Shape).Reduces [1] ⟨1, ![a]⟩) (hφ) (hacc) (r : Fin a) :
    multiReduction .add [1] ⟨1, ![a]⟩ v 0x00000000#32 h hφ hacc (ix1 r) = ∑ k : Fin b, v (ix2 r k) :=
  (h.reducesTo.sum_fiber_r2_a1 (ix1 r) v).trans (Finset.sum_congr rfl fun k _ => congrArg v (funext fun a => by
    match a with
    | ⟨0, _⟩ => rfl
    | ⟨1, _⟩ => rfl))

/-- A column broadcast over the rows' places. -/
theorem broadcast_col {α : Type} {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The root mean square's reciprocal of row `r`, as it is broadcast over the row. -/
theorem rms_row {b : ℕ} (v : FVec Ideal ⟨2, ![128, b]⟩ .f32) (d : BitVec 32) (h : (⟨2, ![128, b]⟩ : Shape).Reduces [1] ⟨1, ![128]⟩) (hφ) (hacc)
    (hb : (⟨2, ![128, 1]⟩ : Shape).Broadcasts ⟨2, ![128, b]⟩) (r : Fin 128) (k : Fin b) :
    broadcastTo ⟨2, ![128, b]⟩ (rsqrt (addf (divf (shapeCast S128x1 (multiReduction .add [1] ⟨1, ![128]⟩ (mulf v v) 0x00000000#32 h hφ hacc) shapeCasts_S128_S128x1)
        (broadcast S128x1 (Scalar.ofBits (F := Ideal) .f32 d))) (broadcast S128x1 (Scalar.ofBits (F := Ideal) .f32 0x358637BD#32)))) hb (ix2 r k)
      = Ideal.rsqrt (Ideal.div (∑ l : Fin b, v (ix2 r l) * v (ix2 r l)) (Ideal.ofBits .f32 d) + Ideal.ofBits .f32 0x358637BD#32) := by
  refine (broadcast_col _ hb r k).trans ?_
  refine congrArg (fun s => Ideal.rsqrt (Ideal.div s (Ideal.ofBits .f32 d) + Ideal.ofBits .f32 0x358637BD#32)) ?_
  exact (shapeCast_a_a1_apply _ shapeCasts_S128_S128x1 r (0 : Fin 1)).trans (sum_row (mulf v v) h hφ hacc r)

/-- A row of the table of modulations, broadcast over the rows. -/
theorem mod_row (v : Vec Ideal S1x1x1x1024 .f32) (k : Fin 1024) :
    shapeCast S1x1024 v shapeCasts_S1x1x1x1024_S1x1024 (ix2 (0 : Fin 1) k) = v (ix4 (0 : Fin 1) (0 : Fin 1) (0 : Fin 1) k) :=
  shapeCast_apply v _ _ _ (by
    rw [Shape.rowMajor_val_four, Shape.rowMajor_val_two]
    show ((0 * 1 + 0) * 1 + 0) * 1024 + k.val = 0 * 1024 + k.val
    omega)

theorem mod2_at (mt : Vec Ideal S1x1x6x1024 .f32) (k : Fin 1024) : mod2 mt (ix4 (0 : Fin 1) (0 : Fin 1) (0 : Fin 1) k) = mt (ix4 (0 : Fin 1) (0 : Fin 1) (2 : Fin 6) k) :=
  View.ld_unit_apply_of mt _ _ _ _ _ fun a => by
    match a with
    | ⟨0, _⟩ => rfl
    | ⟨1, _⟩ => rfl
    | ⟨2, _⟩ => rfl
    | ⟨3, _⟩ => exact (Nat.zero_add _).symm
theorem mod3_at (mt : Vec Ideal S1x1x6x1024 .f32) (k : Fin 1024) : mod3 mt (ix4 (0 : Fin 1) (0 : Fin 1) (0 : Fin 1) k) = mt (ix4 (0 : Fin 1) (0 : Fin 1) (3 : Fin 6) k) :=
  View.ld_unit_apply_of mt _ _ _ _ _ fun a => by
    match a with
    | ⟨0, _⟩ => rfl
    | ⟨1, _⟩ => rfl
    | ⟨2, _⟩ => rfl
    | ⟨3, _⟩ => exact (Nat.zero_add _).symm
theorem mod4_at (mt : Vec Ideal S1x1x6x1024 .f32) (k : Fin 1024) : mod4 mt (ix4 (0 : Fin 1) (0 : Fin 1) (0 : Fin 1) k) = mt (ix4 (0 : Fin 1) (0 : Fin 1) (4 : Fin 6) k) :=
  View.ld_unit_apply_of mt _ _ _ _ _ fun a => by
    match a with
    | ⟨0, _⟩ => rfl
    | ⟨1, _⟩ => rfl
    | ⟨2, _⟩ => rfl
    | ⟨3, _⟩ => exact (Nat.zero_add _).symm
theorem mod5_at (mt : Vec Ideal S1x1x6x1024 .f32) (k : Fin 1024) : mod5 mt (ix4 (0 : Fin 1) (0 : Fin 1) (0 : Fin 1) k) = mt (ix4 (0 : Fin 1) (0 : Fin 1) (5 : Fin 6) k) :=
  View.ld_unit_apply_of mt _ _ _ _ _ fun a => by
    match a with
    | ⟨0, _⟩ => rfl
    | ⟨1, _⟩ => rfl
    | ⟨2, _⟩ => rfl
    | ⟨3, _⟩ => exact (Nat.zero_add _).symm

/-! ### The projection and what it is added to -/

/-- Row `r` of 128 rows with their projection added, from the row `X` it is added to and the joined row `Y`. -/
theorem added_apply (n : BitVec 32) (y : FVec Ideal S128x1024 .bf16) (ct xl : Vec Ideal S1x128x1024 .f32) (mt : Vec Ideal S1x1x6x1024 .f32)
    (wo : Vec Ideal S1024x1024 .bf16) (r : Fin 128) (c : Fin 1024) :
    added n y ct xl mt wo (ix2 r c)
      = addRow (fun k => (if Scalar.cmpi .slt n 1#32 = 1#1 then ct else xl) (ix3 (0 : Fin 1) r k)) (fun k => y (ix2 r k))
          (fun k => mt (ix4 (0 : Fin 1) (0 : Fin 1) (2 : Fin 6) k)) (fun k l => wo (ix2 k l)) c := by
  unfold added k0_pay23
  refine congrArg₂ (fun a b : EReal => a + b) ?_ (congrArg₂ (fun a b : EReal => a * b) ?_ ?_)
  · by_cases h : Scalar.cmpi .slt n 1#32 = 1#1
    · rw [if_pos h, h]
      exact shapeCast_1ab_ab_apply ct shapeCasts_S1x128x1024_S128x1024 r c
    · rw [if_neg h, eq_zero_of_ne_one h]
      exact shapeCast_1ab_ab_apply xl shapeCasts_S1x128x1024_S128x1024 r c
  · exact (broadcastTo_1b_ab_apply _ broadcasts_S1x1024_S128x1024 r c).trans ((mod_row _ c).trans (mod2_at mt c))
  · refine (Ideal.matmul_plain_apply (M := 128) (K := 1024) (N := 1024) none _ _ _ r c).trans ?_
    refine (congrArg (· + _) (Ideal.ofBits_zero_f32)).trans ((zero_add _).trans ?_)
    refine Finset.sum_congr rfl fun k _ => congrArg (y (ix2 r k) * ·) ?_
    refine (cast_self _ shapeCasts_S1024x1024_S1024x1024 (ix2 k c)).trans ?_
    exact View.ld_unit_apply_of wo _ _ _ _ _ fun a => by
      match a with
      | ⟨0, _⟩ => exact (Nat.zero_add _).symm
      | ⟨1, _⟩ => exact (Nat.zero_add _).symm

/-- Row `r` of the network's input. -/
theorem normed_apply (h : FVec Ideal S128x1024 .f32) (mt : Vec Ideal S1x1x6x1024 .f32) (gf : Vec Ideal S1x1024 .f32) (r : Fin 128) (c : Fin 1024) :
    normed h mt gf (ix2 r c)
      = normRow (fun k => h (ix2 r k)) (fun k => gf (ix2 (0 : Fin 1) k)) (fun k => mt (ix4 (0 : Fin 1) (0 : Fin 1) (3 : Fin 6) k))
          (fun k => mt (ix4 (0 : Fin 1) (0 : Fin 1) (4 : Fin 6) k)) c := by
  unfold normed k0_pay25
  refine congrArg₂ (fun a b : EReal => a + b) (congrArg₂ (fun a b : EReal => a * b) (congrArg₂ (fun a b : EReal => a * b)
    (congrArg (fun b : EReal => h (ix2 r c) * b) ?_) ?_) ?_) ?_
  · exact rms_row h 0x44800000#32 reduces_S128x1024_S128 _ _ broadcasts_S128x1_S128x1024 r c
  · refine (broadcastTo_1b_ab_apply _ broadcasts_S1x1024_S128x1024 r c).trans ((cast_self _ shapeCasts_S1x1024_S1x1024 _).trans ?_)
    exact View.ld_unit_apply_of gf _ _ _ _ _ fun a => by
      match a with
      | ⟨0, _⟩ => rfl
      | ⟨1, _⟩ => exact (Nat.zero_add _).symm
  · refine (broadcastTo_1b_ab_apply _ broadcasts_S1x1024_S128x1024 r c).trans ?_
    exact congrArg (fun b : EReal => Ideal.ofBits .f32 0x3F800000#32 + b) ((mod_row _ c).trans (mod4_at mt c))
  · exact (broadcastTo_1b_ab_apply _ broadcasts_S1x1024_S128x1024 r c).trans ((mod_row _ c).trans (mod3_at mt c))

/-! ### The feed-forward network, a half of the hidden layer at a time -/

/-- Half of the hidden layer: its contribution to the result. -/
def half {F : FTy → Type} [FloatOps F] (x : FVec F S128x1024 .bf16) (wg wu : Vec F S1024x1408 .bf16) (wd : Vec F S1408x1024 .bf16) : FVec F S128x1024 .f32 :=
  have pg : FVec F S128x1408 .f32 := matmul (φ₂ := .bf16) dot_S128x1024_S1024x1408_S128x1408_1_0_0_1_n_n none x (shapeCast (α := F .bf16) S1024x1408 wg shapeCasts_S1024x1408_S1024x1408) (constant S128x1408 .f32 0x00000000#32)
  have pu : FVec F S128x1408 .f32 := matmul (φ₂ := .bf16) dot_S128x1024_S1024x1408_S128x1408_1_0_0_1_n_n none x (shapeCast (α := F .bf16) S1024x1408 wu shapeCasts_S1024x1408_S1024x1408) (constant S128x1408 .f32 0x00000000#32)
  matmul (φ₂ := .bf16) dot_S128x1408_S1408x1024_S128x1024_1_0_0_1_n_n none (truncf .bf16 (mulf (mulf pg (logistic pg)) pu) bitsLt_bf16_f32)
    (shapeCast (α := F .bf16) S1408x1024 wd shapeCasts_S1408x1024_S1408x1024) (constant S128x1024 .f32 0x00000000#32)

theorem halfProj_apply (x : FVec Ideal S128x1024 .bf16) (w : Vec Ideal S1024x2816 .bf16) (o : ℕ) (ho : o + 1408 ≤ 2816)
    (inb : ∀ a, (![0, o] : Fin 2 → ℕ) a + S1024x1408.size a ≤ S1024x2816.size a) (r : Fin 128) (f : Fin 1408) :
    matmul (φ₂ := .bf16) dot_S128x1024_S1024x1408_S128x1408_1_0_0_1_n_n none x
      (shapeCast (α := Ideal .bf16) S1024x1408 (View.ld (Val := Elt Ideal) (e' := .bf16) w (Rect.unit (s := S1024x2816) ![0, o] S1024x1408.size inb)) shapeCasts_S1024x1408_S1024x1408)
      (constant S128x1408 .f32 0x00000000#32) (ix2 r f) = projRow (fun k => x (ix2 r k)) (fun k l => w (ix2 k l)) ⟨o + f.val, by omega⟩ := by
  refine (Ideal.matmul_plain_apply (M := 128) (K := 1024) (N := 1408) none _ _ _ r f).trans ?_
  refine (congrArg (· + _) (Ideal.ofBits_zero_f32)).trans ((zero_add _).trans ?_)
  refine Finset.sum_congr rfl fun k _ => congrArg (x (ix2 r k) * ·) ?_
  refine (cast_self _ shapeCasts_S1024x1408_S1024x1408 (ix2 k f)).trans ?_
  exact View.ld_unit_apply_of w _ _ _ _ _ fun a => by
    match a with
    | ⟨0, _⟩ => exact (Nat.zero_add _).symm
    | ⟨1, _⟩ => rfl

theorem half_apply (x : FVec Ideal S128x1024 .bf16) (wg wu : Vec Ideal S1024x2816 .bf16) (wd : Vec Ideal S2816x1024 .bf16) (o : ℕ) (ho : o + 1408 ≤ 2816)
    (inb inb' : ∀ a, (![0, o] : Fin 2 → ℕ) a + S1024x1408.size a ≤ S1024x2816.size a)
    (inbd : ∀ a, (![o, 0] : Fin 2 → ℕ) a + S1408x1024.size a ≤ S2816x1024.size a) (r : Fin 128) (n : Fin 1024) :
    half x (View.ld wg (Rect.unit (s := S1024x2816) ![0, o] S1024x1408.size inb)) (View.ld wu (Rect.unit (s := S1024x2816) ![0, o] S1024x1408.size inb'))
      (View.ld wd (Rect.unit (s := S2816x1024) ![o, 0] S1408x1024.size inbd)) (ix2 r n)
      = ∑ f : Fin 1408, hiddenRow (fun k => x (ix2 r k)) (fun k l => wg (ix2 k l)) (fun k l => wu (ix2 k l)) ⟨o + f.val, by omega⟩ * wd (ix2 (⟨o + f.val, by omega⟩ : Fin 2816) n) := by
  refine (Ideal.matmul_plain_apply (M := 128) (K := 1408) (N := 1024) none _ _ _ r n).trans ?_
  refine (congrArg (· + _) (Ideal.ofBits_zero_f32)).trans ((zero_add _).trans ?_)
  refine Finset.sum_congr rfl fun f _ => congrArg₂ (fun a b : EReal => a * b) ?_ ?_
  · have hg := halfProj_apply x wg o ho inb r f
    have hu := halfProj_apply x wu o ho inb' r f
    exact congrArg₂ (fun a b : EReal => a * b) (congrArg₂ (fun a b : EReal => a * b) hg (congrArg Ideal.logistic hg)) hu
  · refine (cast_self _ shapeCasts_S1408x1024_S1408x1024 (ix2 f n)).trans ?_
    exact View.ld_unit_apply_of wd _ _ _ _ _ fun a => by
      match a with
      | ⟨0, _⟩ => rfl
      | ⟨1, _⟩ => exact (Nat.zero_add _).symm

theorem network_eq (x : FVec Ideal S128x1024 .bf16) (mt : Vec Ideal S1x1x6x1024 .f32) (a b a' b' : Vec Ideal S1024x1408 .bf16) (d d' : Vec Ideal S1408x1024 .bf16) :
    k0_pay36 x (k0_pay34 x (k0_pay26 (F := Ideal)) a b d) a' b' d' (mod5 mt)
      = mulf (broadcastTo S128x1024 (shapeCast S1x1024 (mod5 mt) shapeCasts_S1x1x1x1024_S1x1024) broadcasts_S1x1024_S128x1024)
          (addf (addf (broadcast S128x1024 (Scalar.ofBits (F := Ideal) .f32 0x00000000#32)) (half x a b d)) (half x a' b' d')) := rfl

/-- Row `r` of the network's modulated result. -/
theorem network_apply (x : FVec Ideal S128x1024 .bf16) (mt : Vec Ideal S1x1x6x1024 .f32) (wg wu : Vec Ideal S1024x2816 .bf16) (wd : Vec Ideal S2816x1024 .bf16)
    (r : Fin 128) (c : Fin 1024) :
    network x mt wg wu wd (ix2 r c)
      = mt (ix4 (0 : Fin 1) (0 : Fin 1) (5 : Fin 6) c)
        * netRow (fun k => x (ix2 r k)) (fun k l => wg (ix2 k l)) (fun k l => wu (ix2 k l)) (fun k l => wd (ix2 k l)) c := by
  unfold network
  rw [network_eq]
  refine congrArg₂ (fun a b : EReal => a * b) ?_ ?_
  · exact (broadcastTo_1b_ab_apply _ broadcasts_S1x1024_S128x1024 r c).trans ((mod_row _ c).trans (mod5_at mt c))
  refine (congrArg₂ (fun a b : EReal => a + b) ((congrArg₂ (fun a b : EReal => a + b) Ideal.ofBits_zero_f32 (half_apply x wg wu wd 0 (by decide) _ _ _ r c)).trans (zero_add _))
    (half_apply x wg wu wd 1408 (by decide) _ _ _ r c)).trans ?_
  unfold netRow
  have hs := Fin.sum_univ_add (a := 1408) (b := 1408) (fun f : Fin 2816 => hiddenRow (fun k => x (ix2 r k)) (fun k l => wg (ix2 k l)) (fun k l => wu (ix2 k l)) f * wd (ix2 f c))
  refine Eq.trans ?_ hs.symm
  refine congrArg₂ (fun a b : EReal => a + b) (Finset.sum_congr rfl fun f _ => ?_) (Finset.sum_congr rfl fun f _ => ?_)
  · have e : (⟨0 + f.val, by omega⟩ : Fin 2816) = Fin.castAdd 1408 f := Fin.ext (Nat.zero_add _)
    rw [e]
  · rfl

/-- Row `r` of 128 rows of the result. -/
theorem rows_apply (n : BitVec 32) (y : FVec Ideal S128x1024 .bf16) (ct xl : Vec Ideal S1x128x1024 .f32) (mt : Vec Ideal S1x1x6x1024 .f32) (wo : Vec Ideal S1024x1024 .bf16)
    (gf : Vec Ideal S1x1024 .f32) (wg wu : Vec Ideal S1024x2816 .bf16) (wd : Vec Ideal S2816x1024 .bf16) (r : Fin 128) (c : Fin 1024) :
    rows n y ct xl mt wo gf wg wu wd (ix2 r c)
      = outRow (fun k => (if Scalar.cmpi .slt n 1#32 = 1#1 then ct else xl) (ix3 (0 : Fin 1) r k)) (fun k => y (ix2 r k))
          (fun a k => mt (ix4 (0 : Fin 1) (0 : Fin 1) a k)) (fun k l => wo (ix2 k l)) (fun k => gf (ix2 (0 : Fin 1) k))
          (fun k l => wg (ix2 k l)) (fun k l => wu (ix2 k l)) (fun k l => wd (ix2 k l)) c := by
  unfold rows outRow
  refine congrArg₂ (fun a b : EReal => a + b) (added_apply n y ct xl mt wo r c) ?_
  refine (network_apply _ mt wg wu wd r c).trans (congrArg (fun b : EReal => mt (ix4 (0 : Fin 1) (0 : Fin 1) (5 : Fin 6) c) * b) ?_)
  refine congrArg (fun x => netRow x _ _ _ c) (funext fun k => ?_)
  refine (normed_apply _ mt gf r k).trans ?_
  exact congrArg (fun h => normRow h _ _ _ k) (funext fun l => added_apply n y ct xl mt wo r l)

end Cert.Proof.Tail
-- ==== Proof.TailBlock.lean ====
/- The block a step leaves, in ideal arithmetic, row by row: the joined mixers, and the layer's tail of them. -/
module

public import proofs.«01_k».proof.Proof.TailValue

@[expose] public section

set_option maxRecDepth 16384

noncomputable section

namespace Cert.Proof.Tail

open Cert.Kernel2Ideal Cert.Kernel2Ideal.Gen
open Idealize.ShloMosaic hiding ix1 ix2 ix3 ix4
open Idealize.ShloMosaic.ValueIdx
open scoped BigOperators

/-- Row `r` of one head: the two passes added, divided by the root mean square, scaled and gated. -/
theorem head_apply (a b z : Vec Ideal S1x128x128 .bf16) (g : Vec Ideal S1x128 .f32) (r l : Fin 128) (O Z : Fin 512 → EReal) (G : Fin 128 → EReal)
    (o : ℕ) (ho : o + 128 ≤ 512) (hm : o % 128 = 0) (ha : ∀ l : Fin 128, (a (ix3 (0 : Fin 1) r l) : EReal) + (b (ix3 (0 : Fin 1) r l) : EReal) = O ⟨o + l.val, by omega⟩)
    (hz : ∀ l : Fin 128, z (ix3 (0 : Fin 1) r l) = Z ⟨o + l.val, by omega⟩) (hg : ∀ l : Fin 128, g (ix2 (0 : Fin 1) l) = G l) :
    k0_pay7 a b g z (ix2 r l) = headRow O Z G ⟨o + l.val, by omega⟩ := by
  have hv : ∀ l : Fin 128, addf (extf .f32 (shapeCast (α := Ideal .bf16) S128x128 a shapeCasts_S1x128x128_S128x128) bitsLt_bf16_f32)
      (extf .f32 (shapeCast (α := Ideal .bf16) S128x128 b shapeCasts_S1x128x128_S128x128) bitsLt_bf16_f32) (ix2 r l) = O ⟨o + l.val, by omega⟩ := fun l =>
    (congrArg₂ (fun a b : EReal => a + b) (shapeCast_1ab_ab_apply a shapeCasts_S1x128x128_S128x128 r l) (shapeCast_1ab_ab_apply b shapeCasts_S1x128x128_S128x128 r l)).trans (ha l)
  unfold k0_pay7 headRow
  refine congrArg₂ (fun a b : EReal => a * b) (congrArg₂ (fun a b : EReal => a * b) (congrArg₂ (fun a b : EReal => a * b) (hv l) ?_) ?_) ?_
  · refine (rms_row _ 0x43000000#32 reduces_S128x128_S128 _ _ broadcasts_S128x1_S128x128 r l).trans ?_
    refine congrArg (fun s => Ideal.rsqrt (Ideal.div s (Ideal.ofBits .f32 0x43000000#32) + Ideal.ofBits .f32 0x358637BD#32)) (Finset.sum_congr rfl fun k _ => ?_)
    have e : inHead ⟨o + l.val, by omega⟩ k = ⟨o + k.val, by omega⟩ := Fin.ext (show (o + l.val) / 128 * 128 + k.val = o + k.val by omega)
    rw [e]
    exact congrArg₂ (fun a b : EReal => a * b) (hv k) (hv k)
  · refine (broadcastTo_1b_ab_apply _ broadcasts_S1x128_S128x128 r l).trans ((cast_self _ shapeCasts_S1x128_S1x128 _).trans ((hg l).trans (congrArg G (Fin.ext ?_))))
    show l.val = (o + l.val) % 128
    omega
  · exact (shapeCast_1ab_ab_apply z shapeCasts_S1x128x128_S128x128 r l).trans (hz l)

/-- A place of 128 rows from `q` on. -/
theorem ld_rows {e : EltTy} {A B n : ℕ} (x : Vec Ideal ⟨3, ![1, A, B]⟩ e) (q o : ℕ) (hq : q + 128 ≤ A) (ho : o + n ≤ B)
    (inb : ∀ a, (![0, q, o] : Fin 3 → ℕ) a + (⟨3, ![1, 128, n]⟩ : Shape).size a ≤ (⟨3, ![1, A, B]⟩ : Shape).size a) (r : Fin 128) (k : Fin n) :
    View.ld (Val := Elt Ideal) (e' := e) x (Rect.unit (s := ⟨3, ![1, A, B]⟩) ![0, q, o] (⟨3, ![1, 128, n]⟩ : Shape).size inb) (ix3 (0 : Fin 1) r k)
      = x (ix3 (0 : Fin 1) (⟨q + r.val, by omega⟩ : Fin A) (⟨o + k.val, by omega⟩ : Fin B)) :=
  View.ld_unit_apply_of x _ _ _ _ _ fun a => by
    match a with
    | ⟨0, _⟩ => rfl
    | ⟨1, _⟩ => rfl
    | ⟨2, _⟩ => rfl

/-- Row `R` of the block's joined mixers. -/
def mixRow (hf : Vec Ideal S1x256x512 .f32) (hb : Vec Ideal S1x256x512 .f32) (ga : Vec Ideal S1x256x512 .bf16) (o0 : Vec Ideal S1x256x512 .bf16) (o1 : Vec Ideal S1x256x512 .bf16) (sz : Vec Ideal S1x256x512 .bf16) (ng : Vec Ideal S1x128 .f32) (R : Fin 256) : Fin 1024 → EReal :=
  joinRow (fun k => ((hf (ix3 (0 : Fin 1) R k) : EReal) + (hb (ix3 (0 : Fin 1) R k) : EReal)) * (ga (ix3 (0 : Fin 1) R k) : EReal))
    (headRow (fun k => (o0 (ix3 (0 : Fin 1) R k) : EReal) + (o1 (ix3 (0 : Fin 1) R k) : EReal)) (fun k => sz (ix3 (0 : Fin 1) R k)) (fun l => ng (ix2 (0 : Fin 1) l)))

/-- Five pieces side by side, each known place by place. -/
theorem pieces_apply {α : Type} (x0 : S128x512.Idx → α) (x1 x2 x3 x4 : S128x128.Idx → α) (r : Fin 128) (Y : Fin 1024 → α)
    (h0 : ∀ k : Fin 512, x0 (ix2 r k) = Y ⟨k.val, by omega⟩) (h1 : ∀ l : Fin 128, x1 (ix2 r l) = Y ⟨512 + l.val, by omega⟩) (h2 : ∀ l : Fin 128, x2 (ix2 r l) = Y ⟨640 + l.val, by omega⟩)
    (h3 : ∀ l : Fin 128, x3 (ix2 r l) = Y ⟨768 + l.val, by omega⟩) (h4 : ∀ l : Fin 128, x4 (ix2 r l) = Y ⟨896 + l.val, by omega⟩) (k : Fin 1024) :
    concatenate S128x1024 1 [⟨S128x512, x0⟩, ⟨S128x128, x1⟩, ⟨S128x128, x2⟩, ⟨S128x128, x3⟩, ⟨S128x128, x4⟩] concatenates_S128x512_S128x128_S128x128_S128x128_S128x128_S128x1024_d1 (ix2 r k) = Y k := by
  have hp : ∀ (i : ℕ) (hi : i < 5) (n lo : ℕ) (x : (⟨2, ![128, n]⟩ : Shape).Idx → α)
      (hx : ([⟨S128x512, x0⟩, ⟨S128x128, x1⟩, ⟨S128x128, x2⟩, ⟨S128x128, x3⟩, ⟨S128x128, x4⟩] : List ((s : Shape) × (s.Idx → α)))[i]'hi = ⟨⟨2, ![128, n]⟩, x⟩)
      (hpre : ((([⟨S128x512, x0⟩, ⟨S128x128, x1⟩, ⟨S128x128, x2⟩, ⟨S128x128, x3⟩, ⟨S128x128, x4⟩] : List ((s : Shape) × (s.Idx → α))).take i).map (·.1) |>.map fun s =>
        if h : s.rank = S128x1024.rank then s.size ((1 : Fin S128x1024.rank).cast h.symm) else 0).sum = lo)
      (l : Fin n) (hl : lo + l.val = k.val),
      concatenate S128x1024 1 [⟨S128x512, x0⟩, ⟨S128x128, x1⟩, ⟨S128x128, x2⟩, ⟨S128x128, x3⟩, ⟨S128x128, x4⟩] concatenates_S128x512_S128x128_S128x128_S128x128_S128x128_S128x1024_d1 (ix2 r k)
        = x (ix2 r l) := fun i hi n lo x hx hpre l hl =>
    concatenate_apply_piece (t := S128x1024) 1 [⟨S128x512, x0⟩, ⟨S128x128, x1⟩, ⟨S128x128, x2⟩, ⟨S128x128, x3⟩, ⟨S128x128, x4⟩]
      concatenates_S128x512_S128x128_S128x128_S128x128_S128x128_S128x1024_d1 (ix2 r k) i hi ⟨2, ![128, n]⟩ x hx rfl lo hpre (ix2 r l)
      (fun b hb => by
        match b with
        | ⟨0, _⟩ => rfl
        | ⟨1, _⟩ => exact absurd rfl hb) hl
  by_cases c0 : k.val < 512
  · exact (hp 0 (by decide) 512 0 x0 rfl rfl ⟨k.val, c0⟩ (Nat.zero_add _)).trans (h0 ⟨k.val, c0⟩)
  by_cases c1 : k.val < 640
  · exact (hp 1 (by decide) 128 512 x1 rfl rfl ⟨k.val - 512, by omega⟩ (show 512 + (k.val - 512) = k.val by omega)).trans
      ((h1 _).trans (congrArg Y (Fin.ext (show 512 + (k.val - 512) = k.val by omega))))
  by_cases c2 : k.val < 768
  · exact (hp 2 (by decide) 128 640 x2 rfl rfl ⟨k.val - 640, by omega⟩ (show 640 + (k.val - 640) = k.val by omega)).trans
      ((h2 _).trans (congrArg Y (Fin.ext (show 640 + (k.val - 640) = k.val by omega))))
  by_cases c3 : k.val < 896
  · exact (hp 3 (by decide) 128 768 x3 rfl rfl ⟨k.val - 768, by omega⟩ (show 768 + (k.val - 768) = k.val by omega)).trans
      ((h3 _).trans (congrArg Y (Fin.ext (show 768 + (k.val - 768) = k.val by omega))))
  · exact (hp 4 (by decide) 128 896 x4 rfl rfl ⟨k.val - 896, by omega⟩ (show 896 + (k.val - 896) = k.val by omega)).trans
      ((h4 _).trans (congrArg Y (Fin.ext (show 896 + (k.val - 896) = k.val by omega))))

theorem joined_apply (hf : Vec Ideal S1x256x512 .f32) (hb : Vec Ideal S1x256x512 .f32) (ga : Vec Ideal S1x256x512 .bf16) (o0 : Vec Ideal S1x256x512 .bf16) (o1 : Vec Ideal S1x256x512 .bf16) (sz : Vec Ideal S1x256x512 .bf16) (ng : Vec Ideal S1x128 .f32) (q : ℕ) (hq : q + 128 ≤ 256)
    (i : ∀ a, (![0, q, 0] : Fin 3 → ℕ) a + S1x128x512.size a ≤ S1x256x512.size a)
    (i0 : ∀ a, (![0, q, 0] : Fin 3 → ℕ) a + S1x128x128.size a ≤ S1x256x512.size a) (i1 : ∀ a, (![0, q, 128] : Fin 3 → ℕ) a + S1x128x128.size a ≤ S1x256x512.size a)
    (i2 : ∀ a, (![0, q, 256] : Fin 3 → ℕ) a + S1x128x128.size a ≤ S1x256x512.size a) (i3 : ∀ a, (![0, q, 384] : Fin 3 → ℕ) a + S1x128x128.size a ≤ S1x256x512.size a)
    (r : Fin 128) (k : Fin 1024) :
    joined (View.ld hf (Rect.unit (s := S1x256x512) ![0, q, 0] S1x128x512.size i)) (View.ld hb (Rect.unit (s := S1x256x512) ![0, q, 0] S1x128x512.size i))
    (View.ld ga (Rect.unit (s := S1x256x512) ![0, q, 0] S1x128x512.size i)) (View.ld ng (Rect.unit (s := S1x128) ![0, 0] S1x128.size inb_S1x128_S1x128_0_0))
    (View.ld o0 (Rect.unit (s := S1x256x512) ![0, q, 0] S1x128x128.size i0)) (View.ld o1 (Rect.unit (s := S1x256x512) ![0, q, 0] S1x128x128.size i0)) (View.ld sz (Rect.unit (s := S1x256x512) ![0, q, 0] S1x128x128.size i0))
    (View.ld o0 (Rect.unit (s := S1x256x512) ![0, q, 128] S1x128x128.size i1)) (View.ld o1 (Rect.unit (s := S1x256x512) ![0, q, 128] S1x128x128.size i1)) (View.ld sz (Rect.unit (s := S1x256x512) ![0, q, 128] S1x128x128.size i1))
    (View.ld o0 (Rect.unit (s := S1x256x512) ![0, q, 256] S1x128x128.size i2)) (View.ld o1 (Rect.unit (s := S1x256x512) ![0, q, 256] S1x128x128.size i2)) (View.ld sz (Rect.unit (s := S1x256x512) ![0, q, 256] S1x128x128.size i2))
    (View.ld o0 (Rect.unit (s := S1x256x512) ![0, q, 384] S1x128x128.size i3)) (View.ld o1 (Rect.unit (s := S1x256x512) ![0, q, 384] S1x128x128.size i3)) (View.ld sz (Rect.unit (s := S1x256x512) ![0, q, 384] S1x128x128.size i3)) (ix2 r k)
      = mixRow hf hb ga o0 o1 sz ng ⟨q + r.val, by omega⟩ k := by
  have hng : ∀ l : Fin 128, View.ld (Val := Elt Ideal) (e' := .f32) ng (Rect.unit (s := S1x128) ![0, 0] S1x128.size inb_S1x128_S1x128_0_0) (ix2 (0 : Fin 1) l) = ng (ix2 (0 : Fin 1) l) := fun l =>
    View.ld_unit_apply_of ng _ _ _ _ _ fun a => by
      match a with
      | ⟨0, _⟩ => rfl
      | ⟨1, _⟩ => exact (Nat.zero_add _).symm
  unfold joined
  refine pieces_apply _ _ _ _ _ r (mixRow hf hb ga o0 o1 sz ng ⟨q + r.val, by omega⟩) (fun k => ?_) (fun l => ?_) (fun l => ?_) (fun l => ?_) (fun l => ?_) k
  · unfold k0_pay4 mixRow joinRow
    rw [dif_pos k.isLt]
    have e : (⟨0 + k.val, by omega⟩ : Fin 512) = k := Fin.ext (Nat.zero_add _)
    have hl : ∀ {e' : EltTy} (x : Vec Ideal S1x256x512 e'), View.ld (Val := Elt Ideal) (e' := e') x (Rect.unit (s := S1x256x512) ![0, q, 0] S1x128x512.size i) (ix3 (0 : Fin 1) r k)
        = x (ix3 (0 : Fin 1) (⟨q + r.val, by omega⟩ : Fin 256) k) := fun x =>
      (ld_rows x q 0 hq (by decide) i r k).trans (congrArg (fun l => x (ix3 (0 : Fin 1) (⟨q + r.val, by omega⟩ : Fin 256) l)) e)
    refine congrArg₂ (fun a b : EReal => a * b) (congrArg₂ (fun a b : EReal => a + b) ?_ ?_) ?_
    · exact (shapeCast_1ab_ab_apply _ shapeCasts_S1x128x512_S128x512 r _).trans (hl hf)
    · exact (shapeCast_1ab_ab_apply _ shapeCasts_S1x128x512_S128x512 r _).trans (hl hb)
    · exact (shapeCast_1ab_ab_apply _ shapeCasts_S1x128x512_S128x512 r _).trans (hl ga)
  · refine (head_apply _ _ _ _ r l (fun k => (o0 (ix3 (0 : Fin 1) (⟨q + r.val, by omega⟩ : Fin 256) k) : EReal) + (o1 (ix3 (0 : Fin 1) (⟨q + r.val, by omega⟩ : Fin 256) k) : EReal))
      (fun k => sz (ix3 (0 : Fin 1) (⟨q + r.val, by omega⟩ : Fin 256) k)) (fun l => ng (ix2 (0 : Fin 1) l)) 0 (by decide) (by decide)
      (fun l => congrArg₂ (fun a b : EReal => a + b) (ld_rows o0 q 0 hq (by decide) i0 r l) (ld_rows o1 q 0 hq (by decide) i0 r l))
      (fun l => ld_rows sz q 0 hq (by decide) i0 r l) hng).trans ?_
    unfold mixRow joinRow
    rw [dif_neg (show ¬ 512 + l.val < 512 by omega)]
    exact congrArg _ (Fin.ext (show 0 + l.val = 512 + l.val - 512 by omega))
  · refine (head_apply _ _ _ _ r l (fun k => (o0 (ix3 (0 : Fin 1) (⟨q + r.val, by omega⟩ : Fin 256) k) : EReal) + (o1 (ix3 (0 : Fin 1) (⟨q + r.val, by omega⟩ : Fin 256) k) : EReal))
      (fun k => sz (ix3 (0 : Fin 1) (⟨q + r.val, by omega⟩ : Fin 256) k)) (fun l => ng (ix2 (0 : Fin 1) l)) 128 (by decide) (by decide)
      (fun l => congrArg₂ (fun a b : EReal => a + b) (ld_rows o0 q 128 hq (by decide) i1 r l) (ld_rows o1 q 128 hq (by decide) i1 r l))
      (fun l => ld_rows sz q 128 hq (by decide) i1 r l) hng).trans ?_
    unfold mixRow joinRow
    rw [dif_neg (show ¬ 640 + l.val < 512 by omega)]
    exact congrArg _ (Fin.ext (show 128 + l.val = 640 + l.val - 512 by omega))
  · refine (head_apply _ _ _ _ r l (fun k => (o0 (ix3 (0 : Fin 1) (⟨q + r.val, by omega⟩ : Fin 256) k) : EReal) + (o1 (ix3 (0 : Fin 1) (⟨q + r.val, by omega⟩ : Fin 256) k) : EReal))
      (fun k => sz (ix3 (0 : Fin 1) (⟨q + r.val, by omega⟩ : Fin 256) k)) (fun l => ng (ix2 (0 : Fin 1) l)) 256 (by decide) (by decide)
      (fun l => congrArg₂ (fun a b : EReal => a + b) (ld_rows o0 q 256 hq (by decide) i2 r l) (ld_rows o1 q 256 hq (by decide) i2 r l))
      (fun l => ld_rows sz q 256 hq (by decide) i2 r l) hng).trans ?_
    unfold mixRow joinRow
    rw [dif_neg (show ¬ 768 + l.val < 512 by omega)]
    exact congrArg _ (Fin.ext (show 256 + l.val = 768 + l.val - 512 by omega))
  · refine (head_apply _ _ _ _ r l (fun k => (o0 (ix3 (0 : Fin 1) (⟨q + r.val, by omega⟩ : Fin 256) k) : EReal) + (o1 (ix3 (0 : Fin 1) (⟨q + r.val, by omega⟩ : Fin 256) k) : EReal))
      (fun k => sz (ix3 (0 : Fin 1) (⟨q + r.val, by omega⟩ : Fin 256) k)) (fun l => ng (ix2 (0 : Fin 1) l)) 384 (by decide) (by decide)
      (fun l => congrArg₂ (fun a b : EReal => a + b) (ld_rows o0 q 384 hq (by decide) i3 r l) (ld_rows o1 q 384 hq (by decide) i3 r l))
      (fun l => ld_rows sz q 384 hq (by decide) i3 r l) hng).trans ?_
    unfold mixRow joinRow
    rw [dif_neg (show ¬ 896 + l.val < 512 by omega)]
    exact congrArg _ (Fin.ext (show 384 + l.val = 896 + l.val - 512 by omega))

/-- Row `R` of the block of results. -/
def blockRow (n : BitVec 32) (hf : Vec Ideal S1x256x512 .f32) (hb : Vec Ideal S1x256x512 .f32) (ga : Vec Ideal S1x256x512 .bf16) (o0 : Vec Ideal S1x256x512 .bf16) (o1 : Vec Ideal S1x256x512 .bf16) (sz : Vec Ideal S1x256x512 .bf16) (ct : Vec Ideal S1x256x1024 .f32) (xl : Vec Ideal S1x256x1024 .f32) (mt : Vec Ideal S1x1x6x1024 .f32) (ng : Vec Ideal S1x128 .f32) (wo : Vec Ideal S1024x1024 .bf16) (gf : Vec Ideal S1x1024 .f32) (wg : Vec Ideal S1024x2816 .bf16) (wu : Vec Ideal S1024x2816 .bf16) (wd : Vec Ideal S2816x1024 .bf16) (R : Fin 256) : Fin 1024 → EReal :=
  outRow (fun k => (if Scalar.cmpi .slt n 1#32 = 1#1 then ct else xl) (ix3 (0 : Fin 1) R k)) (mixRow hf hb ga o0 o1 sz ng R)
    (fun a k => mt (ix4 (0 : Fin 1) (0 : Fin 1) a k)) (fun k l => wo (ix2 k l)) (fun k => gf (ix2 (0 : Fin 1) k))
    (fun k l => wg (ix2 k l)) (fun k l => wu (ix2 k l)) (fun k l => wd (ix2 k l))

/-- The row the projection is added to. -/
theorem base_apply (n : BitVec 32) (ct xl : Vec Ideal S1x256x1024 .f32) (q : ℕ) (hq : q + 128 ≤ 256)
    (i : ∀ a, (![0, q, 0] : Fin 3 → ℕ) a + S1x128x1024.size a ≤ S1x256x1024.size a) (r : Fin 128) (k : Fin 1024) :
    (if Scalar.cmpi .slt n 1#32 = 1#1 then View.ld (Val := Elt Ideal) (e' := .f32) ct (Rect.unit (s := S1x256x1024) ![0, q, 0] S1x128x1024.size i)
      else View.ld (Val := Elt Ideal) (e' := .f32) xl (Rect.unit (s := S1x256x1024) ![0, q, 0] S1x128x1024.size i)) (ix3 (0 : Fin 1) r k)
      = (if Scalar.cmpi .slt n 1#32 = 1#1 then ct else xl) (ix3 (0 : Fin 1) (⟨q + r.val, by omega⟩ : Fin 256) k) := by
  have e : (⟨0 + k.val, by omega⟩ : Fin 1024) = k := Fin.ext (Nat.zero_add _)
  have hl : ∀ x : Vec Ideal S1x256x1024 .f32, View.ld (Val := Elt Ideal) (e' := .f32) x (Rect.unit (s := S1x256x1024) ![0, q, 0] S1x128x1024.size i) (ix3 (0 : Fin 1) r k)
      = x (ix3 (0 : Fin 1) (⟨q + r.val, by omega⟩ : Fin 256) k) := fun x =>
    (ld_rows x q 0 hq (by decide) i r k).trans (congrArg (fun l => x (ix3 (0 : Fin 1) (⟨q + r.val, by omega⟩ : Fin 256) l)) e)
  by_cases h : Scalar.cmpi .slt n 1#32 = 1#1
  · rw [if_pos h, if_pos h]; exact hl ct
  · rw [if_neg h, if_neg h]; exact hl xl

theorem rows0_apply (n : BitVec 32) (hf : Vec Ideal S1x256x512 .f32) (hb : Vec Ideal S1x256x512 .f32) (ga : Vec Ideal S1x256x512 .bf16) (o0 : Vec Ideal S1x256x512 .bf16) (o1 : Vec Ideal S1x256x512 .bf16) (sz : Vec Ideal S1x256x512 .bf16) (ct : Vec Ideal S1x256x1024 .f32) (xl : Vec Ideal S1x256x1024 .f32) (mt : Vec Ideal S1x1x6x1024 .f32) (ng : Vec Ideal S1x128 .f32) (wo : Vec Ideal S1024x1024 .bf16) (gf : Vec Ideal S1x1024 .f32) (wg : Vec Ideal S1024x2816 .bf16) (wu : Vec Ideal S1024x2816 .bf16) (wd : Vec Ideal S2816x1024 .bf16) (r : Fin 128) (c : Fin 1024) :
    rows0 n hf hb ga o0 o1 sz ct xl mt ng wo gf wg wu wd (ix2 r c) = blockRow n hf hb ga o0 o1 sz ct xl mt ng wo gf wg wu wd ⟨0 + r.val, by omega⟩ c := by
  unfold rows0 joined0 blockRow
  refine (rows_apply n _ _ _ mt wo gf wg wu wd r c).trans ?_
  exact congrArg₂ (fun x y => outRow x y _ _ _ _ _ _ c) (funext fun k => base_apply n ct xl 0 (by decide) _ r k)
    (funext fun k => joined_apply hf hb ga o0 o1 sz ng 0 (by decide) _ _ _ _ _ r k)

theorem rows1_apply (n : BitVec 32) (hf : Vec Ideal S1x256x512 .f32) (hb : Vec Ideal S1x256x512 .f32) (ga : Vec Ideal S1x256x512 .bf16) (o0 : Vec Ideal S1x256x512 .bf16) (o1 : Vec Ideal S1x256x512 .bf16) (sz : Vec Ideal S1x256x512 .bf16) (ct : Vec Ideal S1x256x1024 .f32) (xl : Vec Ideal S1x256x1024 .f32) (mt : Vec Ideal S1x1x6x1024 .f32) (ng : Vec Ideal S1x128 .f32) (wo : Vec Ideal S1024x1024 .bf16) (gf : Vec Ideal S1x1024 .f32) (wg : Vec Ideal S1024x2816 .bf16) (wu : Vec Ideal S1024x2816 .bf16) (wd : Vec Ideal S2816x1024 .bf16) (r : Fin 128) (c : Fin 1024) :
    rows1 n hf hb ga o0 o1 sz ct xl mt ng wo gf wg wu wd (ix2 r c) = blockRow n hf hb ga o0 o1 sz ct xl mt ng wo gf wg wu wd ⟨128 + r.val, by omega⟩ c := by
  unfold rows1 joined1 blockRow
  refine (rows_apply n _ _ _ mt wo gf wg wu wd r c).trans ?_
  exact congrArg₂ (fun x y => outRow x y _ _ _ _ _ _ c) (funext fun k => base_apply n ct xl 128 (by decide) _ r k)
    (funext fun k => joined_apply hf hb ga o0 o1 sz ng 128 (by decide) _ _ _ _ _ r k)

/-- A place of the block of results. -/
theorem blockOut_apply (n : BitVec 32) (hf : Vec Ideal S1x256x512 .f32) (hb : Vec Ideal S1x256x512 .f32) (ga : Vec Ideal S1x256x512 .bf16) (o0 : Vec Ideal S1x256x512 .bf16) (o1 : Vec Ideal S1x256x512 .bf16) (sz : Vec Ideal S1x256x512 .bf16) (ct : Vec Ideal S1x256x1024 .f32) (xl : Vec Ideal S1x256x1024 .f32) (mt : Vec Ideal S1x1x6x1024 .f32) (ng : Vec Ideal S1x128 .f32) (wo : Vec Ideal S1024x1024 .bf16) (gf : Vec Ideal S1x1024 .f32) (wg : Vec Ideal S1024x2816 .bf16) (wu : Vec Ideal S1024x2816 .bf16) (wd : Vec Ideal S2816x1024 .bf16) (u : Fin 1) (R : Fin 256) (c : Fin 1024) :
    blockOut n hf hb ga o0 o1 sz ct xl mt ng wo gf wg wu wd (ix3 u R c) = blockRow n hf hb ga o0 o1 sz ct xl mt ng wo gf wg wu wd R c := by
  unfold blockOut
  refine (shapeCast_ab_1ab_apply _ shapeCasts_S256x1024_S1x256x1024 u R c).trans ?_
  by_cases hR : R.val < 128
  · refine (concatenate_pair_apply_left 0 _ _ concatenates_S128x1024_S128x1024_S256x1024_d0 (ix2 R c) rfl (ix2 (⟨R.val, hR⟩ : Fin 128) c) (fun b => by
      match b with
      | ⟨0, _⟩ => rfl
      | ⟨1, _⟩ => rfl)).trans ?_
    refine (rows0_apply n hf hb ga o0 o1 sz ct xl mt ng wo gf wg wu wd ⟨R.val, hR⟩ c).trans ?_
    exact congrArg (fun R => blockRow n hf hb ga o0 o1 sz ct xl mt ng wo gf wg wu wd R c) (Fin.ext (Nat.zero_add _))
  · refine (concatenate_pair_apply_right 0 _ _ concatenates_S128x1024_S128x1024_S256x1024_d0 (ix2 R c) rfl rfl (ix2 (⟨R.val - 128, by omega⟩ : Fin 128) c) (fun b hb => by
      match b with
      | ⟨0, _⟩ => exact absurd rfl hb
      | ⟨1, _⟩ => rfl) (show R.val - 128 + 128 = R.val by omega)).trans ?_
    refine (rows1_apply n hf hb ga o0 o1 sz ct xl mt ng wo gf wg wu wd ⟨R.val - 128, by omega⟩ c).trans ?_
    exact congrArg (fun R => blockRow n hf hb ga o0 o1 sz ct xl mt ng wo gf wg wu wd R c) (Fin.ext (show 128 + (R.val - 128) = R.val by omega))

end Cert.Proof.Tail
-- ==== Proof.TailMixer.lean ====
/- The reference's mixers in ideal arithmetic: a row's two halves joined, and its projection. -/
module

public import proofs.«01_k».proof.Proof.TailRow
public import proofs.«01_k».proof.Proof.Gen.Reference2Ideal.Read
public import Idealize.ShloMosaic.Lib.IdealHost

@[expose] public section

set_option maxRecDepth 16384

noncomputable section

namespace Cert.Proof.Tail

open Cert.Reference2Ideal Cert.Reference2Ideal.Gen Cert.Reference2Ideal.Read
open Idealize.ShloMosaic Idealize.ShloMosaic.TcCoe Idealize.ShloMosaic.ValueIdx
open Idealize.SL Idealize.SL.Sem
open scoped BigOperators

variable (x0 x1 : S8x2304x512.Idx → EReal) (x2 x3 x4 x5 : S8x2304x512.Idx → EReal) (x6 : S8x256x1024.Idx → EReal) (x7 : S8x2048x1024.Idx → EReal)
  (x8 : S8x2x6x1024.Idx → EReal) (x9 : S128.Idx → EReal) (x10 : S1024x1024.Idx → EReal) (x11 : S1024.Idx → EReal)
  (x12 x13 : S1024x2816.Idx → EReal) (x14 : S2816x1024.Idx → EReal)

theorem heads_ix (b : Fin 8) (r : Fin 2304) (k : Fin 512) :
    idx_main_v20 (ix3 b r k) = ix4 b r (⟨k.val / 128, by omega⟩ : Fin 4) (⟨k.val % 128, by omega⟩ : Fin 128) := by
  have hb := b.isLt; have hr := r.isLt; have hk := k.isLt
  funext a
  match a with
  | ⟨0, _⟩ => exact Fin.ext (show ((b.val * 2304 + r.val) * 512 + k.val) / 1179648 = b.val by omega)
  | ⟨1, _⟩ => exact Fin.ext (show ((b.val * 2304 + r.val) * 512 + k.val) / 512 % 2304 = r.val by omega)
  | ⟨2, _⟩ => exact Fin.ext (show ((b.val * 2304 + r.val) * 512 + k.val) / 128 % 4 = k.val / 128 by omega)
  | ⟨3, _⟩ => exact Fin.ext (show ((b.val * 2304 + r.val) * 512 + k.val) % 128 = k.val % 128 by omega)

theorem flat_ix (b : Fin 8) (r : Fin 2304) (h : Fin 4) (l : Fin 128) :
    idx_main_v6 (ix4 b r h l) = ix3 b r (⟨h.val * 128 + l.val, by omega⟩ : Fin 512) := by
  have hb := b.isLt; have hr := r.isLt; have hh := h.isLt; have hl := l.isLt
  funext a
  match a with
  | ⟨0, _⟩ => exact Fin.ext (show (((b.val * 2304 + r.val) * 4 + h.val) * 128 + l.val) / 1179648 = b.val by omega)
  | ⟨1, _⟩ => exact Fin.ext (show (((b.val * 2304 + r.val) * 4 + h.val) * 128 + l.val) / 512 % 2304 = r.val by omega)
  | ⟨2, _⟩ => exact Fin.ext (show (((b.val * 2304 + r.val) * 4 + h.val) * 128 + l.val) % 512 = h.val * 128 + l.val by omega)

/-- The sum of the two linear-attention outputs, by heads. -/
theorem sum_at (b : Fin 8) (r : Fin 2304) (h : Fin 4) (l : Fin 128) :
    val_main_v6 (F := Ideal) x3 x4 (ix4 b r h l)
      = x3 (ix3 b r (⟨h.val * 128 + l.val, by omega⟩ : Fin 512)) + x4 (ix3 b r (⟨h.val * 128 + l.val, by omega⟩ : Fin 512)) := by
  rw [val_main_v6_apply, flat_ix]
  rfl

/-- A head's scale: one over its root mean square. -/
theorem headScale_at (b : Fin 8) (r : Fin 2304) (h : Fin 4) (l : Fin 128) :
    val_main_v15 (F := Ideal) x3 x4 (ix4 b r h l)
      = Ideal.rsqrt (Ideal.div (∑ l : Fin 128, val_main_v6 (F := Ideal) x3 x4 (ix4 b r h l) * val_main_v6 (F := Ideal) x3 x4 (ix4 b r h l)) (Ideal.ofBits .f32 0x43000000#32) + Ideal.ofBits .f32 0x358637BD#32) := by
  rw [val_main_v15_apply, val_main_v14_apply, val_main_v13_apply, val_main_v11_apply, val_main_v9_apply, val_main_v8_apply,
    val_main_v12_apply, val_main_v10_apply, val_main_cst_apply, val_main_cst_0_apply, val_main_cst_1_apply]
  refine congrArg (fun z : EReal => Ideal.rsqrt (Ideal.div z (Ideal.ofBits .f32 0x43000000#32) + Ideal.ofBits .f32 0x358637BD#32)) ?_
  refine (congrArg (fun z : EReal => z + _) Ideal.ofBits_zero_f32).trans ((zero_add _).trans (Finset.sum_congr rfl fun l' _ => ?_))
  have hix : idx_main_v8 (idx_main_v9 (idx_main_v15 (ix4 b r h l))) l' = ix4 b r h l' := by
    funext a
    match a with
    | ⟨0, _⟩ => rfl
    | ⟨1, _⟩ => rfl
    | ⟨2, _⟩ => rfl
    | ⟨3, _⟩ => rfl
  rw [val_main_v7_apply, hix]
  rfl

/-- The gated heads. -/
theorem heads_at (b : Fin 8) (r : Fin 2304) (k : Fin 512) :
    val_main_v22 (F := Ideal) x3 x4 x5 x9 (ix3 b r k)
      = headRow (fun k => x3 (ix3 b r k) + x4 (ix3 b r k)) (fun k => x5 (ix3 b r k)) (fun l => x9 (ix1 l)) k := by
  have hk : (⟨k.val / 128 * 128 + k.val % 128, by omega⟩ : Fin 512) = k := Fin.ext (show k.val / 128 * 128 + k.val % 128 = k.val by omega)
  have hg : idx_main_v17 (idx_main_v18 (ix4 b r (⟨k.val / 128, by omega⟩ : Fin 4) (⟨k.val % 128, by omega⟩ : Fin 128))) = ix1 (⟨k.val % 128, by omega⟩ : Fin 128) := by
    funext a
    match a with
    | ⟨0, _⟩ => rfl
  rw [val_main_v22_apply, val_main_v20_apply, heads_ix, val_main_v19_apply, val_main_v16_apply, headScale_at, val_main_v18_apply, val_main_v17_apply, hg, sum_at, hk]
  unfold headRow
  refine congrArg (fun s : EReal => (x3 (ix3 b r k) + x4 (ix3 b r k)) * Ideal.rsqrt (Ideal.div s _ + _) * _ * _) (Finset.sum_congr rfl fun l _ => ?_)
  rw [sum_at]

/-- Row `r` of sequence `b` with its two mixers side by side. -/
abbrev mixed (b : Fin 8) (r : Fin 2304) : Fin 1024 → EReal :=
  joinRow (fun k => (x0 (ix3 b r k) + x1 (ix3 b r k)) * x2 (ix3 b r k))
    (headRow (fun k => x3 (ix3 b r k) + x4 (ix3 b r k)) (fun k => x5 (ix3 b r k)) (fun l => x9 (ix1 l)))

theorem mixed_at (b : Fin 8) (r : Fin 2304) (k : Fin 1024) :
    val_main_v23 (F := Ideal) x0 x1 x2 x3 x4 x5 x9 (ix3 b r k) = mixed x0 x1 x2 x3 x4 x5 x9 b r k := by
  unfold val_main_v23
  by_cases hk : k.val < 512
  · refine (concatenate_pair_apply_left (s₁ := S8x2304x512) (s₂ := S8x2304x512) (t := S8x2304x1024) 2 _ _ _ (ix3 b r k) rfl (ix3 b r (⟨k.val, hk⟩ : Fin 512)) ?_).trans ?_
    · intro a
      match a with
      | ⟨0, _⟩ => rfl
      | ⟨1, _⟩ => rfl
      | ⟨2, _⟩ => rfl
    · unfold mixed joinRow
      rw [dif_pos hk]
      rfl
  · refine (concatenate_pair_apply_right (s₁ := S8x2304x512) (s₂ := S8x2304x512) (t := S8x2304x1024) 2 _ _ _ (ix3 b r k) rfl rfl (ix3 b r (⟨k.val - 512, by omega⟩ : Fin 512)) ?_ ?_).trans ?_
    · intro a ha
      match a with
      | ⟨0, _⟩ => rfl
      | ⟨1, _⟩ => rfl
      | ⟨2, _⟩ => exact absurd rfl ha
    · show k.val - 512 + 512 = k.val
      omega
    · unfold mixed joinRow
      rw [dif_neg hk]
      exact heads_at x3 x4 x5 x9 b r _

/-- The projection of a row. -/
theorem projection_at (b : Fin 8) (r : Fin 2304) (n : Fin 1024) :
    val_main_v24 (F := Ideal) x0 x1 x2 x3 x4 x5 x9 x10 (ix3 b r n) = ∑ k : Fin 1024, mixed x0 x1 x2 x3 x4 x5 x9 b r k * x10 (ix2 k n) := by
  rw [val_main_v24_apply]
  refine Finset.sum_congr rfl fun k _ => ?_
  have hl : lidx_main_v24 (ix3 b r n) k = ix3 b r k := by
    funext a
    match a with
    | ⟨0, _⟩ => rfl
    | ⟨1, _⟩ => rfl
    | ⟨2, _⟩ => rfl
  have hr : ridx_main_v24 (ix3 b r n) k = ix2 k n := by
    funext a
    match a with
    | ⟨0, _⟩ => rfl
    | ⟨1, _⟩ => rfl
  rw [hl, hr, mixed_at]

end Cert.Proof.Tail

end
-- ==== Proof.TailReference.lean ====
/- The reference's two results in ideal arithmetic, row by row. -/
module

public import proofs.«01_k».proof.Proof.TailMixer

@[expose] public section

set_option maxRecDepth 16384

noncomputable section

namespace Cert.Proof.Tail

open Cert.Reference2Ideal Cert.Reference2Ideal.Gen Cert.Reference2Ideal.Read
open Idealize.ShloMosaic Idealize.ShloMosaic.TcCoe Idealize.ShloMosaic.ValueIdx
open Idealize.SL Idealize.SL.Sem
open scoped BigOperators

variable (x0 x1 : S8x2304x512.Idx → EReal) (x2 x3 x4 x5 : S8x2304x512.Idx → EReal) (x6 : S8x256x1024.Idx → EReal) (x7 : S8x2048x1024.Idx → EReal)
  (x8 : S8x2x6x1024.Idx → EReal) (x9 : S128.Idx → EReal) (x10 : S1024x1024.Idx → EReal) (x11 : S1024.Idx → EReal)
  (x12 x13 : S1024x2816.Idx → EReal) (x14 : S2816x1024.Idx → EReal)

/-! ### The context -/

theorem ctxMod_at (b : Fin 8) (a : Fin 6) (n : Fin 1024) : val_main_v27 (F := Ideal) x8 (ix3 b a n) = x8 (ix4 b (0 : Fin 2) a n) := by
  have hb := b.isLt; have ha := a.isLt; have hn := n.isLt
  have hix : idx_main_v26 (idx_main_v27 (ix3 b a n)) = ix4 b (0 : Fin 2) a n := by
    funext d
    match d with
    | ⟨0, _⟩ => exact Fin.ext (show ((b.val * 6 + a.val) * 1024 + n.val) / 6144 = b.val by omega)
    | ⟨1, _⟩ => rfl
    | ⟨2, _⟩ => exact Fin.ext (show ((b.val * 6 + a.val) * 1024 + n.val) / 1024 % 6 = a.val by omega)
    | ⟨3, _⟩ => exact Fin.ext (show ((b.val * 6 + a.val) * 1024 + n.val) % 1024 = n.val by omega)
  rw [val_main_v27_apply, val_main_v26_apply, hix]

theorem ctxMod2_at (b : Fin 8) (R : Fin 256) (n : Fin 1024) : val_main_v29 (F := Ideal) x8 (ix3 b R n) = x8 (ix4 b (0 : Fin 2) (2 : Fin 6) n) := by
  have hix : idx_main_v28 (idx_main_v29 (ix3 b R n)) = ix3 b (2 : Fin 6) n := by
    funext a
    match a with
    | ⟨0, _⟩ => rfl
    | ⟨1, _⟩ => rfl
    | ⟨2, _⟩ => rfl
  rw [val_main_v29_apply, val_main_v28_apply, hix, ctxMod_at]

theorem ctxMod3_at (b : Fin 8) (R : Fin 256) (n : Fin 1024) : val_main_v51 (F := Ideal) x8 (ix3 b R n) = x8 (ix4 b (0 : Fin 2) (3 : Fin 6) n) := by
  have hix : idx_main_v50 (idx_main_v51 (ix3 b R n)) = ix3 b (3 : Fin 6) n := by
    funext a
    match a with
    | ⟨0, _⟩ => rfl
    | ⟨1, _⟩ => rfl
    | ⟨2, _⟩ => rfl
  rw [val_main_v51_apply, val_main_v50_apply, hix, ctxMod_at]

theorem ctxMod5_at (b : Fin 8) (R : Fin 256) (n : Fin 1024) : val_main_v59 (F := Ideal) x8 (ix3 b R n) = x8 (ix4 b (0 : Fin 2) (5 : Fin 6) n) := by
  have hix : idx_main_v53 (idx_main_v59 (ix3 b R n)) = ix3 b (5 : Fin 6) n := by
    funext a
    match a with
    | ⟨0, _⟩ => rfl
    | ⟨1, _⟩ => rfl
    | ⟨2, _⟩ => rfl
  rw [val_main_v59_apply, val_main_v53_apply, hix, ctxMod_at]

theorem ctxMod4_at (b : Fin 8) (R : Fin 256) (n : Fin 1024) :
    val_main_v48 (F := Ideal) x8 (ix3 b R n) = Ideal.ofBits .f32 0x3F800000#32 + x8 (ix4 b (0 : Fin 2) (4 : Fin 6) n) := by
  have hix : idx_main_v45 (idx_main_v48 (ix3 b R n)) = ix3 b (4 : Fin 6) n := by
    funext a
    match a with
    | ⟨0, _⟩ => rfl
    | ⟨1, _⟩ => rfl
    | ⟨2, _⟩ => rfl
  rw [val_main_v48_apply, val_main_v47_apply, val_main_v46_apply, val_main_cst_5_apply, val_main_v45_apply, hix, ctxMod_at]
  rfl

/-- A row of the context with its modulated projection added. -/
abbrev ctxBase (b : Fin 8) (R : Fin 256) : Fin 1024 → EReal :=
  addRow (fun k => x6 (ix3 b R k)) (mixed x0 x1 x2 x3 x4 x5 x9 b (⟨R.val, by omega⟩ : Fin 2304)) (fun k => x8 (ix4 b (0 : Fin 2) (2 : Fin 6) k)) (fun k l => x10 (ix2 k l))

theorem ctxBase_at (b : Fin 8) (R : Fin 256) (n : Fin 1024) : val_main_v31 (F := Ideal) x0 x1 x2 x3 x4 x5 x6 x8 x9 x10 (ix3 b R n) = ctxBase x0 x1 x2 x3 x4 x5 x6 x8 x9 x10 b R n := by
  have hix : idx_main_v25 (ix3 b R n) = ix3 b (⟨R.val, by omega⟩ : Fin 2304) n := by
    funext a
    match a with
    | ⟨0, _⟩ => rfl
    | ⟨1, _⟩ => rfl
    | ⟨2, _⟩ => rfl
  rw [val_main_v31_apply, val_main_v30_apply, ctxMod2_at, val_main_v25_apply, hix, projection_at]
  rfl

theorem ctxScale_at (b : Fin 8) (R : Fin 256) (n : Fin 1024) :
    val_main_v40 (F := Ideal) x0 x1 x2 x3 x4 x5 x6 x8 x9 x10 (ix3 b R n)
      = Ideal.rsqrt (Ideal.div (∑ l : Fin 1024, ctxBase x0 x1 x2 x3 x4 x5 x6 x8 x9 x10 b R l * ctxBase x0 x1 x2 x3 x4 x5 x6 x8 x9 x10 b R l) (Ideal.ofBits .f32 0x44800000#32) + Ideal.ofBits .f32 0x358637BD#32) := by
  rw [val_main_v40_apply, val_main_v39_apply, val_main_v38_apply, val_main_v36_apply, val_main_v34_apply, val_main_v33_apply, val_main_v37_apply, val_main_v35_apply, val_main_cst_2_apply, val_main_cst_3_apply, val_main_cst_4_apply]
  refine congrArg (fun z : EReal => Ideal.rsqrt (Ideal.div z (Ideal.ofBits .f32 0x44800000#32) + Ideal.ofBits .f32 0x358637BD#32)) ?_
  refine (congrArg (fun z : EReal => z + _) Ideal.ofBits_zero_f32).trans ((zero_add _).trans (Finset.sum_congr rfl fun l _ => ?_))
  have hix : idx_main_v33 (idx_main_v34 (idx_main_v40 (ix3 b R n))) l = ix3 b R l := by
    funext a
    match a with
    | ⟨0, _⟩ => rfl
    | ⟨1, _⟩ => rfl
    | ⟨2, _⟩ => rfl
  rw [val_main_v32_apply, hix, ctxBase_at]
  rfl

/-- The row the network is given. -/
abbrev ctxNorm (b : Fin 8) (R : Fin 256) : Fin 1024 → EReal :=
  normRow (ctxBase x0 x1 x2 x3 x4 x5 x6 x8 x9 x10 b R) (fun k => x11 (ix1 k)) (fun k => x8 (ix4 b (0 : Fin 2) (3 : Fin 6) k)) (fun k => x8 (ix4 b (0 : Fin 2) (4 : Fin 6) k))

theorem ctxNorm_at (b : Fin 8) (R : Fin 256) (n : Fin 1024) :
    val_main_v52 (F := Ideal) x0 x1 x2 x3 x4 x5 x6 x8 x9 x10 x11 (ix3 b R n) = ctxNorm x0 x1 x2 x3 x4 x5 x6 x8 x9 x10 x11 b R n := by
  have hg : idx_main_v42 (idx_main_v43 (ix3 b R n)) = ix1 n := by
    funext a
    match a with
    | ⟨0, _⟩ => rfl
  rw [val_main_v52_apply, val_main_v49_apply, val_main_v44_apply, val_main_v41_apply, ctxBase_at, ctxScale_at, val_main_v43_apply, val_main_v42_apply, hg, ctxMod4_at, ctxMod3_at]
  rfl

theorem ctxGate_at (b : Fin 8) (R : Fin 256) (f : Fin 2816) :
    val_main_v54 (F := Ideal) x0 x1 x2 x3 x4 x5 x6 x8 x9 x10 x11 x12 (ix3 b R f) = projRow (ctxNorm x0 x1 x2 x3 x4 x5 x6 x8 x9 x10 x11 b R) (fun k l => x12 (ix2 k l)) f := by
  rw [val_main_v54_apply]
  refine Finset.sum_congr rfl fun k _ => ?_
  have hl : lidx_main_v54 (ix3 b R f) k = ix3 b R k := by
    funext a
    match a with
    | ⟨0, _⟩ => rfl
    | ⟨1, _⟩ => rfl
    | ⟨2, _⟩ => rfl
  have hr : ridx_main_v54 (ix3 b R f) k = ix2 k f := by
    funext a
    match a with
    | ⟨0, _⟩ => rfl
    | ⟨1, _⟩ => rfl
  rw [hl, hr, ctxNorm_at]

theorem ctxUp_at (b : Fin 8) (R : Fin 256) (f : Fin 2816) :
    val_main_v56 (F := Ideal) x0 x1 x2 x3 x4 x5 x6 x8 x9 x10 x11 x13 (ix3 b R f) = projRow (ctxNorm x0 x1 x2 x3 x4 x5 x6 x8 x9 x10 x11 b R) (fun k l => x13 (ix2 k l)) f := by
  rw [val_main_v56_apply]
  refine Finset.sum_congr rfl fun k _ => ?_
  have hl : lidx_main_v56 (ix3 b R f) k = ix3 b R k := by
    funext a
    match a with
    | ⟨0, _⟩ => rfl
    | ⟨1, _⟩ => rfl
    | ⟨2, _⟩ => rfl
  have hr : ridx_main_v56 (ix3 b R f) k = ix2 k f := by
    funext a
    match a with
    | ⟨0, _⟩ => rfl
    | ⟨1, _⟩ => rfl
  rw [hl, hr, ctxNorm_at]

theorem ctxHidden_at (b : Fin 8) (R : Fin 256) (f : Fin 2816) :
    val_main_v57 (F := Ideal) x0 x1 x2 x3 x4 x5 x6 x8 x9 x10 x11 x12 x13 (ix3 b R f) = hiddenRow (ctxNorm x0 x1 x2 x3 x4 x5 x6 x8 x9 x10 x11 b R) (fun k l => x12 (ix2 k l)) (fun k l => x13 (ix2 k l)) f := by
  rw [val_main_v57_apply, val_main_v55_apply, val_main_call0_v5_apply, val_main_call0_v3_apply, val_main_call0_v1_apply, val_main_call0_v0_apply, val_main_call0_v4_apply, val_main_call0_v2_apply, val_main_call0_cst_apply, val_main_call0_cst_0_apply, ctxGate_at, ctxUp_at]
  unfold hiddenRow
  generalize projRow (ctxNorm x0 x1 x2 x3 x4 x5 x6 x8 x9 x10 x11 b R) (fun k l => x12 (ix2 k l)) f = y
  refine congrArg (fun z : EReal => y * z * _) ?_
  show Ideal.div (Ideal.ofBits .f32 0x3F800000#32) (Ideal.ofBits .f32 0x3F800000#32 + Ideal.exp (-y)) = Ideal.div 1 (1 + Ideal.exp (-y))
  rw [Ideal.ofBits_one_f32]

/-- The reference's result for a row of the context. -/
theorem ctxResult_at (b : Fin 8) (R : Fin 256) (n : Fin 1024) :
    val_main_v61 (F := Ideal) x0 x1 x2 x3 x4 x5 x6 x8 x9 x10 x11 x12 x13 x14 (ix3 b R n)
      = outRow (fun k => x6 (ix3 b R k)) (mixed x0 x1 x2 x3 x4 x5 x9 b (⟨R.val, by omega⟩ : Fin 2304)) (fun a k => x8 (ix4 b (0 : Fin 2) a k))
          (fun k l => x10 (ix2 k l)) (fun k => x11 (ix1 k)) (fun k l => x12 (ix2 k l)) (fun k l => x13 (ix2 k l)) (fun k l => x14 (ix2 k l)) n := by
  rw [val_main_v61_apply, val_main_v60_apply, ctxBase_at, ctxMod5_at, val_main_v58_apply]
  unfold outRow netRow
  refine congrArg (fun z : EReal => _ + _ * z) (Finset.sum_congr rfl fun f _ => ?_)
  have hl : lidx_main_v58 (ix3 b R n) f = ix3 b R f := by
    funext a
    match a with
    | ⟨0, _⟩ => rfl
    | ⟨1, _⟩ => rfl
    | ⟨2, _⟩ => rfl
  have hr : ridx_main_v58 (ix3 b R n) f = ix2 f n := by
    funext a
    match a with
    | ⟨0, _⟩ => rfl
    | ⟨1, _⟩ => rfl
  rw [hl, hr, ctxHidden_at]

/-! ### The other rows -/

theorem latMod_at (b : Fin 8) (a : Fin 6) (n : Fin 1024) : val_main_v64 (F := Ideal) x8 (ix3 b a n) = x8 (ix4 b (1 : Fin 2) a n) := by
  have hb := b.isLt; have ha := a.isLt; have hn := n.isLt
  have hix : idx_main_v63 (idx_main_v64 (ix3 b a n)) = ix4 b (1 : Fin 2) a n := by
    funext d
    match d with
    | ⟨0, _⟩ => exact Fin.ext (show ((b.val * 6 + a.val) * 1024 + n.val) / 6144 = b.val by omega)
    | ⟨1, _⟩ => rfl
    | ⟨2, _⟩ => exact Fin.ext (show ((b.val * 6 + a.val) * 1024 + n.val) / 1024 % 6 = a.val by omega)
    | ⟨3, _⟩ => exact Fin.ext (show ((b.val * 6 + a.val) * 1024 + n.val) % 1024 = n.val by omega)
  rw [val_main_v64_apply, val_main_v63_apply, hix]

theorem latMod2_at (b : Fin 8) (R : Fin 2048) (n : Fin 1024) : val_main_v66 (F := Ideal) x8 (ix3 b R n) = x8 (ix4 b (1 : Fin 2) (2 : Fin 6) n) := by
  have hix : idx_main_v65 (idx_main_v66 (ix3 b R n)) = ix3 b (2 : Fin 6) n := by
    funext a
    match a with
    | ⟨0, _⟩ => rfl
    | ⟨1, _⟩ => rfl
    | ⟨2, _⟩ => rfl
  rw [val_main_v66_apply, val_main_v65_apply, hix, latMod_at]

theorem latMod3_at (b : Fin 8) (R : Fin 2048) (n : Fin 1024) : val_main_v88 (F := Ideal) x8 (ix3 b R n) = x8 (ix4 b (1 : Fin 2) (3 : Fin 6) n) := by
  have hix : idx_main_v87 (idx_main_v88 (ix3 b R n)) = ix3 b (3 : Fin 6) n := by
    funext a
    match a with
    | ⟨0, _⟩ => rfl
    | ⟨1, _⟩ => rfl
    | ⟨2, _⟩ => rfl
  rw [val_main_v88_apply, val_main_v87_apply, hix, latMod_at]

theorem latMod5_at (b : Fin 8) (R : Fin 2048) (n : Fin 1024) : val_main_v96 (F := Ideal) x8 (ix3 b R n) = x8 (ix4 b (1 : Fin 2) (5 : Fin 6) n) := by
  have hix : idx_main_v90 (idx_main_v96 (ix3 b R n)) = ix3 b (5 : Fin 6) n := by
    funext a
    match a with
    | ⟨0, _⟩ => rfl
    | ⟨1, _⟩ => rfl
    | ⟨2, _⟩ => rfl
  rw [val_main_v96_apply, val_main_v90_apply, hix, latMod_at]

theorem latMod4_at (b : Fin 8) (R : Fin 2048) (n : Fin 1024) :
    val_main_v85 (F := Ideal) x8 (ix3 b R n) = Ideal.ofBits .f32 0x3F800000#32 + x8 (ix4 b (1 : Fin 2) (4 : Fin 6) n) := by
  have hix : idx_main_v82 (idx_main_v85 (ix3 b R n)) = ix3 b (4 : Fin 6) n := by
    funext a
    match a with
    | ⟨0, _⟩ => rfl
    | ⟨1, _⟩ => rfl
    | ⟨2, _⟩ => rfl
  rw [val_main_v85_apply, val_main_v84_apply, val_main_v83_apply, val_main_cst_9_apply, val_main_v82_apply, hix, latMod_at]
  rfl

/-- A row of the other rows with its modulated projection added. -/
abbrev latBase (b : Fin 8) (R : Fin 2048) : Fin 1024 → EReal :=
  addRow (fun k => x7 (ix3 b R k)) (mixed x0 x1 x2 x3 x4 x5 x9 b (⟨256 + R.val, by omega⟩ : Fin 2304)) (fun k => x8 (ix4 b (1 : Fin 2) (2 : Fin 6) k)) (fun k l => x10 (ix2 k l))

theorem latBase_at (b : Fin 8) (R : Fin 2048) (n : Fin 1024) : val_main_v68 (F := Ideal) x0 x1 x2 x3 x4 x5 x7 x8 x9 x10 (ix3 b R n) = latBase x0 x1 x2 x3 x4 x5 x7 x8 x9 x10 b R n := by
  have hix : idx_main_v62 (ix3 b R n) = ix3 b (⟨256 + R.val, by omega⟩ : Fin 2304) n := by
    funext a
    match a with
    | ⟨0, _⟩ => rfl
    | ⟨1, _⟩ => rfl
    | ⟨2, _⟩ => rfl
  rw [val_main_v68_apply, val_main_v67_apply, latMod2_at, val_main_v62_apply, hix, projection_at]
  rfl

theorem latScale_at (b : Fin 8) (R : Fin 2048) (n : Fin 1024) :
    val_main_v77 (F := Ideal) x0 x1 x2 x3 x4 x5 x7 x8 x9 x10 (ix3 b R n)
      = Ideal.rsqrt (Ideal.div (∑ l : Fin 1024, latBase x0 x1 x2 x3 x4 x5 x7 x8 x9 x10 b R l * latBase x0 x1 x2 x3 x4 x5 x7 x8 x9 x10 b R l) (Ideal.ofBits .f32 0x44800000#32) + Ideal.ofBits .f32 0x358637BD#32) := by
  rw [val_main_v77_apply, val_main_v76_apply, val_main_v75_apply, val_main_v73_apply, val_main_v71_apply, val_main_v70_apply, val_main_v74_apply, val_main_v72_apply, val_main_cst_6_apply, val_main_cst_7_apply, val_main_cst_8_apply]
  refine congrArg (fun z : EReal => Ideal.rsqrt (Ideal.div z (Ideal.ofBits .f32 0x44800000#32) + Ideal.ofBits .f32 0x358637BD#32)) ?_
  refine (congrArg (fun z : EReal => z + _) Ideal.ofBits_zero_f32).trans ((zero_add _).trans (Finset.sum_congr rfl fun l _ => ?_))
  have hix : idx_main_v70 (idx_main_v71 (idx_main_v77 (ix3 b R n))) l = ix3 b R l := by
    funext a
    match a with
    | ⟨0, _⟩ => rfl
    | ⟨1, _⟩ => rfl
    | ⟨2, _⟩ => rfl
  rw [val_main_v69_apply, hix, latBase_at]
  rfl

/-- The row the network is given. -/
abbrev latNorm (b : Fin 8) (R : Fin 2048) : Fin 1024 → EReal :=
  normRow (latBase x0 x1 x2 x3 x4 x5 x7 x8 x9 x10 b R) (fun k => x11 (ix1 k)) (fun k => x8 (ix4 b (1 : Fin 2) (3 : Fin 6) k)) (fun k => x8 (ix4 b (1 : Fin 2) (4 : Fin 6) k))

theorem latNorm_at (b : Fin 8) (R : Fin 2048) (n : Fin 1024) :
    val_main_v89 (F := Ideal) x0 x1 x2 x3 x4 x5 x7 x8 x9 x10 x11 (ix3 b R n) = latNorm x0 x1 x2 x3 x4 x5 x7 x8 x9 x10 x11 b R n := by
  have hg : idx_main_v79 (idx_main_v80 (ix3 b R n)) = ix1 n := by
    funext a
    match a with
    | ⟨0, _⟩ => rfl
  rw [val_main_v89_apply, val_main_v86_apply, val_main_v81_apply, val_main_v78_apply, latBase_at, latScale_at, val_main_v80_apply, val_main_v79_apply, hg, latMod4_at, latMod3_at]
  rfl

theorem latGate_at (b : Fin 8) (R : Fin 2048) (f : Fin 2816) :
    val_main_v91 (F := Ideal) x0 x1 x2 x3 x4 x5 x7 x8 x9 x10 x11 x12 (ix3 b R f) = projRow (latNorm x0 x1 x2 x3 x4 x5 x7 x8 x9 x10 x11 b R) (fun k l => x12 (ix2 k l)) f := by
  rw [val_main_v91_apply]
  refine Finset.sum_congr rfl fun k _ => ?_
  have hl : lidx_main_v91 (ix3 b R f) k = ix3 b R k := by
    funext a
    match a with
    | ⟨0, _⟩ => rfl
    | ⟨1, _⟩ => rfl
    | ⟨2, _⟩ => rfl
  have hr : ridx_main_v91 (ix3 b R f) k = ix2 k f := by
    funext a
    match a with
    | ⟨0, _⟩ => rfl
    | ⟨1, _⟩ => rfl
  rw [hl, hr, latNorm_at]

theorem latUp_at (b : Fin 8) (R : Fin 2048) (f : Fin 2816) :
    val_main_v93 (F := Ideal) x0 x1 x2 x3 x4 x5 x7 x8 x9 x10 x11 x13 (ix3 b R f) = projRow (latNorm x0 x1 x2 x3 x4 x5 x7 x8 x9 x10 x11 b R) (fun k l => x13 (ix2 k l)) f := by
  rw [val_main_v93_apply]
  refine Finset.sum_congr rfl fun k _ => ?_
  have hl : lidx_main_v93 (ix3 b R f) k = ix3 b R k := by
    funext a
    match a with
    | ⟨0, _⟩ => rfl
    | ⟨1, _⟩ => rfl
    | ⟨2, _⟩ => rfl
  have hr : ridx_main_v93 (ix3 b R f) k = ix2 k f := by
    funext a
    match a with
    | ⟨0, _⟩ => rfl
    | ⟨1, _⟩ => rfl
  rw [hl, hr, latNorm_at]

theorem latHidden_at (b : Fin 8) (R : Fin 2048) (f : Fin 2816) :
    val_main_v94 (F := Ideal) x0 x1 x2 x3 x4 x5 x7 x8 x9 x10 x11 x12 x13 (ix3 b R f) = hiddenRow (latNorm x0 x1 x2 x3 x4 x5 x7 x8 x9 x10 x11 b R) (fun k l => x12 (ix2 k l)) (fun k l => x13 (ix2 k l)) f := by
  rw [val_main_v94_apply, val_main_v92_apply, val_main_call1_v5_apply, val_main_call1_v3_apply, val_main_call1_v1_apply, val_main_call1_v0_apply, val_main_call1_v4_apply, val_main_call1_v2_apply, val_main_call1_cst_apply, val_main_call1_cst_0_apply, latGate_at, latUp_at]
  unfold hiddenRow
  generalize projRow (latNorm x0 x1 x2 x3 x4 x5 x7 x8 x9 x10 x11 b R) (fun k l => x12 (ix2 k l)) f = y
  refine congrArg (fun z : EReal => y * z * _) ?_
  show Ideal.div (Ideal.ofBits .f32 0x3F800000#32) (Ideal.ofBits .f32 0x3F800000#32 + Ideal.exp (-y)) = Ideal.div 1 (1 + Ideal.exp (-y))
  rw [Ideal.ofBits_one_f32]

/-- The reference's result for a row of the other rows. -/
theorem latResult_at (b : Fin 8) (R : Fin 2048) (n : Fin 1024) :
    val_main_v98 (F := Ideal) x0 x1 x2 x3 x4 x5 x7 x8 x9 x10 x11 x12 x13 x14 (ix3 b R n)
      = outRow (fun k => x7 (ix3 b R k)) (mixed x0 x1 x2 x3 x4 x5 x9 b (⟨256 + R.val, by omega⟩ : Fin 2304)) (fun a k => x8 (ix4 b (1 : Fin 2) a k))
          (fun k l => x10 (ix2 k l)) (fun k => x11 (ix1 k)) (fun k l => x12 (ix2 k l)) (fun k l => x13 (ix2 k l)) (fun k l => x14 (ix2 k l)) n := by
  rw [val_main_v98_apply, val_main_v97_apply, latBase_at, latMod5_at, val_main_v95_apply]
  unfold outRow netRow
  refine congrArg (fun z : EReal => _ + _ * z) (Finset.sum_congr rfl fun f _ => ?_)
  have hl : lidx_main_v95 (ix3 b R n) f = ix3 b R f := by
    funext a
    match a with
    | ⟨0, _⟩ => rfl
    | ⟨1, _⟩ => rfl
    | ⟨2, _⟩ => rfl
  have hr : ridx_main_v95 (ix3 b R n) f = ix2 f n := by
    funext a
    match a with
    | ⟨0, _⟩ => rfl
    | ⟨1, _⟩ => rfl
  rw [hl, hr, latHidden_at]

end Cert.Proof.Tail

end
-- ==== Proof.TailResult.lean ====
/- The kernel's two results are the reference's, place by place. -/
module

public import proofs.«01_k».proof.Proof.TailArray
public import proofs.«01_k».proof.Proof.TailBlock
public import proofs.«01_k».proof.Proof.TailReference

@[expose] public section

set_option maxRecDepth 16384

noncomputable section

namespace Cert.Proof.Tail

open Cert.Kernel2Ideal Cert.Kernel2Ideal.Gen
open Idealize.ShloMosaic hiding ix1 ix2 ix3 ix4
open Idealize.ShloMosaic.TcCoe Idealize.ShloMosaic.ValueIdx
open Idealize.SL Idealize.SL.Sem
open scoped BigOperators

variable (m : (ℓ : Loc nD τ sig) → Buf (Elt Ideal) ℓ)

/-! ### The arguments as functions into the reals -/

abbrev a0 (c : Dev nD) : S8x2304x512.Idx → EReal := m ((c.tc : Thread nD τ).loc main_arg0)
abbrev a1 (c : Dev nD) : S8x2304x512.Idx → EReal := m ((c.tc : Thread nD τ).loc main_arg1)
abbrev a2 (c : Dev nD) : S8x2304x512.Idx → EReal := m ((c.tc : Thread nD τ).loc main_arg2)
abbrev a3 (c : Dev nD) : S8x2304x512.Idx → EReal := m ((c.tc : Thread nD τ).loc main_arg3)
abbrev a4 (c : Dev nD) : S8x2304x512.Idx → EReal := m ((c.tc : Thread nD τ).loc main_arg4)
abbrev a5 (c : Dev nD) : S8x2304x512.Idx → EReal := m ((c.tc : Thread nD τ).loc main_arg5)
abbrev a6 (c : Dev nD) : S8x256x1024.Idx → EReal := m ((c.tc : Thread nD τ).loc main_arg6)
abbrev a7 (c : Dev nD) : S8x2048x1024.Idx → EReal := m ((c.tc : Thread nD τ).loc main_arg7)
abbrev a8 (c : Dev nD) : S8x2x6x1024.Idx → EReal := m ((c.tc : Thread nD τ).loc main_arg8)
abbrev a9 (c : Dev nD) : S128.Idx → EReal := m ((c.tc : Thread nD τ).loc main_arg9)
abbrev a10 (c : Dev nD) : S1024x1024.Idx → EReal := m ((c.tc : Thread nD τ).loc main_arg10)
abbrev a11 (c : Dev nD) : S1024.Idx → EReal := m ((c.tc : Thread nD τ).loc main_arg11)
abbrev a12 (c : Dev nD) : S1024x2816.Idx → EReal := m ((c.tc : Thread nD τ).loc main_arg12)
abbrev a13 (c : Dev nD) : S1024x2816.Idx → EReal := m ((c.tc : Thread nD τ).loc main_arg13)
abbrev a14 (c : Dev nD) : S2816x1024.Idx → EReal := m ((c.tc : Thread nD τ).loc main_arg14)

/-! ### What the host hands over -/

theorem V_main_v0 (c : Dev nD) : V m c main_v0 = shapeCast (α := Ideal .f32) S1x128 (a9 m c) shapeCasts_S128_S1x128 := by
  unfold V hostOps0; after_results; rfl
theorem V_main_v2 (c : Dev nD) : V m c main_v2 = shapeCast (α := Ideal .f32) S1x1024 (a11 m c) shapeCasts_S1024_S1x1024 := by
  unfold V hostOps0; after_results; rfl
theorem V_main_v1 (c : Dev nD) : V m c main_v1 = a10 m c := by unfold V hostOps0; after_results; rfl
theorem V_main_v3 (c : Dev nD) : V m c main_v3 = a12 m c := by unfold V hostOps0; after_results; rfl
theorem V_main_v4 (c : Dev nD) : V m c main_v4 = a13 m c := by unfold V hostOps0; after_results; rfl
theorem V_main_v5 (c : Dev nD) : V m c main_v5 = a14 m c := by unfold V hostOps0; after_results; rfl

/-! ### A step's blocks, read from the arguments -/

/-- The row of the joined sequence that row `R` of step `t` is. -/
abbrev rowOf (t : Fin grid0.N) (R : Fin 256) : Fin 2304 := ⟨t.val % 9 * 256 + R.val, by omega⟩
/-- The row among the other rows. -/
abbrev latRow (t : Fin grid0.N) (R : Fin 256) : Fin 2048 := ⟨(t.val % 9 - 1) * 256 + R.val, by omega⟩
/-- The half of the modulation table a step reads. -/
abbrev halfOf (t : Fin grid0.N) : Fin 2 := ⟨if t.val % 9 = 0 then 0 else 1, by split <;> omega⟩

theorem blk_0 (c : Dev nD) (t : Fin grid0.N) (R : Fin 256) (l : Fin 512) :
    (iblk m c 0 t : S1x256x512.Idx → EReal) (ix3 (0 : Fin 1) R l) = a0 m c (ix3 (seqOf t) (rowOf t R) l) := by
  have hE : ((cfg0.win 0).blk t).view.emb (ix3 (0 : Fin 1) R l : S1x256x512.Idx) = (ix3 (seqOf t) (rowOf t R) l : S8x2304x512.Idx) := by
    refine funext fun a => Fin.ext ?_
    refine (Pipeline.Window.rect_emb_val (cfg0.win 0) t _ a rfl).trans ?_
    refine (congrArg (fun e : Fin 3 → ℕ => e a * _ + _) (at_0 t)).trans ?_
    match a with
    | ⟨0, _⟩ => show t.val / 9 * 1 + 0 = t.val / 9; omega
    | ⟨1, _⟩ => rfl
    | ⟨2, _⟩ => show 0 * 512 + l.val = l.val; omega
  exact (congrFun (V_main_arg0 m c) _).trans (congrArg (a0 m c) hE)
theorem blk_1 (c : Dev nD) (t : Fin grid0.N) (R : Fin 256) (l : Fin 512) :
    (iblk m c 1 t : S1x256x512.Idx → EReal) (ix3 (0 : Fin 1) R l) = a1 m c (ix3 (seqOf t) (rowOf t R) l) := by
  have hE : ((cfg0.win 1).blk t).view.emb (ix3 (0 : Fin 1) R l : S1x256x512.Idx) = (ix3 (seqOf t) (rowOf t R) l : S8x2304x512.Idx) := by
    refine funext fun a => Fin.ext ?_
    refine (Pipeline.Window.rect_emb_val (cfg0.win 1) t _ a rfl).trans ?_
    refine (congrArg (fun e : Fin 3 → ℕ => e a * _ + _) (at_1 t)).trans ?_
    match a with
    | ⟨0, _⟩ => show t.val / 9 * 1 + 0 = t.val / 9; omega
    | ⟨1, _⟩ => rfl
    | ⟨2, _⟩ => show 0 * 512 + l.val = l.val; omega
  exact (congrFun (V_main_arg1 m c) _).trans (congrArg (a1 m c) hE)
theorem blk_2 (c : Dev nD) (t : Fin grid0.N) (R : Fin 256) (l : Fin 512) :
    (iblk m c 2 t : S1x256x512.Idx → EReal) (ix3 (0 : Fin 1) R l) = a2 m c (ix3 (seqOf t) (rowOf t R) l) := by
  have hE : ((cfg0.win 2).blk t).view.emb (ix3 (0 : Fin 1) R l : S1x256x512.Idx) = (ix3 (seqOf t) (rowOf t R) l : S8x2304x512.Idx) := by
    refine funext fun a => Fin.ext ?_
    refine (Pipeline.Window.rect_emb_val (cfg0.win 2) t _ a rfl).trans ?_
    refine (congrArg (fun e : Fin 3 → ℕ => e a * _ + _) (at_2 t)).trans ?_
    match a with
    | ⟨0, _⟩ => show t.val / 9 * 1 + 0 = t.val / 9; omega
    | ⟨1, _⟩ => rfl
    | ⟨2, _⟩ => show 0 * 512 + l.val = l.val; omega
  exact (congrFun (V_main_arg2 m c) _).trans (congrArg (a2 m c) hE)
theorem blk_3 (c : Dev nD) (t : Fin grid0.N) (R : Fin 256) (l : Fin 512) :
    (iblk m c 3 t : S1x256x512.Idx → EReal) (ix3 (0 : Fin 1) R l) = a3 m c (ix3 (seqOf t) (rowOf t R) l) := by
  have hE : ((cfg0.win 3).blk t).view.emb (ix3 (0 : Fin 1) R l : S1x256x512.Idx) = (ix3 (seqOf t) (rowOf t R) l : S8x2304x512.Idx) := by
    refine funext fun a => Fin.ext ?_
    refine (Pipeline.Window.rect_emb_val (cfg0.win 3) t _ a rfl).trans ?_
    refine (congrArg (fun e : Fin 3 → ℕ => e a * _ + _) (at_3 t)).trans ?_
    match a with
    | ⟨0, _⟩ => show t.val / 9 * 1 + 0 = t.val / 9; omega
    | ⟨1, _⟩ => rfl
    | ⟨2, _⟩ => show 0 * 512 + l.val = l.val; omega
  exact (congrFun (V_main_arg3 m c) _).trans (congrArg (a3 m c) hE)
theorem blk_4 (c : Dev nD) (t : Fin grid0.N) (R : Fin 256) (l : Fin 512) :
    (iblk m c 4 t : S1x256x512.Idx → EReal) (ix3 (0 : Fin 1) R l) = a4 m c (ix3 (seqOf t) (rowOf t R) l) := by
  have hE : ((cfg0.win 4).blk t).view.emb (ix3 (0 : Fin 1) R l : S1x256x512.Idx) = (ix3 (seqOf t) (rowOf t R) l : S8x2304x512.Idx) := by
    refine funext fun a => Fin.ext ?_
    refine (Pipeline.Window.rect_emb_val (cfg0.win 4) t _ a rfl).trans ?_
    refine (congrArg (fun e : Fin 3 → ℕ => e a * _ + _) (at_4 t)).trans ?_
    match a with
    | ⟨0, _⟩ => show t.val / 9 * 1 + 0 = t.val / 9; omega
    | ⟨1, _⟩ => rfl
    | ⟨2, _⟩ => show 0 * 512 + l.val = l.val; omega
  exact (congrFun (V_main_arg4 m c) _).trans (congrArg (a4 m c) hE)
theorem blk_5 (c : Dev nD) (t : Fin grid0.N) (R : Fin 256) (l : Fin 512) :
    (iblk m c 5 t : S1x256x512.Idx → EReal) (ix3 (0 : Fin 1) R l) = a5 m c (ix3 (seqOf t) (rowOf t R) l) := by
  have hE : ((cfg0.win 5).blk t).view.emb (ix3 (0 : Fin 1) R l : S1x256x512.Idx) = (ix3 (seqOf t) (rowOf t R) l : S8x2304x512.Idx) := by
    refine funext fun a => Fin.ext ?_
    refine (Pipeline.Window.rect_emb_val (cfg0.win 5) t _ a rfl).trans ?_
    refine (congrArg (fun e : Fin 3 → ℕ => e a * _ + _) (at_5 t)).trans ?_
    match a with
    | ⟨0, _⟩ => show t.val / 9 * 1 + 0 = t.val / 9; omega
    | ⟨1, _⟩ => rfl
    | ⟨2, _⟩ => show 0 * 512 + l.val = l.val; omega
  exact (congrFun (V_main_arg5 m c) _).trans (congrArg (a5 m c) hE)
theorem blk_6 (c : Dev nD) (t : Fin grid0.N) (R : Fin 256) (l : Fin 1024) :
    (iblk m c 6 t : S1x256x1024.Idx → EReal) (ix3 (0 : Fin 1) R l) = a6 m c (ix3 (seqOf t) R l) := by
  have hE : ((cfg0.win 6).blk t).view.emb (ix3 (0 : Fin 1) R l : S1x256x1024.Idx) = (ix3 (seqOf t) R l : S8x256x1024.Idx) := by
    refine funext fun a => Fin.ext ?_
    refine (Pipeline.Window.rect_emb_val (cfg0.win 6) t _ a rfl).trans ?_
    refine (congrArg (fun e : Fin 3 → ℕ => e a * _ + _) (at_6 t)).trans ?_
    match a with
    | ⟨0, _⟩ => show t.val / 9 * 1 + 0 = t.val / 9; omega
    | ⟨1, _⟩ => show 0 * 256 + R.val = R.val; omega
    | ⟨2, _⟩ => show 0 * 1024 + l.val = l.val; omega
  exact (congrFun (V_main_arg6 m c) _).trans (congrArg (a6 m c) hE)
theorem blk_7 (c : Dev nD) (t : Fin grid0.N) (R : Fin 256) (l : Fin 1024) :
    (iblk m c 7 t : S1x256x1024.Idx → EReal) (ix3 (0 : Fin 1) R l) = a7 m c (ix3 (seqOf t) (latRow t R) l) := by
  have hE : ((cfg0.win 7).blk t).view.emb (ix3 (0 : Fin 1) R l : S1x256x1024.Idx) = (ix3 (seqOf t) (latRow t R) l : S8x2048x1024.Idx) := by
    refine funext fun a => Fin.ext ?_
    refine (Pipeline.Window.rect_emb_val (cfg0.win 7) t _ a rfl).trans ?_
    refine (congrArg (fun e : Fin 3 → ℕ => e a * _ + _) (at_7 t)).trans ?_
    match a with
    | ⟨0, _⟩ => show t.val / 9 * 1 + 0 = t.val / 9; omega
    | ⟨1, _⟩ => rfl
    | ⟨2, _⟩ => show 0 * 1024 + l.val = l.val; omega
  exact (congrFun (V_main_arg7 m c) _).trans (congrArg (a7 m c) hE)
theorem blk_8 (c : Dev nD) (t : Fin grid0.N) (d : Fin 6) (l : Fin 1024) :
    (iblk m c 8 t : S1x1x6x1024.Idx → EReal) (ix4 (0 : Fin 1) (0 : Fin 1) d l) = a8 m c (ix4 (seqOf t) (halfOf t) d l) := by
  have hE : ((cfg0.win 8).blk t).view.emb (ix4 (0 : Fin 1) (0 : Fin 1) d l : S1x1x6x1024.Idx) = (ix4 (seqOf t) (halfOf t) d l : S8x2x6x1024.Idx) := by
    refine funext fun a => Fin.ext ?_
    refine (Pipeline.Window.rect_emb_val (cfg0.win 8) t _ a rfl).trans ?_
    refine (congrArg (fun e : Fin 4 → ℕ => e a * _ + _) (at_8 t)).trans ?_
    match a with
    | ⟨0, _⟩ => show t.val / 9 * 1 + 0 = t.val / 9; omega
    | ⟨1, _⟩ => show (if t.val % 9 = 0 then 0 else 1) * 1 + 0 = if t.val % 9 = 0 then 0 else 1; omega
    | ⟨2, _⟩ => show 0 * 6 + d.val = d.val; omega
    | ⟨3, _⟩ => show 0 * 1024 + l.val = l.val; omega
  exact (congrFun (V_main_arg8 m c) _).trans (congrArg (a8 m c) hE)
theorem blk_9 (c : Dev nD) (t : Fin grid0.N) (l : Fin 128) : (iblk m c 9 t : S1x128.Idx → EReal) (ix2 (0 : Fin 1) l) = a9 m c (ix1 l) := by
  have hE : ((cfg0.win 9).blk t).view.emb (ix2 (0 : Fin 1) l : S1x128.Idx) = (ix2 (0 : Fin 1) l : S1x128.Idx) := by
    refine funext fun a => Fin.ext ?_
    refine (Pipeline.Window.rect_emb_val (cfg0.win 9) t _ a rfl).trans ?_
    match a with
    | ⟨0, _⟩ => show 0 * 1 + 0 = 0; omega
    | ⟨1, _⟩ => show 0 * 128 + l.val = l.val; omega
  refine (congrFun (V_main_v0 m c) _).trans ((congrArg _ hE).trans ?_)
  refine shapeCast_apply (a9 m c) shapeCasts_S128_S1x128 (ix2 (0 : Fin 1) l) (ix1 l) ?_
  rewrite [Shape.rowMajor_val_one, Shape.rowMajor_val_two]
  show l.val = 0 * 128 + l.val
  omega
theorem blk_10 (c : Dev nD) (t : Fin grid0.N) (k : Fin 1024) (l : Fin 1024) : (iblk m c 10 t : S1024x1024.Idx → EReal) (ix2 k l) = a10 m c (ix2 k l) := by
  have hE : ((cfg0.win 10).blk t).view.emb (ix2 k l : S1024x1024.Idx) = (ix2 k l : S1024x1024.Idx) := by
    refine funext fun a => Fin.ext ?_
    refine (Pipeline.Window.rect_emb_val (cfg0.win 10) t _ a rfl).trans ?_
    match a with
    | ⟨0, _⟩ => show 0 * 1024 + k.val = k.val; omega
    | ⟨1, _⟩ => show 0 * 1024 + l.val = l.val; omega
  exact (congrFun (V_main_v1 m c) _).trans (congrArg (a10 m c) hE)
theorem blk_11 (c : Dev nD) (t : Fin grid0.N) (l : Fin 1024) : (iblk m c 11 t : S1x1024.Idx → EReal) (ix2 (0 : Fin 1) l) = a11 m c (ix1 l) := by
  have hE : ((cfg0.win 11).blk t).view.emb (ix2 (0 : Fin 1) l : S1x1024.Idx) = (ix2 (0 : Fin 1) l : S1x1024.Idx) := by
    refine funext fun a => Fin.ext ?_
    refine (Pipeline.Window.rect_emb_val (cfg0.win 11) t _ a rfl).trans ?_
    match a with
    | ⟨0, _⟩ => show 0 * 1 + 0 = 0; omega
    | ⟨1, _⟩ => show 0 * 1024 + l.val = l.val; omega
  refine (congrFun (V_main_v2 m c) _).trans ((congrArg _ hE).trans ?_)
  refine shapeCast_apply (a11 m c) shapeCasts_S1024_S1x1024 (ix2 (0 : Fin 1) l) (ix1 l) ?_
  rewrite [Shape.rowMajor_val_one, Shape.rowMajor_val_two]
  show l.val = 0 * 1024 + l.val
  omega
theorem blk_12 (c : Dev nD) (t : Fin grid0.N) (k : Fin 1024) (l : Fin 2816) : (iblk m c 12 t : S1024x2816.Idx → EReal) (ix2 k l) = a12 m c (ix2 k l) := by
  have hE : ((cfg0.win 12).blk t).view.emb (ix2 k l : S1024x2816.Idx) = (ix2 k l : S1024x2816.Idx) := by
    refine funext fun a => Fin.ext ?_
    refine (Pipeline.Window.rect_emb_val (cfg0.win 12) t _ a rfl).trans ?_
    match a with
    | ⟨0, _⟩ => show 0 * 1024 + k.val = k.val; omega
    | ⟨1, _⟩ => show 0 * 2816 + l.val = l.val; omega
  exact (congrFun (V_main_v3 m c) _).trans (congrArg (a12 m c) hE)
theorem blk_13 (c : Dev nD) (t : Fin grid0.N) (k : Fin 1024) (l : Fin 2816) : (iblk m c 13 t : S1024x2816.Idx → EReal) (ix2 k l) = a13 m c (ix2 k l) := by
  have hE : ((cfg0.win 13).blk t).view.emb (ix2 k l : S1024x2816.Idx) = (ix2 k l : S1024x2816.Idx) := by
    refine funext fun a => Fin.ext ?_
    refine (Pipeline.Window.rect_emb_val (cfg0.win 13) t _ a rfl).trans ?_
    match a with
    | ⟨0, _⟩ => show 0 * 1024 + k.val = k.val; omega
    | ⟨1, _⟩ => show 0 * 2816 + l.val = l.val; omega
  exact (congrFun (V_main_v4 m c) _).trans (congrArg (a13 m c) hE)
theorem blk_14 (c : Dev nD) (t : Fin grid0.N) (k : Fin 2816) (l : Fin 1024) : (iblk m c 14 t : S2816x1024.Idx → EReal) (ix2 k l) = a14 m c (ix2 k l) := by
  have hE : ((cfg0.win 14).blk t).view.emb (ix2 k l : S2816x1024.Idx) = (ix2 k l : S2816x1024.Idx) := by
    refine funext fun a => Fin.ext ?_
    refine (Pipeline.Window.rect_emb_val (cfg0.win 14) t _ a rfl).trans ?_
    match a with
    | ⟨0, _⟩ => show 0 * 2816 + k.val = k.val; omega
    | ⟨1, _⟩ => show 0 * 1024 + l.val = l.val; omega
  exact (congrFun (V_main_v5 m c) _).trans (congrArg (a14 m c) hE)

/-! ### The results -/

theorem joinRow_congr {a a' h h' : Fin 512 → EReal} (ha : a = a') (hh : h = h') : joinRow a h = joinRow a' h' := by rw [ha, hh]

theorem headRow_congr {o o' z z' : Fin 512 → EReal} {g g' : Fin 128 → EReal} (ho : o = o') (hz : z = z') (hg : g = g') : headRow o z g = headRow o' z' g' := by
  rw [ho, hz, hg]

theorem outRow_congr {x x' y y' : Fin 1024 → EReal} {mt mt' : Fin 6 → Fin 1024 → EReal} {wo wo' : Fin 1024 → Fin 1024 → EReal} {gf gf' : Fin 1024 → EReal}
    {wg wg' wu wu' : Fin 1024 → Fin 2816 → EReal} {wd wd' : Fin 2816 → Fin 1024 → EReal} (hx : x = x') (hy : y = y') (hm : mt = mt') (ho : wo = wo')
    (hf : gf = gf') (hg : wg = wg') (hu : wu = wu') (hd : wd = wd') : outRow x y mt wo gf wg wu wd = outRow x' y' mt' wo' gf' wg' wu' wd' := by
  rw [hx, hy, hm, ho, hf, hg, hu, hd]

/-- Row `R` of what step `t` computes, from the arguments. -/
theorem outBlk_at (c : Dev nD) (t : Fin grid0.N) (R : Fin 256) (x : Fin 1024 → EReal)
    (hx : ∀ k, (if Scalar.cmpi .slt (BitVec.ofNat 32 (grid0.coords t 1).val) 1#32 = 1#1 then (iblk m c 6 t : S1x256x1024.Idx → EReal) else (iblk m c 7 t : S1x256x1024.Idx → EReal)) (ix3 (0 : Fin 1) R k) = x k) (n : Fin 1024) :
    (outBlk m c t : S1x256x1024.Idx → EReal) (ix3 (0 : Fin 1) R n)
      = outRow x (mixed (a0 m c) (a1 m c) (a2 m c) (a3 m c) (a4 m c) (a5 m c) (a9 m c) (seqOf t) (rowOf t R)) (fun d k => a8 m c (ix4 (seqOf t) (halfOf t) d k))
          (fun k l => a10 m c (ix2 k l)) (fun k => a11 m c (ix1 k)) (fun k l => a12 m c (ix2 k l)) (fun k l => a13 m c (ix2 k l)) (fun k l => a14 m c (ix2 k l)) n := by
  refine (blockOut_apply _ _ _ _ _ _ _ _ _ _ _ _ _ _ _ _ (0 : Fin 1) R n).trans ?_
  refine congrFun (outRow_congr (funext hx) (joinRow_congr (funext fun k => ?_) (headRow_congr (funext fun k => ?_) (funext fun k => blk_5 m c t R k) (funext fun l => blk_9 m c t l)))
    (funext fun d => funext fun k => blk_8 m c t d k) (funext fun k => funext fun l => blk_10 m c t k l) (funext fun k => blk_11 m c t k)
    (funext fun k => funext fun l => blk_12 m c t k l) (funext fun k => funext fun l => blk_13 m c t k l) (funext fun k => funext fun l => blk_14 m c t k l)) n
  · exact congrArg₂ (fun a b : EReal => a * b) (congrArg₂ (fun a b : EReal => a + b) (blk_0 m c t R k) (blk_1 m c t R k)) (blk_2 m c t R k)
  · exact congrArg₂ (fun a b : EReal => a + b) (blk_3 m c t R k) (blk_4 m c t R k)

/-- The context's results are the reference's. -/
theorem ctxOut_eq (c : Dev nD) : (ctxOut m c : S8x256x1024.Idx → EReal)
    = Cert.Reference2Ideal.Read.val_main_v61 (F := Ideal) (a0 m c) (a1 m c) (a2 m c) (a3 m c) (a4 m c) (a5 m c) (a6 m c) (a8 m c) (a9 m c) (a10 m c) (a11 m c) (a12 m c) (a13 m c) (a14 m c) := by
  funext i
  obtain ⟨b, R, n, rfl⟩ : ∃ (b : Fin 8) (R : Fin 256) (n : Fin 1024), i = ix3 b R n := ⟨i 0, i 1, i 2, funext fun a => match a with
    | ⟨0, _⟩ => rfl
    | ⟨1, _⟩ => rfl
    | ⟨2, _⟩ => rfl⟩
  have hb := b.isLt
  have hs : seqOf (ctxStep b) = b := Fin.ext (show 9 * b.val / 9 = b.val by omega)
  have hr : rowOf (ctxStep b) R = (⟨R.val, by omega⟩ : Fin 2304) := Fin.ext (show 9 * b.val % 9 * 256 + R.val = R.val by omega)
  have h0 : (ctxStep b).val % 9 = 0 := by show 9 * b.val % 9 = 0; omega
  have hh : halfOf (ctxStep b) = (0 : Fin 2) := Fin.ext (if_pos h0)
  refine (outBlk_at m c (ctxStep b) R (fun k => a6 m c (ix3 b R k)) (fun k => ?_) n).trans ?_
  · rw [if_pos ((first_iff (ctxStep b)).mpr h0)]
    exact (blk_6 m c (ctxStep b) R k).trans (congrArg (fun s : Fin 8 => a6 m c (ix3 s R k)) hs)
  · rw [hs, hr, hh]
    exact (ctxResult_at (a0 m c) (a1 m c) (a2 m c) (a3 m c) (a4 m c) (a5 m c) (a6 m c) (a8 m c) (a9 m c) (a10 m c) (a11 m c) (a12 m c) (a13 m c) (a14 m c) b R n).symm

/-- The other rows' results are the reference's. -/
theorem latOut_eq (c : Dev nD) : (latOut m c : S8x2048x1024.Idx → EReal)
    = Cert.Reference2Ideal.Read.val_main_v98 (F := Ideal) (a0 m c) (a1 m c) (a2 m c) (a3 m c) (a4 m c) (a5 m c) (a7 m c) (a8 m c) (a9 m c) (a10 m c) (a11 m c) (a12 m c) (a13 m c) (a14 m c) := by
  funext i
  obtain ⟨b, r, n, rfl⟩ : ∃ (b : Fin 8) (r : Fin 2048) (n : Fin 1024), i = ix3 b r n := ⟨i 0, i 1, i 2, funext fun a => match a with
    | ⟨0, _⟩ => rfl
    | ⟨1, _⟩ => rfl
    | ⟨2, _⟩ => rfl⟩
  have hb := b.isLt
  have hr := r.isLt
  let k : Fin 8 := ⟨r.val / 256, by omega⟩
  let R : Fin 256 := ⟨r.val % 256, by omega⟩
  have hs : seqOf (latStep b k) = b := Fin.ext (show (9 * b.val + 1 + r.val / 256) / 9 = b.val by omega)
  have hj : rowOf (latStep b k) R = (⟨256 + r.val, by omega⟩ : Fin 2304) := Fin.ext (show (9 * b.val + 1 + r.val / 256) % 9 * 256 + r.val % 256 = 256 + r.val by omega)
  have hl : latRow (latStep b k) R = r := Fin.ext (show ((9 * b.val + 1 + r.val / 256) % 9 - 1) * 256 + r.val % 256 = r.val by omega)
  have h0 : (latStep b k).val % 9 ≠ 0 := by show (9 * b.val + 1 + r.val / 256) % 9 ≠ 0; omega
  have hh : halfOf (latStep b k) = (1 : Fin 2) := Fin.ext (if_neg h0)
  refine (outBlk_at m c (latStep b k) R (fun l => a7 m c (ix3 b r l)) (fun l => ?_) n).trans ?_
  · rw [if_neg fun h => h0 ((first_iff (latStep b k)).mp h)]
    exact (blk_7 m c (latStep b k) R l).trans (congrArg₂ (fun (s : Fin 8) (q : Fin 2048) => a7 m c (ix3 s q l)) hs hl)
  · rw [hs, hj, hh]
    exact (latResult_at (a0 m c) (a1 m c) (a2 m c) (a3 m c) (a4 m c) (a5 m c) (a7 m c) (a8 m c) (a9 m c) (a10 m c) (a11 m c) (a12 m c) (a13 m c) (a14 m c) b r n).symm

end Cert.Proof.Tail

end
-- ==== Proof.InprojRow.lean ====
/- One row of the gated projections, in ideal arithmetic: a row's projection onto all the columns, and what the two
   results keep of it. -/
module

public import proofs.«01_k».proof.Proof.TailRow
public import Idealize.ShloMosaic.PureOps.Ideal.Laws
public import Mathlib.Analysis.SpecialFunctions.Pow.Real

@[expose] public section

noncomputable section

namespace Cert.Proof.Inproj

open Idealize.ShloMosaic
open scoped BigOperators

/-- Column `c` of a row, counted over the naturals: nothing stands beyond its end. -/
def colAt (u : Fin 4128 → EReal) (c : ℕ) : EReal := if h : c < 4128 then u ⟨c, h⟩ else 0

theorem colAt_of (u : Fin 4128 → EReal) (c : ℕ) (h : c < 4128) : colAt u c = u ⟨c, h⟩ := dif_pos h

/-- A row's projection. -/
def projRow (x : Fin 1024 → EReal) (w : Fin 1024 → Fin 4128 → EReal) (c : Fin 4128) : EReal := ∑ k : Fin 1024, x k * w k c

/-- A value times its own logistic. -/
def silu (y : EReal) : EReal := y * Ideal.logistic y

/-- What a forget gate with floor `f` takes in. -/
def keep (f y : EReal) : EReal := (Ideal.ofBits .f32 0x3F800000#32 - f) * (Ideal.ofBits .f32 0x3F800000#32 - Ideal.logistic y)

/-- The logarithm of a forget gate with floor `f`. -/
def logForget (f y : EReal) : EReal := Ideal.log (f + (Ideal.ofBits .f32 0x3F800000#32 - f) * Ideal.logistic y)

/-- The floor of place `n`: the floors repeat for the two directions. -/
def floorAt (f : Fin 512 → EReal) (n : ℕ) : EReal := f ⟨n % 512, Nat.mod_lt _ (by decide)⟩

/-- Column `n` of the first result's row, from the projected row and the floors. -/
def actRow (u : Fin 4128 → EReal) (f : Fin 512 → EReal) (n : ℕ) : EReal :=
  if n < 512 then silu (colAt u n) * (((Real.sqrt 128)⁻¹ : ℝ) : EReal)
  else if n < 1024 then colAt u (n + 1024)
  else if n < 1536 then colAt u (n + 2048)
  else if n < 1792 then colAt u (n + 1024) * Ideal.ofBits .f32 0x3E000000#32
  else if n < 2048 then colAt u (n + 1024)
  else if n < 3072 then keep (floorAt f n) (colAt u (n - 1536))
  else if n < 3584 then silu (colAt u (n - 1024))
  else silu (colAt u n)

/-- Column `n` of the second result's row, where it holds the two directions' log forget gates. -/
def forgetRow (u : Fin 4128 → EReal) (f : Fin 512 → EReal) (n : ℕ) : EReal := logForget (floorAt f n) (colAt u (n + 512))

section Pieces
variable (u : Fin 4128 → EReal) (f : Fin 512 → EReal) (n : ℕ)

theorem actRow_query (h : n < 512) : actRow u f n = silu (colAt u n) * (((Real.sqrt 128)⁻¹ : ℝ) : EReal) := if_pos h
theorem actRow_value (h : 512 ≤ n) (h' : n < 1024) : actRow u f n = colAt u (n + 1024) := by
  unfold actRow; rw [if_neg (by omega), if_pos h']
theorem actRow_gatedValue (h : 1024 ≤ n) (h' : n < 1536) : actRow u f n = colAt u (n + 2048) := by
  unfold actRow; rw [if_neg (by omega), if_neg (by omega), if_pos h']
theorem actRow_gatedQuery (h : 1536 ≤ n) (h' : n < 1792) : actRow u f n = colAt u (n + 1024) * Ideal.ofBits .f32 0x3E000000#32 := by
  unfold actRow; rw [if_neg (by omega), if_neg (by omega), if_neg (by omega), if_pos h']
theorem actRow_gatedKey (h : 1792 ≤ n) (h' : n < 2048) : actRow u f n = colAt u (n + 1024) := by
  unfold actRow; rw [if_neg (by omega), if_neg (by omega), if_neg (by omega), if_neg (by omega), if_pos h']
theorem actRow_key (h : 2048 ≤ n) (h' : n < 3072) : actRow u f n = keep (floorAt f n) (colAt u (n - 1536)) := by
  unfold actRow; rw [if_neg (by omega), if_neg (by omega), if_neg (by omega), if_neg (by omega), if_neg (by omega), if_pos h']
theorem actRow_gate (h : 3072 ≤ n) (h' : n < 3584) : actRow u f n = silu (colAt u (n - 1024)) := by
  unfold actRow
  rw [if_neg (by omega), if_neg (by omega), if_neg (by omega), if_neg (by omega), if_neg (by omega), if_neg (by omega), if_pos h']
theorem actRow_gatedGate (h : 3584 ≤ n) : actRow u f n = silu (colAt u n) := by
  unfold actRow
  rw [if_neg (by omega), if_neg (by omega), if_neg (by omega), if_neg (by omega), if_neg (by omega), if_neg (by omega), if_neg (by omega)]
end Pieces

end Cert.Proof.Inproj
-- ==== Proof.InprojValue.lean ====
/- What a step of the gated projections stores, read at an index, in ideal arithmetic: each piece of the two blocks holds
   its columns of the projected rows. -/
module

public import proofs.«01_k».proof.Proof.Gen.Kernel3Ideal.Value
public import proofs.«01_k».proof.Proof.InprojRow
public import Idealize.ShloMosaic.PureOps.IdealRules
public import Idealize.ShloMosaic.Lib.MatmulPlain
public import Idealize.ShloMosaic.Lib.WholeRead
public import Idealize.ShloMosaic.Lib.ValueLayout
public import Idealize.ShloMosaic.Lib.ValueLayoutCasts
public import Idealize.ShloMosaic.Lib.Pointwise.Reduce
public import Idealize.ShloMosaic.Lib.Pipeline.Value
public import Idealize.ShloMosaic.Lib.Pipeline.ValueKit.Tiles

@[expose] public section

set_option maxRecDepth 16384

noncomputable section

namespace Cert.Proof.Inproj

open Cert.Kernel3Ideal Cert.Kernel3Ideal.Gen
open Idealize.ShloMosaic hiding ix1 ix2 ix3 ix4
open Idealize.ShloMosaic.ValueIdx
open Idealize.SL Idealize.SL.Sem
open scoped BigOperators

/-! ### The normalised rows -/

theorem cast_same {α : Type} {s : Shape} (x : s.Idx → α) (h : s.ShapeCasts s) (j : s.Idx) : shapeCast s x h j = x j :=
  shapeCast_apply x h j j rfl

theorem rowSum {a b : ℕ} (v : FVec Ideal ⟨2, ![a, b]⟩ .f32) (h : (⟨2, ![a, b]⟩ : Shape).Reduces [1] ⟨1, ![a]⟩) (hφ) (hacc) (r : Fin a) :
    multiReduction .add [1] ⟨1, ![a]⟩ v 0x00000000#32 h hφ hacc (ix1 r) = ∑ k : Fin b, v (ix2 r k) :=
  (h.reducesTo.sum_fiber_r2_a1 (ix1 r) v).trans (Finset.sum_congr rfl fun k _ => congrArg v (funext fun a => by
    match a with
    | ⟨0, _⟩ => rfl
    | ⟨1, _⟩ => rfl))

theorem overColumns {α : Type} {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

theorem modulation (v : Vec Ideal S1x1x1x1024 .f32) (k : Fin 1024) :
    shapeCast S1x1024 v shapeCasts_S1x1x1x1024_S1x1024 (ix2 (0 : Fin 1) k) = v (ix4 (0 : Fin 1) (0 : Fin 1) (0 : Fin 1) k) :=
  shapeCast_apply v _ _ _ (by
    rw [Shape.rowMajor_val_four, Shape.rowMajor_val_two]
    show ((0 * 1 + 0) * 1 + 0) * 1024 + k.val = 0 * 1024 + k.val
    omega)

theorem blockRow (v : Vec Ideal S1x512x1024 .f32) (r : Fin 512) (k : Fin 1024) :
    shapeCast S512x1024 v shapeCasts_S1x512x1024_S512x1024 (ix2 r k) = v (ix3 (0 : Fin 1) r k) :=
  shapeCast_1ab_ab_apply v shapeCasts_S1x512x1024_S512x1024 r k

/-- Row `r` of a step's normalised and modulated rows. -/
theorem normed_at (x : Vec Ideal S1x512x1024 .f32) (g : Vec Ideal S1x1024 .f32) (m0 m1 : Vec Ideal S1x1x1x1024 .f32) (r : Fin 512) (c : Fin 1024) :
    k0_pay2 x g m0 m1 (ix2 r c)
      = Tail.normRow (fun k => x (ix3 (0 : Fin 1) r k)) (fun k => g (ix2 (0 : Fin 1) k))
          (fun k => m0 (ix4 (0 : Fin 1) (0 : Fin 1) (0 : Fin 1) k)) (fun k => m1 (ix4 (0 : Fin 1) (0 : Fin 1) (0 : Fin 1) k)) c := by
  unfold k0_pay2
  refine congrArg₂ (fun a b : EReal => a + b) (congrArg₂ (fun a b : EReal => a * b) (congrArg₂ (fun a b : EReal => a * b)
    (congrArg₂ (fun a b : EReal => a * b) (blockRow x r c) ?_) ?_) ?_) ?_
  · refine (overColumns _ broadcasts_S512x1_S512x1024 r c).trans ?_
    refine congrArg (fun s => Ideal.rsqrt (Ideal.div s (Ideal.ofBits .f32 0x44800000#32) + Ideal.ofBits .f32 0x358637BD#32)) ?_
    refine (shapeCast_a_a1_apply _ shapeCasts_S512_S512x1 r (0 : Fin 1)).trans ((rowSum _ reduces_S512x1024_S512 _ _ r).trans ?_)
    exact Finset.sum_congr rfl fun k _ => congrArg₂ (fun a b : EReal => a * b) (blockRow x r k) (blockRow x r k)
  · exact (broadcastTo_1b_ab_apply _ broadcasts_S1x1024_S512x1024 r c).trans (cast_same _ shapeCasts_S1x1024_S1x1024 _)
  · refine (broadcastTo_1b_ab_apply _ broadcasts_S1x1024_S512x1024 r c).trans ?_
    exact congrArg (fun b : EReal => Ideal.ofBits .f32 0x3F800000#32 + b) (modulation _ c)
  · exact (broadcastTo_1b_ab_apply _ broadcasts_S1x1024_S512x1024 r c).trans (modulation _ c)

/-! ### The projected columns, stored and loaded again -/

/-- A step's rows against 512 columns of the weight. -/
theorem project_at (x : FVec Ideal S512x1024 .bf16) (w : Vec Ideal S1024x512 .bf16) (r c : Fin 512) :
    k0_pay5 x w (ix2 r c) = ∑ k : Fin 1024, x (ix2 r k) * w (ix2 k c) := by
  unfold k0_pay5
  refine (cast_same _ shapeCasts_S512x512_S512x512 _).trans ?_
  refine (Ideal.matmul_plain_apply (M := 512) (K := 1024) (N := 512) none _ _ _ r c).trans ?_
  refine (congrArg (· + _) (Ideal.ofBits_zero_f32)).trans ((zero_add _).trans ?_)
  exact Finset.sum_congr rfl fun k _ => congrArg (x (ix2 r k) * ·) (cast_same _ shapeCasts_S1024x512_S1024x512 (ix2 k c))

/-- The columns `o, …` loaded right after the 512 columns from `c₀` on were stored. -/
theorem column_at {sp : Space} {v : View sig .tc sp S512x4224 .f32} {x : FVec Ideal S512x1024 .bf16} {a5 : Memref sig .tc .vmem S1024x4128 .bf16} {h5 : a5.IsWhole}
    {w : Vec Ideal S1024x4128 .bf16} {L : List (View.Piece (Elt Ideal) S512x4224 .f32)} {c₀ o wd : ℕ} (hc : c₀ + 512 ≤ 4128)
    {inb : ∀ a, (![0, c₀] : Fin 2 → ℕ) a + S512x512.size a ≤ S512x4224.size a} {inbw : ∀ a, (![0, c₀] : Fin 2 → ℕ) a + S1024x512.size a ≤ S1024x4128.size a}
    {inb' : ∀ a, (![0, o] : Fin 2 → ℕ) a + (![512, wd] : Fin 2 → ℕ) a ≤ S512x4224.size a} (h₁ : c₀ ≤ o) (h₂ : o + wd ≤ c₀ + 512) (r : Fin 512) (l : Fin wd) :
    v.readCov (⟨Rect.unit (s := S512x4224) ![0, c₀] S512x512.size inb,
        k0_pay5 x (View.readAt (Elt Ideal) a5.view (Rect.unit (s := S1024x4128) ![0, c₀] S1024x512.size inbw).toLoadRect (h5.unread w))⟩ :: L)
      (Rect.unit (s := S512x4224) ![0, o] ![512, wd] inb').toLoadRect (ix2 r l)
      = colAt (projRow (fun k => x (ix2 r k)) (fun k c => w (ix2 k c))) (o + l.val) := by
  rw [View.readCov_eq_canon']
  have hl := l.isLt
  have e : (Rect.unit (s := S512x4224) ![0, o] ![512, wd] inb').toLoadRect.idx (ix2 r l)
      = (Rect.unit (s := S512x4224) ![0, c₀] S512x512.size inb).emb (ix2 r (⟨o - c₀ + l.val, by omega⟩ : Fin 512)) := by
    funext a
    refine Fin.ext ?_
    match a with
    | ⟨0, _⟩ => exact (Rect.idx_unit_val (s := S512x4224) ![0, o] ![512, wd] inb' (ix2 r l) 0).trans (Rect.idx_unit_val (s := S512x4224) ![0, c₀] S512x512.size inb (ix2 r (⟨o - c₀ + l.val, by omega⟩ : Fin 512)) 0).symm
    | ⟨1, _⟩ =>
      refine (Rect.idx_unit_val (s := S512x4224) ![0, o] ![512, wd] inb' (ix2 r l) 1).trans (Eq.trans ?_ (Rect.idx_unit_val (s := S512x4224) ![0, c₀] S512x512.size inb (ix2 r (⟨o - c₀ + l.val, by omega⟩ : Fin 512)) 1).symm)
      show o + l.val = c₀ + (o - c₀ + l.val)
      omega
  refine (congrArg (View.canon _) e).trans ((View.canon_cons_emb _ _ L _).trans ((project_at x _ r _).trans ?_))
  rw [colAt_of _ _ (by omega)]
  refine Finset.sum_congr rfl fun k _ => congrArg (x (ix2 r k) * ·) ((h5.readAt_unread w _ _).trans (congrArg w (funext fun a => Fin.ext ?_)))
  match a with
  | ⟨0, _⟩ => exact (Rect.idx_unit_val _ _ inbw _ 0).trans (Nat.zero_add _)
  | ⟨1, _⟩ =>
    refine (Rect.idx_unit_val _ _ inbw _ 1).trans ?_
    show c₀ + (o - c₀ + l.val) = o + l.val
    omega

/-! ### The stored pieces -/

/-- A piece of columns `o, …` of a block holds a function of row and column when its payload does. -/
theorem piece_at {φ : FTy} (w n o : ℕ) (inb : ∀ a, (![0, 0, o] : Fin 3 → ℕ) a + (![1, 512, w] : Fin 3 → ℕ) a ≤ (⟨3, ![1, 512, n]⟩ : Shape).size a)
    (P : (⟨3, ![1, 512, w]⟩ : Shape).Idx → EReal) (G : Fin 512 → ℕ → EReal) (h : ∀ (r : Fin 512) (l : Fin w), P (ix3 (0 : Fin 1) r l) = G r (o + l.val))
    (x : (Rect.unit (s := ⟨3, ![1, 512, n]⟩) ![0, 0, o] ![1, 512, w] inb).shape.Idx) :
    P x = (fun y : (⟨3, ![1, 512, n]⟩ : Shape).Idx => G (y 1) (y 2).val) ((Rect.unit (s := ⟨3, ![1, 512, n]⟩) ![0, 0, o] ![1, 512, w] inb).emb x) := by
  have hx : x = ix3 (0 : Fin 1) (x 1) (x 2) := (ValueIdx.eq_ix3 (n0 := 1) (n1 := 512) (n2 := w) x).trans
    (congrArg (fun a : Fin 1 => ix3 a (x 1) (x 2)) (Subsingleton.elim (α := Fin 1) (x 0) 0))
  refine (congrArg P hx).trans ((h (x 1) (x 2)).trans ?_)
  refine congrArg₂ G (Fin.ext ?_) ?_
  · exact ((Rect.idx_unit_val _ _ inb x 1).trans (Nat.zero_add _)).symm
  · exact (Rect.idx_unit_val _ _ inb x 2).symm

section Payloads
variable (v : Vec Ideal S512x128 .f32) (r : Fin 512) (l : Fin 128)

theorem query_at : k0_pay6 v (ix3 (0 : Fin 1) r l) = silu (v (ix2 r l)) * (((Real.sqrt 128)⁻¹ : ℝ) : EReal) := by
  unfold k0_pay6
  refine (shapeCast_ab_1ab_apply _ shapeCasts_S512x128_S1x512x128 0 r l).trans ?_
  refine congrArg (fun b : EReal => silu (v (ix2 r l)) * b) ?_
  exact IdealRules.named_const.ideal_named_scalar _ _ _ _ rfl

theorem plain_at : k0_pay50 v (ix3 (0 : Fin 1) r l) = v (ix2 r l) :=
  shapeCast_ab_1ab_apply _ shapeCasts_S512x128_S1x512x128 0 r l

theorem silu_at : k0_pay56 v (ix3 (0 : Fin 1) r l) = silu (v (ix2 r l)) := by
  unfold k0_pay56
  exact shapeCast_ab_1ab_apply _ shapeCasts_S512x128_S1x512x128 0 r l

theorem floor_at (f : FVec Ideal S1x512 .f32) (o : ℕ) (h : S1x512.Slices ![0, o] S1x128) (ho : o + 128 ≤ 512) (e : ℕ) (he : e % 512 = o) :
    extractStridedSlice S1x128 ![0, o] f h (ix2 (0 : Fin 1) l) = floorAt (fun k => f (ix2 (0 : Fin 1) k)) (e + l.val) := by
  have hl := l.isLt
  refine extractStridedSlice_apply _ f h _ _ fun a => ?_
  match a with
  | ⟨0, _⟩ => rfl
  | ⟨1, _⟩ =>
    show (e + l.val) % 512 = o + l.val
    omega

/-- What a forget gate takes in, from the floors' slice. -/
def keepPay (g : FVec Ideal S1x128 .f32) (v : Vec Ideal S512x128 .f32) : FVec Ideal S1x512x128 .bf16 := k0_pay25 g (k0_pay22 v)

theorem keep_at (g : FVec Ideal S1x128 .f32) : keepPay g v (ix3 (0 : Fin 1) r l) = keep (g (ix2 (0 : Fin 1) l)) (v (ix2 r l)) := by
  unfold keepPay k0_pay25
  refine (shapeCast_ab_1ab_apply _ shapeCasts_S512x128_S1x512x128 0 r l).trans ?_
  refine congrArg₂ (fun a b : EReal => a * b) ?_ rfl
  exact broadcastTo_1b_ab_apply _ broadcasts_S1x128_S512x128 r l

/-- The logarithm of a forget gate, from the floors' slice. -/
def forgetPay (g : FVec Ideal S1x128 .f32) (v : Vec Ideal S512x128 .f32) : FVec Ideal S1x512x128 .f32 := k0_pay47 g v

theorem forget_at (g : FVec Ideal S1x128 .f32) : forgetPay g v (ix3 (0 : Fin 1) r l) = logForget (g (ix2 (0 : Fin 1) l)) (v (ix2 r l)) := by
  unfold forgetPay k0_pay47
  refine (shapeCast_ab_1ab_apply _ shapeCasts_S512x128_S1x512x128 0 r l).trans ?_
  refine congrArg Ideal.log (congrArg₂ (fun a b : EReal => a + b) ?_ (congrArg₂ (fun a b : EReal => a * b) ?_ rfl))
  · exact broadcastTo_1b_ab_apply _ broadcasts_S1x128_S512x128 r l
  · exact broadcastTo_1b_ab_apply _ broadcasts_S1x128_S512x128 r l
end Payloads

section Wide
variable (v : Vec Ideal S512x256 .f32) (r : Fin 512) (l : Fin 256)

theorem eighth_at : k0_pay62 v (ix3 (0 : Fin 1) r l) = v (ix2 r l) * Ideal.ofBits .f32 0x3E000000#32 := by
  unfold k0_pay62
  exact shapeCast_ab_1ab_apply _ shapeCasts_S512x256_S1x512x256 0 r l

theorem plainWide_at : k0_pay63 v (ix3 (0 : Fin 1) r l) = v (ix2 r l) :=
  shapeCast_ab_1ab_apply _ shapeCasts_S512x256_S1x512x256 0 r l
end Wide

end Cert.Proof.Inproj
-- ==== Proof.InprojFloor.lean ====
/- The forget gates' floors, in ideal arithmetic: the second row of a softmax over two rows. Summing the rows downward and
   taking the first row off the sum leaves the same. -/
module

public import proofs.«01_k».proof.Proof.InprojValue
public import proofs.«01_k».proof.Proof.Gen.Reference3Ideal.Read
public import Idealize.ShloMosaic.PureOps.Ideal.Laws

@[expose] public section

set_option maxRecDepth 16384

noncomputable section

namespace Cert.Proof.Inproj

open Idealize.ShloMosaic hiding ix1 ix2 ix3 ix4
open Idealize.ShloMosaic.ValueIdx
open scoped BigOperators

/-! ### A softmax over two numbers -/

theorem exp_below (a M : EReal) (h : a ≤ M) : ∃ r : ℝ, Ideal.exp (a - M) = (r : EReal) ∧ 0 ≤ r := by
  induction M with
  | bot =>
    rw [le_bot_iff.1 h]
    exact ⟨0, by simp, le_refl _⟩
  | top => exact ⟨0, by simp, le_refl _⟩
  | coe y =>
    induction a with
    | bot => exact ⟨0, by simp, le_refl _⟩
    | top => exact absurd h (by simp)
    | coe x => exact ⟨Real.exp (x - y), by rw [← EReal.coe_sub, Ideal.exp_coe], (Real.exp_pos _).le⟩

/-- Of two numbers' shares, the sum from the first on less the first is the second. -/
theorem share_off (p q : ℝ) (hp : 0 ≤ p) (hq : 0 ≤ q) :
    ((0 + Ideal.div (p : EReal) ((p : EReal) + q)) + Ideal.div (q : EReal) ((p : EReal) + q)) - Ideal.div (p : EReal) ((p : EReal) + q)
      = Ideal.div (q : EReal) ((p : EReal) + q) := by
  rw [← EReal.coe_add]
  by_cases hs : p + q = 0
  · obtain rfl : p = 0 := by linarith
    obtain rfl : q = 0 := by linarith
    simp [Ideal.div]
  · rw [Ideal.div_coe hs, Ideal.div_coe hs, ← EReal.coe_mul, ← EReal.coe_mul, zero_add, ← EReal.coe_add, ← EReal.coe_sub]
    exact congrArg _ (by ring)

/-- The larger of the two numbers in column `k`. -/
def top2 (x : (⟨2, ![2, 512]⟩ : Shape).Idx → EReal) (k : Fin 512) : EReal :=
  (Finset.univ : Finset (Fin 2)).fold max (Ideal.ofBits .f32 0xFF800000#32) (fun r => x (ix2 r k))

theorem le_top2 (x : (⟨2, ![2, 512]⟩ : Shape).Idx → EReal) (r : Fin 2) (k : Fin 512) : x (ix2 r k) ≤ top2 x k :=
  Finset.le_fold_max _ |>.2 (Or.inr ⟨r, Finset.mem_univ _, le_refl _⟩)

/-- Each of the two numbers in column `k`, over the larger, as an exponential. -/
def over (x : (⟨2, ![2, 512]⟩ : Shape).Idx → EReal) (r : Fin 2) (k : Fin 512) : EReal := Ideal.exp (x (ix2 r k) - top2 x k)

/-- The softmax over two rows. -/
def share (x : (⟨2, ![2, 512]⟩ : Shape).Idx → EReal) (r : Fin 2) (k : Fin 512) : EReal := Ideal.div (over x r k) (over x 0 k + over x 1 k)

theorem share_cumulative (x : (⟨2, ![2, 512]⟩ : Shape).Idx → EReal) (k : Fin 512) : ((0 + share x 0 k) + share x 1 k) - share x 0 k = share x 1 k := by
  obtain ⟨p, hp, hp0⟩ := exp_below _ _ (le_top2 x 0 k)
  obtain ⟨q, hq, hq0⟩ := exp_below _ _ (le_top2 x 1 k)
  unfold share over
  rw [hp, hq]
  exact share_off p q hp0 hq0

/-! ### The kernel's floors -/

section Kernel
open Cert.Kernel3Ideal Cert.Kernel3Ideal.Gen

theorem colSum {a : ℕ} (v : FVec Ideal ⟨2, ![a, 512]⟩ .f32) (h : (⟨2, ![a, 512]⟩ : Shape).Reduces [0] ⟨1, ![512]⟩) (hφ) (hacc) (k : Fin 512) :
    multiReduction .add [0] ⟨1, ![512]⟩ v 0x00000000#32 h hφ hacc (ix1 k) = ∑ r : Fin a, v (ix2 r k) :=
  (Ideal.multiReduction_add_single v _ h hφ hacc (ix1 k)).trans (Finset.sum_congr rfl fun r _ => congrArg v (funext fun a => by
    match a with
    | ⟨0, _⟩ => rfl
    | ⟨1, _⟩ => rfl))

theorem colTop (v : FVec Ideal ⟨2, ![2, 512]⟩ .f32) (h : (⟨2, ![2, 512]⟩ : Shape).Reduces [0] ⟨1, ![512]⟩) (hφ) (hacc) (k : Fin 512) :
    multiReduction .maximumf [0] ⟨1, ![512]⟩ v 0xFF800000#32 h hφ hacc (ix1 k) = top2 v k :=
  (Ideal.multiReduction_maximumf_single v _ h hφ hacc (ix1 k)).trans (congrArg (fun g : Fin 2 → EReal => (Finset.univ : Finset (Fin 2)).fold max (Ideal.ofBits .f32 0xFF800000#32) g)
    (funext fun r => congrArg v (funext fun a => by
      match a with
      | ⟨0, _⟩ => rfl
      | ⟨1, _⟩ => rfl)))

theorem asRow {α : Type} (x : S512.Idx → α) (k : Fin 512) : shapeCast S1x512 x shapeCasts_S512_S1x512 (ix2 (0 : Fin 1) k) = x (ix1 k) := by
  refine shapeCast_apply x shapeCasts_S512_S1x512 (ix2 (0 : Fin 1) k) (ix1 k) ?_
  rewrite [Shape.rowMajor_val_one, Shape.rowMajor_val_two]
  show k.val = 0 * 512 + k.val
  omega

theorem downRows {α : Type} (x : S1x512.Idx → α) (r : Fin 2) (k : Fin 512) :
    broadcastTo S2x512 x broadcasts_S1x512_S2x512 (ix2 r k) = x (ix2 (0 : Fin 1) k) := by
  refine broadcastTo_apply x broadcasts_S1x512_S2x512 (ix2 r k) (ix2 (0 : Fin 1) k) fun ax => ?_
  match ax with
  | ⟨0, _⟩ => rfl
  | ⟨1, _⟩ => rfl

theorem exponentials_at (x : Vec Ideal S2x512 .f32) (M : FVec Ideal S512 .f32) (k : Fin 512) (hM : M (ix1 k) = top2 x k) (r : Fin 2) :
    exp (F := Ideal) (subf x (broadcastTo S2x512 (shapeCast S1x512 M shapeCasts_S512_S1x512) broadcasts_S1x512_S2x512) : FVec Ideal S2x512 .f32) (ix2 r k) = over x r k :=
  congrArg (fun z : EReal => Ideal.exp (x (ix2 r k) - z)) ((downRows _ r k).trans ((asRow _ k).trans hM))

theorem shares_at (x : Vec Ideal S2x512 .f32) (k : Fin 512) (e : FVec Ideal S2x512 .f32) (he : ∀ r : Fin 2, e (ix2 r k) = over x r k) (r : Fin 2) (hφ) (hacc) :
    divf e (broadcastTo S2x512 (shapeCast S1x512 (multiReduction .add [0] S512 e 0x00000000#32 reduces_S2x512_S512 hφ hacc) shapeCasts_S512_S1x512) broadcasts_S1x512_S2x512) (ix2 r k) = share x r k := by
  have hs : ∑ l : Fin 2, e (ix2 l k) = over x 0 k + over x 1 k := by rw [Fin.sum_univ_two, he, he]
  unfold share
  exact congrArg₂ Ideal.div (he r) ((downRows _ r k).trans ((asRow _ k).trans ((colSum e _ _ _ k).trans hs)))

theorem softmax_at (x : Vec Ideal S2x512 .f32) (r : Fin 2) (k : Fin 512) : k0_pay3 x (ix2 r k) = share x r k := by
  unfold k0_pay3
  exact shares_at x k _ (fun r => exponentials_at x _ k (colTop x _ _ _ k) r) r _ _

theorem secondRow_at (g : FVec Ideal S2x512 .f32) (k : Fin 512) : k0_pay4 g (ix2 (0 : Fin 1) k) = g (ix2 (1 : Fin 2) k) := by
  have hs : extractStridedSlice S1x512 ![1, 0] g slices_S2x512_o1_0_S1x512 (ix2 (0 : Fin 1) k) = g (ix2 (1 : Fin 2) k) := by
    refine extractStridedSlice_apply ![1, 0] g slices_S2x512_o1_0_S1x512 (ix2 (0 : Fin 1) k) (ix2 (1 : Fin 2) k) fun a => ?_
    match a with
    | ⟨0, _⟩ => rfl
    | ⟨1, _⟩ => show k.val = 0 + k.val; omega
  unfold k0_pay4
  generalize extractStridedSlice S1x512 ![1, 0] g slices_S2x512_o1_0_S1x512 = w at hs ⊢
  exact (asRow _ k).trans ((colSum (a := 1) w reduces_S1x512_S512 _ _ k).trans ((Fin.sum_univ_one _).trans hs))

theorem floors_at (x : Vec Ideal S2x512 .f32) (k : Fin 512) : k0_pay4 (k0_pay3 x) (ix2 (0 : Fin 1) k) = share x 1 k :=
  (secondRow_at _ k).trans (softmax_at x 1 k)

end Kernel

/-! ### The reference's floors -/

section Reference
open Cert.Reference3Ideal Cert.Reference3Ideal.Gen Cert.Reference3Ideal.Read

variable (x4 : S2x512.Idx → EReal)

theorem refTop_at (k : Fin 512) : val_main_v36 (F := Ideal) x4 (ix1 k) = top2 x4 k := by
  have h34 : val_main_v34 (F := Ideal) x4 (ix1 k) = top2 x4 k := by
    unfold val_main_v34
    refine (Host.reduce_eq_fold_single (FloatOps.maximumf (F := Ideal) (φ := .f32)) x4 _ reducesTo_S2x512_S512_d0 (by decide) h_S_ (ix1 k)).trans ?_
    refine congrArg (fun g : Fin 2 → EReal => (Finset.univ : Finset (Fin 2)).fold max (Ideal.ofBits .f32 0xFF800000#32) g) (funext fun r => congrArg x4 (funext fun a => ?_))
    match a with
    | ⟨0, _⟩ => rfl
    | ⟨1, _⟩ => rfl
  rw [val_main_v36_apply, val_main_v35_apply, val_main_cst_4_apply, h34]
  exact max_eq_right (Finset.le_fold_max _ |>.2 (Or.inl (le_refl _)))

theorem refOver_at (r : Fin 2) (k : Fin 512) : val_main_v40 (F := Ideal) x4 (ix2 r k) = over x4 r k := by
  have hix : idx_main_v37 (idx_main_v38 (ix2 r k)) = ix1 k := by
    funext a
    match a with
    | ⟨0, _⟩ => rfl
  rw [val_main_v40_apply, val_main_v39_apply, val_main_v38_apply, val_main_v37_apply, hix, refTop_at]
  rfl

theorem refShare_at (r : Fin 2) (k : Fin 512) : val_main_v44 (F := Ideal) x4 (ix2 r k) = share x4 r k := by
  have hix : ∀ l : Fin 2, idx_main_v41 (idx_main_v42 (idx_main_v43 (ix2 r k))) l = ix2 l k := fun l => by
    funext a
    match a with
    | ⟨0, _⟩ => rfl
    | ⟨1, _⟩ => rfl
  rw [val_main_v44_apply, val_main_v43_apply, val_main_v42_apply, val_main_v41_apply, refOver_at, Fin.sum_univ_two, hix, hix, refOver_at, refOver_at, val_main_cst_5_apply]
  refine congrArg (Ideal.div _) ?_
  exact (congrArg (fun z : EReal => z + _) Ideal.ofBits_zero_f32).trans (zero_add _)

theorem windowRow (q c : ℕ) (h : q = c) (hc : c < 2) : 1 ≤ 1 * 1 + q ∧ 1 * 1 + q - 1 < 2 := by omega
theorem windowCol (k q : ℕ) (h : q = 0) (hk : k < 512) : 0 ≤ k * 1 + q ∧ k * 1 + q - 0 < 512 := by omega
theorem placeRow (q c : ℕ) (h : q = c) : 1 * 1 + q - 1 = c := by omega
theorem placeCol (k q : ℕ) (h : q = 0) : k * 1 + q - 0 = k := by omega

/-- The second row of the sum downward. -/
theorem refSum_at (k : Fin 512) : val_main_v45 (F := Ideal) x4 (ix2 (1 : Fin 2) k) = (0 + share x4 0 k) + share x4 1 k := by
  rw [← refShare_at x4 0 k, ← refShare_at x4 1 k]
  unfold val_main_v45
  generalize val_main_v44 (F := Ideal) x4 = y
  have hfold : ∀ (g : EReal → Fin 2 → EReal) (v : EReal), (List.finRange 2).foldl g v = g (g v 0) 1 := fun g v => rfl
  have w00 : (((⟨2, ![2, 1]⟩ : Shape).rowMajor.symm (0 : Fin 2)) 0).val = 0 := by decide
  have w01 : (((⟨2, ![2, 1]⟩ : Shape).rowMajor.symm (0 : Fin 2)) 1).val = 0 := by decide
  have w10 : (((⟨2, ![2, 1]⟩ : Shape).rowMajor.symm (1 : Fin 2)) 0).val = 1 := by decide
  have w11 : (((⟨2, ![2, 1]⟩ : Shape).rowMajor.symm (1 : Fin 2)) 1).val = 0 := by decide
  simp only [Host.reduceWindowAdd, Ideal.hostReduceWindowAdd_def]
  unfold Ideal.hostReduceWindowAdd Host.reduceWindow
  refine (hfold _ _).trans ?_
  have hk := k.isLt
  refine congrArg₂ (fun a b : EReal => a + b) (congrArg₂ (fun a b : EReal => a + b) Ideal.ofBits_zero_f32 ?_) ?_
  · refine (dif_pos ?_).trans (congrArg y (funext fun a => Fin.ext ?_))
    · intro a
      match a with
      | ⟨0, _⟩ => exact windowRow _ _ w00 (by decide)
      | ⟨1, _⟩ => exact windowCol _ _ w01 hk
    · match a with
      | ⟨0, _⟩ => exact placeRow _ _ w00
      | ⟨1, _⟩ => exact placeCol _ _ w01
  · refine (dif_pos ?_).trans (congrArg y (funext fun a => Fin.ext ?_))
    · intro a
      match a with
      | ⟨0, _⟩ => exact windowRow _ _ w10 (by decide)
      | ⟨1, _⟩ => exact windowCol _ _ w11 hk
    · match a with
      | ⟨0, _⟩ => exact placeRow _ _ w10
      | ⟨1, _⟩ => exact placeCol _ _ w11

theorem refFloor_at (k : Fin 512) : val_main_v52 (F := Ideal) x4 (ix1 k) = share x4 1 k := by
  have hk := k.isLt
  have h1 : idx_main_v51 (idx_main_v52 (ix1 k)) = ix2 (1 : Fin 2) k := by
    funext a
    match a with
    | ⟨0, _⟩ => rfl
    | ⟨1, _⟩ => exact Fin.ext (show k.val % 512 = k.val by omega)
  have h0 : idx_main_v46 (idx_main_v47 (idx_main_v48 (idx_main_v49 (ix2 (1 : Fin 2) k)))) = ix2 (0 : Fin 2) k := by
    funext a
    match a with
    | ⟨0, _⟩ => rfl
    | ⟨1, _⟩ => exact Fin.ext (show k.val % 512 = k.val by omega)
  rw [val_main_v52_apply, val_main_v51_apply, h1, val_main_v50_apply, val_main_v49_apply, val_main_v48_apply, val_main_v47_apply, val_main_v46_apply, h0, refSum_at, refShare_at]
  exact share_cumulative x4 k

end Reference

end Cert.Proof.Inproj
-- ==== Proof.InprojBlock.lean ====
/- What a step of the gated projections leaves in its two blocks, in ideal arithmetic: at every row and column, what the
   row's projection says. -/
module

public import proofs.«01_k».proof.Proof.InprojValue

@[expose] public section

set_option maxRecDepth 16384

noncomputable section

namespace Cert.Proof.Inproj

open Cert.Kernel3Ideal Cert.Kernel3Ideal.Gen
open Idealize.ShloMosaic hiding ix1 ix2 ix3 ix4
open Idealize.ShloMosaic.ValueIdx
open Idealize.SL Idealize.SL.Sem
open scoped BigOperators

/-! ### A stored piece is the result's columns -/

/-- A stored piece holds the values of `G` at its places. -/
def Fills {S : Shape} {e : EltTy} (G : S.Idx → Elt Ideal e) (p : View.Piece (Elt Ideal) S e) : Prop := ∀ x, p.2 x = G (p.1.emb x)

theorem fills_cons {S : Shape} {e : EltTy} {G : S.Idx → Elt Ideal e} {p : View.Piece (Elt Ideal) S e} {L : List (View.Piece (Elt Ideal) S e)} (hp : Fills G p)
    (hL : ∀ q ∈ L, Fills G q) : ∀ q ∈ p :: L, Fills G q := List.forall_mem_cons.2 ⟨hp, hL⟩

theorem canon_of_fills {S : Shape} {e : EltTy} (G : S.Idx → Elt Ideal e) (L : List (View.Piece (Elt Ideal) S e)) (h : ∀ p ∈ L, Fills G p) (y : S.Idx)
    (hy : ∃ p ∈ L, y ∈ p.1.set) : View.canon L y = G y := View.canon_apply_of_pieces G L h y hy

theorem floor_slice {g : FVec Ideal S1x512 .f32} {f : Fin 512 → EReal} (hf : (fun k => g (ix2 (0 : Fin 1) k)) = f) (o : ℕ) (h : S1x512.Slices ![0, o] S1x128) (ho : o + 128 ≤ 512)
    (e : ℕ) (he : e % 512 = o) (l : Fin 128) : extractStridedSlice S1x128 ![0, o] g h (ix2 (0 : Fin 1) l) = floorAt f (e + l.val) :=
  (floor_at l g o h ho e he).trans (congrArg (fun z => floorAt z _) hf)

section Pieces
variable (u : Fin 512 → Fin 4128 → EReal) (f : Fin 512 → EReal) (o s : ℕ)

theorem query_piece {v : Vec Ideal S512x128 .f32} {inb : ∀ a, (![0, 0, o] : Fin 3 → ℕ) a + S1x512x128.size a ≤ S1x512x4096.size a} (h : s = o ∧ o + 128 ≤ 512)
    (hv : ∀ (r : Fin 512) (l : Fin 128), v (ix2 r l) = colAt (u r) (s + l.val)) :
    Fills (e := .bf16) (fun y : S1x512x4096.Idx => actRow (u (y 1)) f (y 2).val) ⟨Rect.unit (s := S1x512x4096) ![0, 0, o] S1x512x128.size inb, k0_pay6 v⟩ := fun x =>
  piece_at (φ := .bf16) 128 4096 o inb _ (fun r n => actRow (u r) f n) (fun r l => (query_at v r l).trans (by
    have hl := l.isLt
    rw [hv, h.1, actRow_query _ _ _ (by omega)])) x

theorem value_piece {v : Vec Ideal S512x128 .f32} {inb : ∀ a, (![0, 0, o] : Fin 3 → ℕ) a + S1x512x128.size a ≤ S1x512x4096.size a} (h : s = o + 1024 ∧ 512 ≤ o ∧ o + 128 ≤ 1024)
    (hv : ∀ (r : Fin 512) (l : Fin 128), v (ix2 r l) = colAt (u r) (s + l.val)) :
    Fills (e := .bf16) (fun y : S1x512x4096.Idx => actRow (u (y 1)) f (y 2).val) ⟨Rect.unit (s := S1x512x4096) ![0, 0, o] S1x512x128.size inb, k0_pay50 v⟩ := fun x =>
  piece_at (φ := .bf16) 128 4096 o inb _ (fun r n => actRow (u r) f n) (fun r l => (plain_at v r l).trans (by
    have hl := l.isLt
    rw [hv, h.1, actRow_value _ _ _ (by omega) (by omega), Nat.add_right_comm])) x

theorem gatedValue_piece {v : Vec Ideal S512x128 .f32} {inb : ∀ a, (![0, 0, o] : Fin 3 → ℕ) a + S1x512x128.size a ≤ S1x512x4096.size a} (h : s = o + 2048 ∧ 1024 ≤ o ∧ o + 128 ≤ 1536)
    (hv : ∀ (r : Fin 512) (l : Fin 128), v (ix2 r l) = colAt (u r) (s + l.val)) :
    Fills (e := .bf16) (fun y : S1x512x4096.Idx => actRow (u (y 1)) f (y 2).val) ⟨Rect.unit (s := S1x512x4096) ![0, 0, o] S1x512x128.size inb, k0_pay50 v⟩ := fun x =>
  piece_at (φ := .bf16) 128 4096 o inb _ (fun r n => actRow (u r) f n) (fun r l => (plain_at v r l).trans (by
    have hl := l.isLt
    rw [hv, h.1, actRow_gatedValue _ _ _ (by omega) (by omega), Nat.add_right_comm])) x

theorem gatedQuery_piece {v : Vec Ideal S512x256 .f32} {inb : ∀ a, (![0, 0, o] : Fin 3 → ℕ) a + S1x512x256.size a ≤ S1x512x4096.size a} (h : s = o + 1024 ∧ 1536 ≤ o ∧ o + 256 ≤ 1792)
    (hv : ∀ (r : Fin 512) (l : Fin 256), v (ix2 r l) = colAt (u r) (s + l.val)) :
    Fills (e := .bf16) (fun y : S1x512x4096.Idx => actRow (u (y 1)) f (y 2).val) ⟨Rect.unit (s := S1x512x4096) ![0, 0, o] S1x512x256.size inb, k0_pay62 v⟩ := fun x =>
  piece_at (φ := .bf16) 256 4096 o inb _ (fun r n => actRow (u r) f n) (fun r l => (eighth_at v r l).trans (by
    have hl := l.isLt
    rw [hv, h.1, actRow_gatedQuery _ _ _ (by omega) (by omega), Nat.add_right_comm])) x

theorem gatedKey_piece {v : Vec Ideal S512x256 .f32} {inb : ∀ a, (![0, 0, o] : Fin 3 → ℕ) a + S1x512x256.size a ≤ S1x512x4096.size a} (h : s = o + 1024 ∧ 1792 ≤ o ∧ o + 256 ≤ 2048)
    (hv : ∀ (r : Fin 512) (l : Fin 256), v (ix2 r l) = colAt (u r) (s + l.val)) :
    Fills (e := .bf16) (fun y : S1x512x4096.Idx => actRow (u (y 1)) f (y 2).val) ⟨Rect.unit (s := S1x512x4096) ![0, 0, o] S1x512x256.size inb, k0_pay63 v⟩ := fun x =>
  piece_at (φ := .bf16) 256 4096 o inb _ (fun r n => actRow (u r) f n) (fun r l => (plainWide_at v r l).trans (by
    have hl := l.isLt
    rw [hv, h.1, actRow_gatedKey _ _ _ (by omega) (by omega), Nat.add_right_comm])) x

theorem key_piece {g : FVec Ideal S1x128 .f32} {v : Vec Ideal S512x128 .f32} {inb : ∀ a, (![0, 0, o] : Fin 3 → ℕ) a + S1x512x128.size a ≤ S1x512x4096.size a} (h : o = s + 1536 ∧ 2048 ≤ o ∧ o + 128 ≤ 3072)
    (hv : ∀ (r : Fin 512) (l : Fin 128), v (ix2 r l) = colAt (u r) (s + l.val)) (hg : ∀ l : Fin 128, g (ix2 (0 : Fin 1) l) = floorAt f (o + l.val)) :
    Fills (e := .bf16) (fun y : S1x512x4096.Idx => actRow (u (y 1)) f (y 2).val) ⟨Rect.unit (s := S1x512x4096) ![0, 0, o] S1x512x128.size inb, keepPay g v⟩ := fun x =>
  piece_at (φ := .bf16) 128 4096 o inb _ (fun r n => actRow (u r) f n) (fun r l => (keep_at v r l g).trans (by
    have hl := l.isLt
    rw [hv, hg, actRow_key _ _ _ (by omega) (by omega), show o + l.val - 1536 = s + l.val by omega])) x

theorem gate_piece {v : Vec Ideal S512x128 .f32} {inb : ∀ a, (![0, 0, o] : Fin 3 → ℕ) a + S1x512x128.size a ≤ S1x512x4096.size a} (h : o = s + 1024 ∧ 3072 ≤ o ∧ o + 128 ≤ 3584)
    (hv : ∀ (r : Fin 512) (l : Fin 128), v (ix2 r l) = colAt (u r) (s + l.val)) :
    Fills (e := .bf16) (fun y : S1x512x4096.Idx => actRow (u (y 1)) f (y 2).val) ⟨Rect.unit (s := S1x512x4096) ![0, 0, o] S1x512x128.size inb, k0_pay56 v⟩ := fun x =>
  piece_at (φ := .bf16) 128 4096 o inb _ (fun r n => actRow (u r) f n) (fun r l => (silu_at v r l).trans (by
    have hl := l.isLt
    rw [hv, actRow_gate _ _ _ (by omega) (by omega), show o + l.val - 1024 = s + l.val by omega])) x

theorem gatedGate_piece {v : Vec Ideal S512x128 .f32} {inb : ∀ a, (![0, 0, o] : Fin 3 → ℕ) a + S1x512x128.size a ≤ S1x512x4096.size a} (h : s = o ∧ 3584 ≤ o)
    (hv : ∀ (r : Fin 512) (l : Fin 128), v (ix2 r l) = colAt (u r) (s + l.val)) :
    Fills (e := .bf16) (fun y : S1x512x4096.Idx => actRow (u (y 1)) f (y 2).val) ⟨Rect.unit (s := S1x512x4096) ![0, 0, o] S1x512x128.size inb, k0_pay56 v⟩ := fun x =>
  piece_at (φ := .bf16) 128 4096 o inb _ (fun r n => actRow (u r) f n) (fun r l => (silu_at v r l).trans (by
    have hl := l.isLt
    rw [hv, h.1, actRow_gatedGate _ _ _ (by omega)])) x

theorem forget_piece {g : FVec Ideal S1x128 .f32} {v : Vec Ideal S512x128 .f32} {inb : ∀ a, (![0, 0, o] : Fin 3 → ℕ) a + S1x512x128.size a ≤ S1x512x1536.size a} (h : s = o + 512)
    (hv : ∀ (r : Fin 512) (l : Fin 128), v (ix2 r l) = colAt (u r) (s + l.val)) (hg : ∀ l : Fin 128, g (ix2 (0 : Fin 1) l) = floorAt f (o + l.val)) :
    Fills (e := .f32) (fun y : S1x512x1536.Idx => forgetRow (u (y 1)) f (y 2).val) ⟨Rect.unit (s := S1x512x1536) ![0, 0, o] S1x512x128.size inb, forgetPay g v⟩ := fun x =>
  piece_at (φ := .f32) 128 1536 o inb _ (fun r n => forgetRow (u r) f n) (fun r l => (forget_at v r l g).trans (by
    have hl := l.isLt
    rw [hv, hg, h]
    exact congrArg (fun c => logForget _ (colAt (u r) c)) (Nat.add_right_comm _ _ _))) x

end Pieces

/-! ### The two blocks -/

section Blocks
variable (c : Dev nD) (i : grid0.Coords) (arg2 : Memref sig .tc .vmem S1x512x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x4128 .bf16) (harg5 : arg5.IsWhole) (arg6 : Memref sig .tc .vmem S1024x128 .bf16) (harg6 : arg6.IsWhole) (arg7 : Memref sig .tc .vmem S2x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512x4096 .bf16) (harg10 : arg10.IsWhole) (arg11 : Memref sig .tc .vmem S1x512x1536 .f32) (harg11 : arg11.IsWhole) (arg12 : Memref sig .tc .vmem S512x4224 .f32) (harg12 : arg12.IsWhole)
      (x0 : Vec Ideal S1x512x1024 .f32) (x1 : Vec Ideal S1x1x6x1024 .f32) (x2 : Vec Ideal S1x1024 .f32) (x3 : Vec Ideal S1024x4128 .bf16) (x4 : Vec Ideal S1024x128 .bf16) (x5 : Vec Ideal S2x512 .f32) (x6 : Vec Ideal S128x512 .f32) (x7 : Vec Ideal S1x512 .f32)

/-- Row `r` of a step's normalised rows, projected onto all the columns. -/
def projected (r : Fin 512) : Fin 4128 → EReal :=
  projRow (Tail.normRow (fun k => x0 (ix3 (0 : Fin 1) r k)) (fun k => x2 (ix2 (0 : Fin 1) k)) (fun k => x1 (ix4 (0 : Fin 1) (0 : Fin 1) (0 : Fin 6) k))
    (fun k => x1 (ix4 (0 : Fin 1) (0 : Fin 1) (1 : Fin 6) k))) (fun k c => x3 (ix2 k c))

/-- The floors a step works out. -/
def floors : Fin 512 → EReal := fun k => k0_pay4 (k0_pay3 x5) (ix2 (0 : Fin 1) k)

theorem rows_eq (r : Fin 512) :
    projRow (fun k => kernelRun0_A.sl.r c arg2 harg2 arg3 harg3 arg4 harg4 x0 x1 x2 (ix2 r k)) (fun k c => x3 (ix2 k c)) = projected x0 x1 x2 x3 r := by
  refine congrArg (fun x => projRow x _) (funext fun k => ?_)
  refine (normed_at _ _ _ _ r k).trans ?_
  have e0 : ∀ k : Fin 1024, View.readAt (Elt Ideal) arg2.view (Rect.unit (s := S1x512x1024) ![0, 0, 0] S1x512x1024.size inb_S1x512x1024_S1x512x1024_0_0_0).toLoadRect (harg2.unread x0) (ix3 (0 : Fin 1) r k)
      = x0 (ix3 (0 : Fin 1) r k) := fun k => (harg2.readAt_unread x0 _ _).trans (congrArg x0 (funext fun a => Fin.ext (by
    match a with
    | ⟨0, _⟩ => rfl
    | ⟨1, _⟩ => exact (Rect.idx_unit_val (s := S1x512x1024) _ _ _ _ 1).trans (Nat.zero_add _)
    | ⟨2, _⟩ => exact (Rect.idx_unit_val (s := S1x512x1024) _ _ _ _ 2).trans (Nat.zero_add _))))
  have e2 : ∀ k : Fin 1024, View.readAt (Elt Ideal) arg4.view (Rect.unit (s := S1x1024) ![0, 0] S1x1024.size inb_S1x1024_S1x1024_0_0).toLoadRect (harg4.unread x2) (ix2 (0 : Fin 1) k)
      = x2 (ix2 (0 : Fin 1) k) := fun k => (harg4.readAt_unread x2 _ _).trans (congrArg x2 (funext fun a => Fin.ext (by
    match a with
    | ⟨0, _⟩ => rfl
    | ⟨1, _⟩ => exact (Rect.idx_unit_val (s := S1x1024) _ _ _ _ 1).trans (Nat.zero_add _))))
  have e1 : ∀ (j : ℕ) (hj : j < 6) (inb : ∀ a, (![0, 0, j, 0] : Fin 4 → ℕ) a + S1x1x1x1024.size a ≤ S1x1x6x1024.size a) (k : Fin 1024),
      View.readAt (Elt Ideal) arg3.view (Rect.unit (s := S1x1x6x1024) ![0, 0, j, 0] S1x1x1x1024.size inb).toLoadRect (harg3.unread x1) (ix4 (0 : Fin 1) (0 : Fin 1) (0 : Fin 1) k)
        = x1 (ix4 (0 : Fin 1) (0 : Fin 1) (⟨j, hj⟩ : Fin 6) k) := fun j hj inb k => (harg3.readAt_unread x1 _ _).trans (congrArg x1 (funext fun a => Fin.ext (by
    match a with
    | ⟨0, _⟩ => rfl
    | ⟨1, _⟩ => rfl
    | ⟨2, _⟩ => exact (Rect.idx_unit_val (s := S1x1x6x1024) _ _ inb _ 2).trans (Nat.add_zero _)
    | ⟨3, _⟩ => exact (Rect.idx_unit_val (s := S1x1x6x1024) _ _ inb _ 3).trans (Nat.zero_add _))))
  exact congr (congr (congr (congr (congrArg Tail.normRow (funext e0)) (funext e2)) (funext (e1 0 (by decide) _))) (funext (e1 1 (by decide) _))) rfl

theorem floors_eq : (fun k => kernelRun0_A.sl.r_2 c arg7 harg7 x5 (ix2 (0 : Fin 1) k)) = floors x5 := by
  refine congrArg (fun z : Vec Ideal S2x512 .f32 => fun k : Fin 512 => k0_pay4 (k0_pay3 z) (ix2 (0 : Fin 1) k)) (funext fun j => ?_)
  refine (harg7.readAt_unread x5 _ _).trans (congrArg x5 (funext fun a => Fin.ext ?_))
  match a with
  | ⟨0, _⟩ => exact (Rect.idx_unit_val (s := S2x512) _ _ _ _ 0).trans (Nat.zero_add _)
  | ⟨1, _⟩ => exact (Rect.idx_unit_val (s := S2x512) _ _ _ _ 1).trans (Nat.zero_add _)

/-- Every piece of the first block holds what the row says. -/
theorem first_pieces (u : Fin 512 → Fin 4128 → EReal) (f : Fin 512 → EReal)
    (hu : ∀ r, projRow (fun k => kernelRun0_A.sl.r c arg2 harg2 arg3 harg3 arg4 harg4 x0 x1 x2 (ix2 r k)) (fun k c => x3 (ix2 k c)) = u r)
    (hf : (fun k => kernelRun0_A.sl.r_2 c arg7 harg7 x5 (ix2 (0 : Fin 1) k)) = f) :
    ∀ p ∈ (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7).1, Fills (fun y : S1x512x4096.Idx => actRow (u (y 1)) f (y 2).val) p := by
  unfold kernelRun0_A
  dsimp only
  refine fills_cons (gatedGate_piece u f 3968 3968 (by decide) (fun r l => by exact (column_at (c₀ := 3584) (o := 3968) (wd := 128) (by decide) (by decide) (by decide) r l).trans (congrArg (fun z => colAt z _) (hu r)))) ?_
  refine fills_cons (gatedGate_piece u f 3840 3840 (by decide) (fun r l => by exact (column_at (c₀ := 3584) (o := 3840) (wd := 128) (by decide) (by decide) (by decide) r l).trans (congrArg (fun z => colAt z _) (hu r)))) ?_
  refine fills_cons (gatedGate_piece u f 3712 3712 (by decide) (fun r l => by exact (column_at (c₀ := 3584) (o := 3712) (wd := 128) (by decide) (by decide) (by decide) r l).trans (congrArg (fun z => colAt z _) (hu r)))) ?_
  refine fills_cons (gatedGate_piece u f 3584 3584 (by decide) (fun r l => by exact (column_at (c₀ := 3584) (o := 3584) (wd := 128) (by decide) (by decide) (by decide) r l).trans (congrArg (fun z => colAt z _) (hu r)))) ?_
  refine fills_cons (gatedValue_piece u f 1408 3456 (by decide) (fun r l => by exact (column_at (c₀ := 3072) (o := 3456) (wd := 128) (by decide) (by decide) (by decide) r l).trans (congrArg (fun z => colAt z _) (hu r)))) ?_
  refine fills_cons (gatedValue_piece u f 1280 3328 (by decide) (fun r l => by exact (column_at (c₀ := 3072) (o := 3328) (wd := 128) (by decide) (by decide) (by decide) r l).trans (congrArg (fun z => colAt z _) (hu r)))) ?_
  refine fills_cons (gatedValue_piece u f 1152 3200 (by decide) (fun r l => by exact (column_at (c₀ := 3072) (o := 3200) (wd := 128) (by decide) (by decide) (by decide) r l).trans (congrArg (fun z => colAt z _) (hu r)))) ?_
  refine fills_cons (gatedValue_piece u f 1024 3072 (by decide) (fun r l => by exact (column_at (c₀ := 3072) (o := 3072) (wd := 128) (by decide) (by decide) (by decide) r l).trans (congrArg (fun z => colAt z _) (hu r)))) ?_
  refine fills_cons (gatedKey_piece u f 1792 2816 (by decide) (fun r l => by exact (column_at (c₀ := 2560) (o := 2816) (wd := 256) (by decide) (by decide) (by decide) r l).trans (congrArg (fun z => colAt z _) (hu r)))) ?_
  refine fills_cons (gatedQuery_piece u f 1536 2560 (by decide) (fun r l => by exact (column_at (c₀ := 2560) (o := 2560) (wd := 256) (by decide) (by decide) (by decide) r l).trans (congrArg (fun z => colAt z _) (hu r)))) ?_
  refine fills_cons (gate_piece u f 3456 2432 (by decide) (fun r l => by exact (column_at (c₀ := 2048) (o := 2432) (wd := 128) (by decide) (by decide) (by decide) r l).trans (congrArg (fun z => colAt z _) (hu r)))) ?_
  refine fills_cons (gate_piece u f 3328 2304 (by decide) (fun r l => by exact (column_at (c₀ := 2048) (o := 2304) (wd := 128) (by decide) (by decide) (by decide) r l).trans (congrArg (fun z => colAt z _) (hu r)))) ?_
  refine fills_cons (gate_piece u f 3200 2176 (by decide) (fun r l => by exact (column_at (c₀ := 2048) (o := 2176) (wd := 128) (by decide) (by decide) (by decide) r l).trans (congrArg (fun z => colAt z _) (hu r)))) ?_
  refine fills_cons (gate_piece u f 3072 2048 (by decide) (fun r l => by exact (column_at (c₀ := 2048) (o := 2048) (wd := 128) (by decide) (by decide) (by decide) r l).trans (congrArg (fun z => colAt z _) (hu r)))) ?_
  refine fills_cons (value_piece u f 896 1920 (by decide) (fun r l => by exact (column_at (c₀ := 1536) (o := 1920) (wd := 128) (by decide) (by decide) (by decide) r l).trans (congrArg (fun z => colAt z _) (hu r)))) ?_
  refine fills_cons (value_piece u f 768 1792 (by decide) (fun r l => by exact (column_at (c₀ := 1536) (o := 1792) (wd := 128) (by decide) (by decide) (by decide) r l).trans (congrArg (fun z => colAt z _) (hu r)))) ?_
  refine fills_cons (value_piece u f 640 1664 (by decide) (fun r l => by exact (column_at (c₀ := 1536) (o := 1664) (wd := 128) (by decide) (by decide) (by decide) r l).trans (congrArg (fun z => colAt z _) (hu r)))) ?_
  refine fills_cons (value_piece u f 512 1536 (by decide) (fun r l => by exact (column_at (c₀ := 1536) (o := 1536) (wd := 128) (by decide) (by decide) (by decide) r l).trans (congrArg (fun z => colAt z _) (hu r)))) ?_
  refine fills_cons (key_piece u f 2944 1408 (by decide) (fun r l => by exact (column_at (c₀ := 1024) (o := 1408) (wd := 128) (by decide) (by decide) (by decide) r l).trans (congrArg (fun z => colAt z _) (hu r))) (fun l => by exact floor_slice hf 384 slices_S1x512_o0_384_S1x128 (by decide) 2944 (by decide) l)) ?_
  refine fills_cons (key_piece u f 2816 1280 (by decide) (fun r l => by exact (column_at (c₀ := 1024) (o := 1280) (wd := 128) (by decide) (by decide) (by decide) r l).trans (congrArg (fun z => colAt z _) (hu r))) (fun l => by exact floor_slice hf 256 slices_S1x512_o0_256_S1x128 (by decide) 2816 (by decide) l)) ?_
  refine fills_cons (key_piece u f 2688 1152 (by decide) (fun r l => by exact (column_at (c₀ := 1024) (o := 1152) (wd := 128) (by decide) (by decide) (by decide) r l).trans (congrArg (fun z => colAt z _) (hu r))) (fun l => by exact floor_slice hf 128 slices_S1x512_o0_128_S1x128 (by decide) 2688 (by decide) l)) ?_
  refine fills_cons (key_piece u f 2560 1024 (by decide) (fun r l => by exact (column_at (c₀ := 1024) (o := 1024) (wd := 128) (by decide) (by decide) (by decide) r l).trans (congrArg (fun z => colAt z _) (hu r))) (fun l => by exact floor_slice hf 0 slices_S1x512_o0_0_S1x128 (by decide) 2560 (by decide) l)) ?_
  refine fills_cons (key_piece u f 2432 896 (by decide) (fun r l => by exact (column_at (c₀ := 512) (o := 896) (wd := 128) (by decide) (by decide) (by decide) r l).trans (congrArg (fun z => colAt z _) (hu r))) (fun l => by exact floor_slice hf 384 slices_S1x512_o0_384_S1x128 (by decide) 2432 (by decide) l)) ?_
  refine fills_cons (key_piece u f 2304 768 (by decide) (fun r l => by exact (column_at (c₀ := 512) (o := 768) (wd := 128) (by decide) (by decide) (by decide) r l).trans (congrArg (fun z => colAt z _) (hu r))) (fun l => by exact floor_slice hf 256 slices_S1x512_o0_256_S1x128 (by decide) 2304 (by decide) l)) ?_
  refine fills_cons (key_piece u f 2176 640 (by decide) (fun r l => by exact (column_at (c₀ := 512) (o := 640) (wd := 128) (by decide) (by decide) (by decide) r l).trans (congrArg (fun z => colAt z _) (hu r))) (fun l => by exact floor_slice hf 128 slices_S1x512_o0_128_S1x128 (by decide) 2176 (by decide) l)) ?_
  refine fills_cons (key_piece u f 2048 512 (by decide) (fun r l => by exact (column_at (c₀ := 512) (o := 512) (wd := 128) (by decide) (by decide) (by decide) r l).trans (congrArg (fun z => colAt z _) (hu r))) (fun l => by exact floor_slice hf 0 slices_S1x512_o0_0_S1x128 (by decide) 2048 (by decide) l)) ?_
  refine fills_cons (query_piece u f 384 384 (by decide) (fun r l => by exact (column_at (c₀ := 0) (o := 384) (wd := 128) (by decide) (by decide) (by decide) r l).trans (congrArg (fun z => colAt z _) (hu r)))) ?_
  refine fills_cons (query_piece u f 256 256 (by decide) (fun r l => by exact (column_at (c₀ := 0) (o := 256) (wd := 128) (by decide) (by decide) (by decide) r l).trans (congrArg (fun z => colAt z _) (hu r)))) ?_
  refine fills_cons (query_piece u f 128 128 (by decide) (fun r l => by exact (column_at (c₀ := 0) (o := 128) (wd := 128) (by decide) (by decide) (by decide) r l).trans (congrArg (fun z => colAt z _) (hu r)))) ?_
  refine fills_cons (query_piece u f 0 0 (by decide) (fun r l => by exact (column_at (c₀ := 0) (o := 0) (wd := 128) (by decide) (by decide) (by decide) r l).trans (congrArg (fun z => colAt z _) (hu r)))) ?_
  exact fun p hp => absurd hp List.not_mem_nil

/-- Every piece of the second block but the last stored holds what the row says. -/
theorem second_pieces (u : Fin 512 → Fin 4128 → EReal) (f : Fin 512 → EReal)
    (hu : ∀ r, projRow (fun k => kernelRun0_A.sl.r c arg2 harg2 arg3 harg3 arg4 harg4 x0 x1 x2 (ix2 r k)) (fun k c => x3 (ix2 k c)) = u r)
    (hf : (fun k => kernelRun0_A.sl.r_2 c arg7 harg7 x5 (ix2 (0 : Fin 1) k)) = f) :
    ∀ p ∈ (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7).2.1.tail, Fills (fun y : S1x512x1536.Idx => forgetRow (u (y 1)) f (y 2).val) p := by
  unfold kernelRun0_A
  dsimp only [List.tail_cons]
  refine fills_cons (forget_piece u f 896 1408 (by decide) (fun r l => by exact (column_at (c₀ := 1024) (o := 1408) (wd := 128) (by decide) (by decide) (by decide) r l).trans (congrArg (fun z => colAt z _) (hu r))) (fun l => by exact floor_slice hf 384 slices_S1x512_o0_384_S1x128 (by decide) 896 (by decide) l)) ?_
  refine fills_cons (forget_piece u f 768 1280 (by decide) (fun r l => by exact (column_at (c₀ := 1024) (o := 1280) (wd := 128) (by decide) (by decide) (by decide) r l).trans (congrArg (fun z => colAt z _) (hu r))) (fun l => by exact floor_slice hf 256 slices_S1x512_o0_256_S1x128 (by decide) 768 (by decide) l)) ?_
  refine fills_cons (forget_piece u f 640 1152 (by decide) (fun r l => by exact (column_at (c₀ := 1024) (o := 1152) (wd := 128) (by decide) (by decide) (by decide) r l).trans (congrArg (fun z => colAt z _) (hu r))) (fun l => by exact floor_slice hf 128 slices_S1x512_o0_128_S1x128 (by decide) 640 (by decide) l)) ?_
  refine fills_cons (forget_piece u f 512 1024 (by decide) (fun r l => by exact (column_at (c₀ := 1024) (o := 1024) (wd := 128) (by decide) (by decide) (by decide) r l).trans (congrArg (fun z => colAt z _) (hu r))) (fun l => by exact floor_slice hf 0 slices_S1x512_o0_0_S1x128 (by decide) 512 (by decide) l)) ?_
  refine fills_cons (forget_piece u f 384 896 (by decide) (fun r l => by exact (column_at (c₀ := 512) (o := 896) (wd := 128) (by decide) (by decide) (by decide) r l).trans (congrArg (fun z => colAt z _) (hu r))) (fun l => by exact floor_slice hf 384 slices_S1x512_o0_384_S1x128 (by decide) 384 (by decide) l)) ?_
  refine fills_cons (forget_piece u f 256 768 (by decide) (fun r l => by exact (column_at (c₀ := 512) (o := 768) (wd := 128) (by decide) (by decide) (by decide) r l).trans (congrArg (fun z => colAt z _) (hu r))) (fun l => by exact floor_slice hf 256 slices_S1x512_o0_256_S1x128 (by decide) 256 (by decide) l)) ?_
  refine fills_cons (forget_piece u f 128 640 (by decide) (fun r l => by exact (column_at (c₀ := 512) (o := 640) (wd := 128) (by decide) (by decide) (by decide) r l).trans (congrArg (fun z => colAt z _) (hu r))) (fun l => by exact floor_slice hf 128 slices_S1x512_o0_128_S1x128 (by decide) 128 (by decide) l)) ?_
  refine fills_cons (forget_piece u f 0 512 (by decide) (fun r l => by exact (column_at (c₀ := 512) (o := 512) (wd := 128) (by decide) (by decide) (by decide) r l).trans (congrArg (fun z => colAt z _) (hu r))) (fun l => by exact floor_slice hf 0 slices_S1x512_o0_0_S1x128 (by decide) 0 (by decide) l)) ?_
  exact fun p hp => absurd hp List.not_mem_nil

/-- The last piece stored into the second block is its last columns. -/
theorem second_last (y : S1x512x1536.Idx) (hy : (y 2).val < 1024) :
    ∃ p, (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7).2.1 = p :: (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7).2.1.tail ∧ y ∉ p.1.set := by
  refine ⟨⟨Rect.unit (s := S1x512x1536) ![0, 0, 1024] S1x512x512.size inb_S1x512x1536_S1x512x512_0_0_1024, _⟩, by unfold kernelRun0_A; rfl, fun hm => ?_⟩
  obtain ⟨x, hx⟩ := (Rect.unit (s := S1x512x1536) ![0, 0, 1024] S1x512x512.size inb_S1x512x1536_S1x512x512_0_0_1024).exists_idx_of_mem hm
  have h3 : (y 2).val = 1024 + (x 2).val :=
    (congrArg (fun z : S1x512x1536.Idx => (z 2).val) hx).symm.trans (Rect.idx_unit_val (s := S1x512x1536) _ _ inb_S1x512x1536_S1x512x512_0_0_1024 x 2)
  omega

/-- The first block, at every place. -/
theorem first_at (y : S1x512x4096.Idx) :
    out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 y = actRow (projected x0 x1 x2 x3 (y 1)) (floors x5) (y 2).val := by
  unfold out0_A_8
  rw [View.read_writes_junk_eq_canon]
  exact canon_of_fills _ _ (first_pieces c i arg2 harg2 arg3 harg3 arg4 harg4 arg5 harg5 arg6 harg6 arg7 harg7 arg8 harg8 arg9 harg9 arg10 harg10 arg11 harg11 arg12 harg12 x0 x1 x2 x3 x4 x5 x6 x7 _ _ (fun r => rows_eq c arg2 harg2 arg3 harg3 arg4 harg4 x0 x1 x2 x3 r) (floors_eq c arg7 harg7 x5)) y
    (cover0_A_8 c i arg2 harg2 arg3 harg3 arg4 harg4 arg5 harg5 arg6 harg6 arg7 harg7 arg8 harg8 arg9 harg9 arg10 harg10 arg11 harg11 arg12 harg12 x0 x1 x2 x3 x4 x5 x6 x7 y)

/-- The second block's columns that hold the log forget gates. -/
theorem second_at (y : S1x512x1536.Idx) (hy : (y 2).val < 1024) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 y = forgetRow (projected x0 x1 x2 x3 (y 1)) (floors x5) (y 2).val := by
  unfold out0_A_9
  rw [View.read_writes_junk_eq_canon]
  obtain ⟨p, hp, hn⟩ := second_last c i arg2 harg2 arg3 harg3 arg4 harg4 arg5 harg5 arg6 harg6 arg7 harg7 arg8 harg8 arg9 harg9 arg10 harg10 arg11 harg11 arg12 harg12 x0 x1 x2 x3 x4 x5 x6 x7 y hy
  have hc := cover0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 y
  have hP := second_pieces c i arg2 harg2 arg3 harg3 arg4 harg4 arg5 harg5 arg6 harg6 arg7 harg7 arg8 harg8 arg9 harg9 arg10 harg10 arg11 harg11 arg12 harg12 x0 x1 x2 x3 x4 x5 x6 x7 _ _ (fun r => rows_eq c arg2 harg2 arg3 harg3 arg4 harg4 x0 x1 x2 x3 r) (floors_eq c arg7 harg7 x5)
  rw [hp] at hc ⊢
  rw [View.canon_cons_of_not_mem _ _ hn]
  refine canon_of_fills _ _ hP y ?_
  obtain ⟨q, hq, hm⟩ := hc
  rcases List.mem_cons.mp hq with rfl | hq'
  · exact absurd hm hn
  · exact ⟨q, hq', hm⟩
end Blocks

end Cert.Proof.Inproj
-- ==== Proof.InprojArray.lean ====
/- What the two result arrays of the gated projections hold after the run, in ideal arithmetic: every row is in the block
   its step computed, and says what the row's projection says. -/
module

public import proofs.«01_k».proof.Proof.InprojBlock
public import proofs.«01_k».proof.Proof.Gen.Kernel3Ideal.Value
public import proofs.«01_k».proof.Proof.Gen.Kernel3Ideal.Points
public import Idealize.ShloMosaic.Lib.ValueLayout

@[expose] public section

set_option maxRecDepth 16384

noncomputable section

namespace Cert.Proof.Inproj

open Cert.Kernel3Ideal Cert.Kernel3Ideal.Gen Cert.Kernel3Ideal.Value
open Idealize.ShloMosaic hiding ix1 ix2 ix3 ix4
open Idealize.ShloMosaic.TcCoe Idealize.ShloMosaic.ValueIdx
open Idealize.SL Idealize.SL.Sem
open scoped BigOperators

variable (m : (ℓ : Loc nD τ sig) → Buf (Elt Ideal) ℓ)

abbrev a0 (c : Dev nD) : S8x2048x1024.Idx → EReal := m ((c.tc : Thread nD τ).loc main_arg0)
abbrev a1 (c : Dev nD) : S8x2x6x1024.Idx → EReal := m ((c.tc : Thread nD τ).loc main_arg1)
abbrev a2 (c : Dev nD) : S1024.Idx → EReal := m ((c.tc : Thread nD τ).loc main_arg2)
abbrev a3 (c : Dev nD) : S1024x4128.Idx → EReal := m ((c.tc : Thread nD τ).loc main_arg3)
abbrev a4 (c : Dev nD) : S2x512.Idx → EReal := m ((c.tc : Thread nD τ).loc main_arg4)

/-- A row of the stream, normed and projected. -/
def rowOut (x0 : S8x2048x1024.Idx → EReal) (x1 : S8x2x6x1024.Idx → EReal) (x2 : S1024.Idx → EReal) (x3 : S1024x4128.Idx → EReal) (b : Fin 8)
    (R : Fin 2048) : Fin 4128 → EReal :=
  projRow (Tail.normRow (fun k => x0 (ix3 b R k)) (fun k => x2 (ix1 k)) (fun k => x1 (ix4 b (1 : Fin 2) (0 : Fin 6) k))
    (fun k => x1 (ix4 b (1 : Fin 2) (1 : Fin 6) k))) (fun k c => x3 (ix2 k c))

/-! ### Where a step's blocks lie -/

theorem at_0 : ∀ t : Fin grid0.N, cc0_transform_0 (grid0.coords t) = ![t.val / 4, t.val % 4, 0] := by decide +kernel
theorem at_1 : ∀ t : Fin grid0.N, cc0_transform_1 (grid0.coords t) = ![t.val / 4, 1, 0, 0] := by decide +kernel
theorem at_8 : ∀ t : Fin grid0.N, cc0_transform_8 (grid0.coords t) = ![t.val / 4, t.val % 4, 0] := by decide +kernel
theorem at_9 : ∀ t : Fin grid0.N, cc0_transform_9 (grid0.coords t) = ![t.val / 4, t.val % 4, 0] := by decide +kernel

/-- The sequence of step `t`. -/
abbrev seqOf (t : Fin grid0.N) : Fin 8 := ⟨t.val / 4, by have h : t.val < 32 := t.isLt; omega⟩
/-- Row `R` of step `t`'s block. -/
abbrev rowOf (t : Fin grid0.N) (R : Fin 512) : Fin 2048 := ⟨t.val % 4 * 512 + R.val, by have h := R.isLt; omega⟩

theorem blk_0 (c : Dev nD) (t : Fin grid0.N) (R : Fin 512) (k : Fin 1024) :
    (iblk m c 0 t : S1x512x1024.Idx → EReal) (ix3 (0 : Fin 1) R k) = a0 m c (ix3 (seqOf t) (rowOf t R) k) := by
  have hE : ((cfg0.win 0).blk t).view.emb (ix3 (0 : Fin 1) R k : S1x512x1024.Idx) = (ix3 (seqOf t) (rowOf t R) k : S8x2048x1024.Idx) := by
    refine funext fun a => Fin.ext ?_
    refine (Pipeline.Window.rect_emb_val (cfg0.win 0) t _ a rfl).trans ?_
    refine (congrArg (fun e : Fin 3 → ℕ => e a * _ + _) (at_0 t)).trans ?_
    match a with
    | ⟨0, _⟩ => show t.val / 4 * 1 + 0 = t.val / 4; omega
    | ⟨1, _⟩ => rfl
    | ⟨2, _⟩ => show 0 * 1024 + k.val = k.val; omega
  exact (congrFun (V_main_arg0 m c) _).trans (congrArg (a0 m c) hE)

theorem blk_1 (c : Dev nD) (t : Fin grid0.N) (s : Fin 6) (k : Fin 1024) :
    (iblk m c 1 t : S1x1x6x1024.Idx → EReal) (ix4 (0 : Fin 1) (0 : Fin 1) s k) = a1 m c (ix4 (seqOf t) (1 : Fin 2) s k) := by
  have hE : ((cfg0.win 1).blk t).view.emb (ix4 (0 : Fin 1) (0 : Fin 1) s k : S1x1x6x1024.Idx) = (ix4 (seqOf t) (1 : Fin 2) s k : S8x2x6x1024.Idx) := by
    refine funext fun a => Fin.ext ?_
    refine (Pipeline.Window.rect_emb_val (cfg0.win 1) t _ a rfl).trans ?_
    refine (congrArg (fun e : Fin 4 → ℕ => e a * _ + _) (at_1 t)).trans ?_
    match a with
    | ⟨0, _⟩ => show t.val / 4 * 1 + 0 = t.val / 4; omega
    | ⟨1, _⟩ => rfl
    | ⟨2, _⟩ => show 0 * 6 + s.val = s.val; omega
    | ⟨3, _⟩ => show 0 * 1024 + k.val = k.val; omega
  exact (congrFun (V_main_arg1 m c) _).trans (congrArg (a1 m c) hE)

theorem V_main_v0 (c : Dev nD) : V m c main_v0 = shapeCast (α := Ideal .f32) S1x1024 (a2 m c) shapeCasts_S1024_S1x1024 := by
  unfold V hostOps0
  after_results
  rfl
theorem V_main_v1 (c : Dev nD) : V m c main_v1 = a3 m c := by
  unfold V hostOps0
  after_results
  rfl

theorem blk_2 (c : Dev nD) (t : Fin grid0.N) (k : Fin 1024) : (iblk m c 2 t : S1x1024.Idx → EReal) (ix2 (0 : Fin 1) k) = a2 m c (ix1 k) := by
  have hE : ((cfg0.win 2).blk t).view.emb (ix2 (0 : Fin 1) k : S1x1024.Idx) = (ix2 (0 : Fin 1) k : S1x1024.Idx) := by
    refine funext fun a => Fin.ext ?_
    refine (Pipeline.Window.rect_emb_val (cfg0.win 2) t _ a rfl).trans ?_
    match a with
    | ⟨0, _⟩ => rfl
    | ⟨1, _⟩ => show 0 * 1024 + k.val = k.val; omega
  refine (congrFun (V_main_v0 m c) _).trans ((congrArg _ hE).trans ?_)
  refine shapeCast_apply (a2 m c) shapeCasts_S1024_S1x1024 (ix2 (0 : Fin 1) k) (ix1 k) ?_
  rewrite [Shape.rowMajor_val_one, Shape.rowMajor_val_two]
  show k.val = 0 * 1024 + k.val
  omega

theorem blk_3 (c : Dev nD) (t : Fin grid0.N) (k : Fin 1024) (n : Fin 4128) : (iblk m c 3 t : S1024x4128.Idx → EReal) (ix2 k n) = a3 m c (ix2 k n) := by
  have hE : ((cfg0.win 3).blk t).view.emb (ix2 k n : S1024x4128.Idx) = (ix2 k n : S1024x4128.Idx) := by
    refine funext fun a => Fin.ext ?_
    refine (Pipeline.Window.rect_emb_val (cfg0.win 3) t _ a rfl).trans ?_
    match a with
    | ⟨0, _⟩ => show 0 * 1024 + k.val = k.val; omega
    | ⟨1, _⟩ => show 0 * 4128 + n.val = n.val; omega
  exact (congrFun (V_main_v1 m c) _).trans (congrArg (a3 m c) hE)

theorem blk_5 (c : Dev nD) (t : Fin grid0.N) : (iblk m c 5 t : S2x512.Idx → EReal) = a4 m c := by
  funext j
  have hE : ((cfg0.win 5).blk t).view.emb (j : S2x512.Idx) = (j : S2x512.Idx) := by
    refine funext fun a => Fin.ext ?_
    refine (Pipeline.Window.rect_emb_val (cfg0.win 5) t _ a rfl).trans ?_
    match a with
    | ⟨0, _⟩ => show 0 * 2 + (j 0).val = (j 0).val; omega
    | ⟨1, _⟩ => show 0 * 512 + (j 1).val = (j 1).val; omega
  exact (congrFun (V_main_arg4 m c) _).trans (congrArg (a4 m c) hE)

/-- A step projects its rows of the stream. -/
theorem projected_at (c : Dev nD) (t : Fin grid0.N) (R : Fin 512) :
    projected (iblk m c 0 t) (iblk m c 1 t) (iblk m c 2 t) (iblk m c 3 t) R = rowOut (a0 m c) (a1 m c) (a2 m c) (a3 m c) (seqOf t) (rowOf t R) := by
  have h0 : (fun k : Fin 1024 => (iblk m c 0 t : S1x512x1024.Idx → EReal) (ix3 (0 : Fin 1) R k)) = fun k => a0 m c (ix3 (seqOf t) (rowOf t R) k) :=
    funext fun k => blk_0 m c t R k
  have h1 : (fun k : Fin 1024 => (iblk m c 1 t : S1x1x6x1024.Idx → EReal) (ix4 (0 : Fin 1) (0 : Fin 1) (0 : Fin 6) k)) = fun k => a1 m c (ix4 (seqOf t) (1 : Fin 2) (0 : Fin 6) k) :=
    funext fun k => blk_1 m c t 0 k
  have h1' : (fun k : Fin 1024 => (iblk m c 1 t : S1x1x6x1024.Idx → EReal) (ix4 (0 : Fin 1) (0 : Fin 1) (1 : Fin 6) k)) = fun k => a1 m c (ix4 (seqOf t) (1 : Fin 2) (1 : Fin 6) k) :=
    funext fun k => blk_1 m c t 1 k
  have h2 : (fun k : Fin 1024 => (iblk m c 2 t : S1x1024.Idx → EReal) (ix2 (0 : Fin 1) k)) = fun k => a2 m c (ix1 k) := funext fun k => blk_2 m c t k
  have h3 : (fun (k : Fin 1024) (n : Fin 4128) => (iblk m c 3 t : S1024x4128.Idx → EReal) (ix2 k n)) = fun k n => a3 m c (ix2 k n) :=
    funext fun k => funext fun n => blk_3 m c t k n
  unfold projected rowOut
  rw [h0, h1, h1', h2, h3]

/-! ### The results -/

/-- The step of row `R` of sequence `b`, and the row's place in the step's block. -/
abbrev stepOf (b : Fin 8) (R : Fin 2048) : Fin cfg0.N := ⟨4 * b.val + R.val / 512, show 4 * b.val + R.val / 512 < 32 by omega⟩
abbrev inStep (R : Fin 2048) : Fin 512 := ⟨R.val % 512, Nat.mod_lt _ (by decide)⟩

theorem seqOf_step (b : Fin 8) (R : Fin 2048) : seqOf (stepOf b R) = b := Fin.ext (by show (4 * b.val + R.val / 512) / 4 = b.val; omega)
theorem rowOf_step (b : Fin 8) (R : Fin 2048) : rowOf (stepOf b R) (inStep R) = R :=
  Fin.ext (by show (4 * b.val + R.val / 512) % 4 * 512 + R.val % 512 = R.val; omega)

theorem first_emb (b : Fin 8) (R : Fin 2048) (n : Fin 4096) :
    ((cfg0.win 8).blk (stepOf b R)).view.emb (ix3 (0 : Fin 1) (inStep R) n : S1x512x4096.Idx) = (ix3 b R n : S8x2048x4096.Idx) := by
  refine funext fun a => Fin.ext ?_
  refine (Pipeline.Window.rect_emb_val (cfg0.win 8) _ _ a rfl).trans ?_
  refine (congrArg (fun e : Fin 3 → ℕ => e a * _ + _) (at_8 (stepOf b R))).trans ?_
  match a with
  | ⟨0, _⟩ => show (4 * b.val + R.val / 512) / 4 * 1 + 0 = b.val; omega
  | ⟨1, _⟩ => show (4 * b.val + R.val / 512) % 4 * 512 + R.val % 512 = R.val; omega
  | ⟨2, _⟩ => show 0 * 4096 + n.val = n.val; omega

theorem second_emb (b : Fin 8) (R : Fin 2048) (n : Fin 1536) :
    ((cfg0.win 9).blk (stepOf b R)).view.emb (ix3 (0 : Fin 1) (inStep R) n : S1x512x1536.Idx) = (ix3 b R n : S8x2048x1536.Idx) := by
  refine funext fun a => Fin.ext ?_
  refine (Pipeline.Window.rect_emb_val (cfg0.win 9) _ _ a rfl).trans ?_
  refine (congrArg (fun e : Fin 3 → ℕ => e a * _ + _) (at_9 (stepOf b R))).trans ?_
  match a with
  | ⟨0, _⟩ => show (4 * b.val + R.val / 512) / 4 * 1 + 0 = b.val; omega
  | ⟨1, _⟩ => show (4 * b.val + R.val / 512) % 4 * 512 + R.val % 512 = R.val; omega
  | ⟨2, _⟩ => show 0 * 1536 + n.val = n.val; omega

theorem first_value (c : Dev nD) (b : Fin 8) (R : Fin 2048) (n : Fin 4096) :
    ((dats m 0 c).arrAt 8 cfg0.N : S8x2048x4096.Idx → EReal) (ix3 b R n) = actRow (rowOut (a0 m c) (a1 m c) (a2 m c) (a3 m c) b R) (floors (a4 m c)) n.val := by
  have h := congrFun ((blocks8 m c (stepOf b R) (flush0_8 _)).trans (flushed8_A m c (stepOf b R))) (ix3 (0 : Fin 1) (inStep R) n : S1x512x4096.Idx)
  refine (congrArg ((dats m 0 c).arrAt 8 cfg0.N : S8x2048x4096.Idx → EReal) (first_emb b R n)).symm.trans (h.trans ?_)
  refine (first_at _ _ _ _ _ _ _ _ _ _ _ _ _ _ _ _ _ _ _ _ _ _ _ _ _ _ _ _ _ _ _ _ (ix3 (0 : Fin 1) (inStep R) n : S1x512x4096.Idx)).trans ?_
  refine congrArg₂ (fun u f => actRow u f n.val) ((projected_at m c (stepOf b R) (inStep R)).trans ?_) (congrArg floors (blk_5 m c _))
  rw [seqOf_step, rowOf_step]

theorem second_value (c : Dev nD) (b : Fin 8) (R : Fin 2048) (n : Fin 1536) (hn : n.val < 1024) :
    ((dats m 0 c).arrAt 9 cfg0.N : S8x2048x1536.Idx → EReal) (ix3 b R n) = forgetRow (rowOut (a0 m c) (a1 m c) (a2 m c) (a3 m c) b R) (floors (a4 m c)) n.val := by
  have h := congrFun ((blocks9 m c (stepOf b R) (flush0_9 _)).trans (flushed9_A m c (stepOf b R))) (ix3 (0 : Fin 1) (inStep R) n : S1x512x1536.Idx)
  refine (congrArg ((dats m 0 c).arrAt 9 cfg0.N : S8x2048x1536.Idx → EReal) (second_emb b R n)).symm.trans (h.trans ?_)
  refine (second_at _ _ _ _ _ _ _ _ _ _ _ _ _ _ _ _ _ _ _ _ _ _ _ _ _ _ _ _ _ _ _ _ (ix3 (0 : Fin 1) (inStep R) n : S1x512x1536.Idx) hn).trans ?_
  refine congrArg₂ (fun u f => forgetRow u f n.val) ((projected_at m c (stepOf b R) (inStep R)).trans ?_) (congrArg floors (blk_5 m c _))
  rw [seqOf_step, rowOf_step]

end Cert.Proof.Inproj
-- ==== Proof.InprojReference.lean ====
/- The gated projections' reference in ideal arithmetic, row by row: what its two results hold at every row and column. -/
module

public import proofs.«01_k».proof.Proof.InprojFloor
public import proofs.«01_k».proof.Proof.InprojArray
public import Idealize.ShloMosaic.Lib.IdealHost

@[expose] public section

set_option maxRecDepth 16384

noncomputable section

namespace Cert.Proof.Inproj

open Cert.Reference3Ideal Cert.Reference3Ideal.Gen Cert.Reference3Ideal.Read
open Idealize.ShloMosaic hiding ix1 ix2 ix3 ix4
open Idealize.ShloMosaic.ValueIdx
open scoped BigOperators

/-! ### Arithmetic -/

theorem logistic_neg (y : EReal) : Ideal.logistic (-y) = 1 - Ideal.logistic y := by
  induction y with
  | bot => rw [EReal.neg_bot, Ideal.logistic_top, Ideal.logistic_bot, sub_zero]
  | top =>
    rw [EReal.neg_top, Ideal.logistic_top, Ideal.logistic_bot, ← EReal.coe_one, ← EReal.coe_sub, sub_self, EReal.coe_zero]
  | coe r =>
    rw [← EReal.coe_neg, Ideal.logistic_coe, Ideal.logistic_coe, ← EReal.coe_one, ← EReal.coe_sub]
    refine congrArg _ ?_
    have h : Real.exp r ≠ 0 := (Real.exp_pos r).ne'
    have h1 : 1 + Real.exp r ≠ 0 := by positivity
    rw [neg_neg, Real.exp_neg]
    field_simp
    ring

theorem logistic_ones (y : EReal) :
    Ideal.div (Ideal.ofBits .f32 0x3F800000#32) (Ideal.ofBits .f32 0x3F800000#32 + Ideal.exp (-y)) = Ideal.logistic y := by
  rw [Ideal.ofBits_one_f32]
  rfl

theorem logistic_ones_neg (y : EReal) :
    Ideal.div (Ideal.ofBits .f32 0x3F800000#32) (Ideal.ofBits .f32 0x3F800000#32 + Ideal.exp (-(-y))) = Ideal.ofBits .f32 0x3F800000#32 - Ideal.logistic y := by
  rw [logistic_ones, logistic_neg, Ideal.ofBits_one_f32]

theorem over_sqrt (y : EReal) : Ideal.div y (Ideal.sqrt (Ideal.ofBits .f32 0x43000000#32)) = y * (((Real.sqrt 128)⁻¹ : ℝ) : EReal) := by
  have h : Ideal.ofBits .f32 0x43000000#32 = ((128 : ℝ) : EReal) := by simp [Ideal.ofBits, Ideal.ieee, -EReal.coe_mul]; norm_num
  have hs : Real.sqrt 128 ≠ 0 := (Real.sqrt_pos.2 (by norm_num)).ne'
  rw [h, Ideal.sqrt_coe, if_neg (by norm_num), Ideal.div_coe hs, one_div]

/-- A row of arrays set side by side: the columns of the `k`-th start where those before it end. -/
theorem side_by_side {W w : ℕ} (xs : List ((s : Shape) × (s.Idx → EReal))) (h : Shape.Concatenates (xs.map (·.1)) (⟨3, ![8, 2048, W]⟩ : Shape) 2)
    (b : Fin 8) (R : Fin 2048) (n : Fin W) (k : ℕ) (hk : k < xs.length) (x : (⟨3, ![8, 2048, w]⟩ : Shape).Idx → EReal) (hx : xs[k] = ⟨⟨3, ![8, 2048, w]⟩, x⟩)
    (s : ℕ) (hs : (((xs.take k).map (·.1)).map fun z : Shape => if hz : z.rank = (⟨3, ![8, 2048, W]⟩ : Shape).rank then z.size ((2 : Fin 3).cast hz.symm) else 0).sum = s)
    (l : Fin w) (hl : s + l.val = n.val) : concatenate (⟨3, ![8, 2048, W]⟩ : Shape) 2 xs h (ix3 b R n) = x (ix3 b R l) := by
  refine concatenate_apply_piece (t := (⟨3, ![8, 2048, W]⟩ : Shape)) 2 xs h (ix3 b R n) k hk _ x hx rfl s hs (ix3 b R l) (fun a ha => ?_) hl
  match a with
  | ⟨0, _⟩ => rfl
  | ⟨1, _⟩ => rfl
  | ⟨2, _⟩ => exact absurd rfl ha

section Rows
variable (x0 : S8x2048x1024.Idx → EReal) (x1 : S8x2x6x1024.Idx → EReal) (x2 : S1024.Idx → EReal) (x3 : S1024x4128.Idx → EReal) (x4 : S2x512.Idx → EReal)
  (x5 : S2x16x256.Idx → EReal) (x6 : S2x256.Idx → EReal)

/-! ### The projection -/

theorem modulation_at (b : Fin 8) (a : Fin 6) (n : Fin 1024) : val_main_v1 (F := Ideal) x1 (ix3 b a n) = x1 (ix4 b (1 : Fin 2) a n) := by
  have hb := b.isLt; have ha := a.isLt; have hn := n.isLt
  have hix : idx_main_v0 (idx_main_v1 (ix3 b a n)) = ix4 b (1 : Fin 2) a n := by
    funext d
    match d with
    | ⟨0, _⟩ => exact Fin.ext (show ((b.val * 6 + a.val) * 1024 + n.val) / 6144 = b.val by omega)
    | ⟨1, _⟩ => rfl
    | ⟨2, _⟩ => exact Fin.ext (show ((b.val * 6 + a.val) * 1024 + n.val) / 1024 % 6 = a.val by omega)
    | ⟨3, _⟩ => exact Fin.ext (show ((b.val * 6 + a.val) * 1024 + n.val) % 1024 = n.val by omega)
  rw [val_main_v1_apply, val_main_v0_apply, hix]

theorem meanScale_at (b : Fin 8) (R : Fin 2048) (n : Fin 1024) :
    val_main_v10 (F := Ideal) x0 (ix3 b R n)
      = Ideal.rsqrt (Ideal.div (∑ l : Fin 1024, x0 (ix3 b R l) * x0 (ix3 b R l)) (Ideal.ofBits .f32 0x44800000#32) + Ideal.ofBits .f32 0x358637BD#32) := by
  rw [val_main_v10_apply, val_main_v9_apply, val_main_v8_apply, val_main_v6_apply, val_main_v4_apply, val_main_v3_apply, val_main_v7_apply, val_main_v5_apply, val_main_cst_apply, val_main_cst_0_apply, val_main_cst_1_apply]
  refine congrArg (fun z : EReal => Ideal.rsqrt (Ideal.div z (Ideal.ofBits .f32 0x44800000#32) + Ideal.ofBits .f32 0x358637BD#32)) ?_
  refine (congrArg (fun z : EReal => z + _) Ideal.ofBits_zero_f32).trans ((zero_add _).trans (Finset.sum_congr rfl fun l _ => ?_))
  have hix : idx_main_v3 (idx_main_v4 (idx_main_v10 (ix3 b R n))) l = ix3 b R l := by
    funext a
    match a with
    | ⟨0, _⟩ => rfl
    | ⟨1, _⟩ => rfl
    | ⟨2, _⟩ => rfl
  rw [val_main_v2_apply, hix]
  rfl

theorem refNormed_at (b : Fin 8) (R : Fin 2048) (n : Fin 1024) :
    val_main_v22 (F := Ideal) x0 x1 x2 (ix3 b R n)
      = Tail.normRow (fun k => x0 (ix3 b R k)) (fun k => x2 (ix1 k)) (fun k => x1 (ix4 b (1 : Fin 2) (0 : Fin 6) k)) (fun k => x1 (ix4 b (1 : Fin 2) (1 : Fin 6) k)) n := by
  have hg : idx_main_v12 (idx_main_v13 (ix3 b R n)) = ix1 n := by
    funext a
    match a with
    | ⟨0, _⟩ => rfl
  have h1 : idx_main_v15 (idx_main_v18 (ix3 b R n)) = ix3 b (1 : Fin 6) n := by
    funext a
    match a with
    | ⟨0, _⟩ => rfl
    | ⟨1, _⟩ => rfl
    | ⟨2, _⟩ => rfl
  have h0 : idx_main_v20 (idx_main_v21 (ix3 b R n)) = ix3 b (0 : Fin 6) n := by
    funext a
    match a with
    | ⟨0, _⟩ => rfl
    | ⟨1, _⟩ => rfl
    | ⟨2, _⟩ => rfl
  rw [val_main_v22_apply, val_main_v19_apply, val_main_v14_apply, val_main_v11_apply, meanScale_at, val_main_v13_apply, val_main_v12_apply, hg, val_main_v18_apply, val_main_v17_apply, val_main_v16_apply, val_main_cst_2_apply,
    val_main_v15_apply, h1, modulation_at, val_main_v21_apply, val_main_v20_apply, h0, modulation_at]
  rfl

theorem projection_at (b : Fin 8) (R : Fin 2048) (n : Fin 4128) : val_main_v23 (F := Ideal) x0 x1 x2 x3 (ix3 b R n) = rowOut x0 x1 x2 x3 b R n := by
  rw [val_main_v23_apply]
  unfold rowOut projRow
  refine Finset.sum_congr rfl fun k _ => ?_
  have hl : lidx_main_v23 (ix3 b R n) k = ix3 b R k := by
    funext a
    match a with
    | ⟨0, _⟩ => rfl
    | ⟨1, _⟩ => rfl
    | ⟨2, _⟩ => rfl
  have hr : ridx_main_v23 (ix3 b R n) k = ix2 k n := by
    funext a
    match a with
    | ⟨0, _⟩ => rfl
    | ⟨1, _⟩ => rfl
  rw [hl, hr, refNormed_at]

/-- A column of the projection, by its number. -/
theorem column_of (i : S8x2048x4128.Idx) (b : Fin 8) (R : Fin 2048) (c : ℕ) (h0 : i 0 = b) (h1 : i 1 = R) (h2 : (i 2).val = c) :
    val_main_v23 (F := Ideal) x0 x1 x2 x3 i = colAt (rowOut x0 x1 x2 x3 b R) c := by
  have hc : c < 4128 := h2 ▸ (i 2).isLt
  have hi : i = ix3 b R ⟨c, hc⟩ := by
    funext a
    match a with
    | ⟨0, _⟩ => exact h0
    | ⟨1, _⟩ => exact h1
    | ⟨2, _⟩ => exact Fin.ext h2
  rw [hi, projection_at, colAt_of _ _ hc]

section Columns
variable (b : Fin 8) (R : Fin 2048)

theorem slice0_at (l : Fin 512) : val_main_v24 (F := Ideal) x0 x1 x2 x3 (ix3 b R l) = colAt (rowOut x0 x1 x2 x3 b R) (l.val) := by
  rw [val_main_v24_apply]
  exact column_of x0 x1 x2 x3 _ b R _ rfl rfl rfl
theorem slice512_at (l : Fin 512) : val_main_v25 (F := Ideal) x0 x1 x2 x3 (ix3 b R l) = colAt (rowOut x0 x1 x2 x3 b R) (512 + l.val) := by
  rw [val_main_v25_apply]
  exact column_of x0 x1 x2 x3 _ b R _ rfl rfl rfl
theorem slice1024_at (l : Fin 512) : val_main_v26 (F := Ideal) x0 x1 x2 x3 (ix3 b R l) = colAt (rowOut x0 x1 x2 x3 b R) (1024 + l.val) := by
  rw [val_main_v26_apply]
  exact column_of x0 x1 x2 x3 _ b R _ rfl rfl rfl
theorem slice1536_at (l : Fin 512) : val_main_v27 (F := Ideal) x0 x1 x2 x3 (ix3 b R l) = colAt (rowOut x0 x1 x2 x3 b R) (1536 + l.val) := by
  rw [val_main_v27_apply]
  exact column_of x0 x1 x2 x3 _ b R _ rfl rfl rfl
theorem slice2048_at (l : Fin 512) : val_main_v28 (F := Ideal) x0 x1 x2 x3 (ix3 b R l) = colAt (rowOut x0 x1 x2 x3 b R) (2048 + l.val) := by
  rw [val_main_v28_apply]
  exact column_of x0 x1 x2 x3 _ b R _ rfl rfl rfl
theorem slice2560_at (l : Fin 256) : val_main_v29 (F := Ideal) x0 x1 x2 x3 (ix3 b R l) = colAt (rowOut x0 x1 x2 x3 b R) (2560 + l.val) := by
  rw [val_main_v29_apply]
  exact column_of x0 x1 x2 x3 _ b R _ rfl rfl rfl
theorem slice2816_at (l : Fin 256) : val_main_v30 (F := Ideal) x0 x1 x2 x3 (ix3 b R l) = colAt (rowOut x0 x1 x2 x3 b R) (2816 + l.val) := by
  rw [val_main_v30_apply]
  exact column_of x0 x1 x2 x3 _ b R _ rfl rfl rfl
theorem slice3072_at (l : Fin 512) : val_main_v31 (F := Ideal) x0 x1 x2 x3 (ix3 b R l) = colAt (rowOut x0 x1 x2 x3 b R) (3072 + l.val) := by
  rw [val_main_v31_apply]
  exact column_of x0 x1 x2 x3 _ b R _ rfl rfl rfl
theorem slice3584_at (l : Fin 512) : val_main_v32 (F := Ideal) x0 x1 x2 x3 (ix3 b R l) = colAt (rowOut x0 x1 x2 x3 b R) (3584 + l.val) := by
  rw [val_main_v32_apply]
  exact column_of x0 x1 x2 x3 _ b R _ rfl rfl rfl

/-! ### What stands beside one another -/

theorem refSiluQuery_at (l : Fin 512) : val_main_v134 (F := Ideal) x0 x1 x2 x3 (ix3 b R l) = silu (colAt (rowOut x0 x1 x2 x3 b R) (l.val)) := by
  rw [val_main_v134_apply, val_main_call3_v5_apply, val_main_call3_v3_apply, val_main_call3_v1_apply, val_main_call3_v0_apply, val_main_call3_v4_apply, val_main_call3_v2_apply, val_main_call3_cst_apply, val_main_call3_cst_0_apply, slice0_at]
  exact congrArg (fun z : EReal => _ * z) (logistic_ones _)

theorem refSiluGate_at (l : Fin 512) : val_main_v140 (F := Ideal) x0 x1 x2 x3 (ix3 b R l) = silu (colAt (rowOut x0 x1 x2 x3 b R) (2048 + l.val)) := by
  rw [val_main_v140_apply, val_main_call4_v5_apply, val_main_call4_v3_apply, val_main_call4_v1_apply, val_main_call4_v0_apply, val_main_call4_v4_apply, val_main_call4_v2_apply, val_main_call4_cst_apply, val_main_call4_cst_0_apply, slice2048_at]
  exact congrArg (fun z : EReal => _ * z) (logistic_ones _)

theorem refSiluGatedGate_at (l : Fin 512) : val_main_v141 (F := Ideal) x0 x1 x2 x3 (ix3 b R l) = silu (colAt (rowOut x0 x1 x2 x3 b R) (3584 + l.val)) := by
  rw [val_main_v141_apply, val_main_call5_v5_apply, val_main_call5_v3_apply, val_main_call5_v1_apply, val_main_call5_v0_apply, val_main_call5_v4_apply, val_main_call5_v2_apply, val_main_call5_cst_apply, val_main_call5_cst_0_apply, slice3584_at]
  exact congrArg (fun z : EReal => _ * z) (logistic_ones _)

theorem refQuery_at (l : Fin 512) : val_main_v137 (F := Ideal) x0 x1 x2 x3 (ix3 b R l) = silu (colAt (rowOut x0 x1 x2 x3 b R) l.val) * (((Real.sqrt 128)⁻¹ : ℝ) : EReal) := by
  rw [val_main_v137_apply, refSiluQuery_at, val_main_v136_apply, val_main_v135_apply, val_main_cst_20_apply]
  exact over_sqrt _

theorem refGatedQuery_at (l : Fin 256) : val_main_v139 (F := Ideal) x0 x1 x2 x3 (ix3 b R l) = colAt (rowOut x0 x1 x2 x3 b R) (2560 + l.val) * Ideal.ofBits .f32 0x3E000000#32 := by
  rw [val_main_v139_apply, slice2560_at, val_main_v138_apply, val_main_cst_21_apply]
  rfl

theorem refForgetForward_at (l : Fin 512) : val_main_v67 (F := Ideal) x0 x1 x2 x3 x4 (ix3 b R l) = logForget (share x4 1 l) (colAt (rowOut x0 x1 x2 x3 b R) (512 + l.val)) := by
  have h1 : idx_main_v61 (idx_main_v62 (ix3 b R l)) = ix1 l := by
    funext a
    match a with
    | ⟨0, _⟩ => rfl
  have h2 : idx_main_v64 (idx_main_v65 (ix3 b R l)) = ix1 l := by
    funext a
    match a with
    | ⟨0, _⟩ => rfl
  rw [val_main_v67_apply, val_main_v66_apply, val_main_v65_apply, val_main_v64_apply, h2, refFloor_at, val_main_v63_apply, val_main_v62_apply, val_main_v61_apply, h1, val_main_v54_apply, refFloor_at, val_main_v53_apply, val_main_cst_6_apply,
    val_main_v60_apply, val_main_v59_apply, val_main_cst_8_apply, val_main_v58_apply, val_main_v57_apply, val_main_cst_7_apply, val_main_v56_apply, val_main_v55_apply, slice512_at]
  exact congrArg (fun z : EReal => Ideal.log (share x4 1 l + (Ideal.ofBits .f32 0x3F800000#32 - share x4 1 l) * z)) (logistic_ones _)

theorem refForgetBackward_at (l : Fin 512) : val_main_v94 (F := Ideal) x0 x1 x2 x3 x4 (ix3 b R l) = logForget (share x4 1 l) (colAt (rowOut x0 x1 x2 x3 b R) (1024 + l.val)) := by
  have h1 : idx_main_v88 (idx_main_v89 (ix3 b R l)) = ix1 l := by
    funext a
    match a with
    | ⟨0, _⟩ => rfl
  have h2 : idx_main_v91 (idx_main_v92 (ix3 b R l)) = ix1 l := by
    funext a
    match a with
    | ⟨0, _⟩ => rfl
  rw [val_main_v94_apply, val_main_v93_apply, val_main_v92_apply, val_main_v91_apply, h2, refFloor_at, val_main_v90_apply, val_main_v89_apply, val_main_v88_apply, h1, val_main_v81_apply, refFloor_at, val_main_v80_apply, val_main_cst_12_apply,
    val_main_v87_apply, val_main_v86_apply, val_main_cst_14_apply, val_main_v85_apply, val_main_v84_apply, val_main_cst_13_apply, val_main_v83_apply, val_main_v82_apply, slice1024_at]
  exact congrArg (fun z : EReal => Ideal.log (share x4 1 l + (Ideal.ofBits .f32 0x3F800000#32 - share x4 1 l) * z)) (logistic_ones _)

theorem refKeyForward_at (l : Fin 512) : val_main_v79 (F := Ideal) x0 x1 x2 x3 x4 (ix3 b R l) = keep (share x4 1 l) (colAt (rowOut x0 x1 x2 x3 b R) (512 + l.val)) := by
  have h1 : idx_main_v77 (idx_main_v78 (ix3 b R l)) = ix1 l := by
    funext a
    match a with
    | ⟨0, _⟩ => rfl
  rw [val_main_v79_apply, val_main_v78_apply, val_main_v77_apply, h1, val_main_v69_apply, refFloor_at, val_main_v68_apply, val_main_cst_9_apply,
    val_main_v76_apply, val_main_v75_apply, val_main_cst_11_apply, val_main_v74_apply, val_main_v73_apply, val_main_cst_10_apply, val_main_v72_apply, val_main_v71_apply, val_main_v70_apply, slice512_at]
  exact congrArg (fun z : EReal => (Ideal.ofBits .f32 0x3F800000#32 - share x4 1 l) * z) (logistic_ones_neg _)

theorem refKeyBackward_at (l : Fin 512) : val_main_v106 (F := Ideal) x0 x1 x2 x3 x4 (ix3 b R l) = keep (share x4 1 l) (colAt (rowOut x0 x1 x2 x3 b R) (1024 + l.val)) := by
  have h1 : idx_main_v104 (idx_main_v105 (ix3 b R l)) = ix1 l := by
    funext a
    match a with
    | ⟨0, _⟩ => rfl
  rw [val_main_v106_apply, val_main_v105_apply, val_main_v104_apply, h1, val_main_v96_apply, refFloor_at, val_main_v95_apply, val_main_cst_15_apply,
    val_main_v103_apply, val_main_v102_apply, val_main_cst_17_apply, val_main_v101_apply, val_main_v100_apply, val_main_cst_16_apply, val_main_v99_apply, val_main_v98_apply, val_main_v97_apply, slice1024_at]
  exact congrArg (fun z : EReal => (Ideal.ofBits .f32 0x3F800000#32 - share x4 1 l) * z) (logistic_ones_neg _)

end Columns

/-! ### The two results -/

variable (b : Fin 8) (R : Fin 2048)

theorem floorAt_eq (f : Fin 512 → EReal) (n s : ℕ) (l : Fin 512) (hs : s % 512 = 0) (h : s + l.val = n) : floorAt f n = f l := by
  have hl := l.isLt
  exact congrArg f (Fin.ext (show n % 512 = l.val by omega))

theorem first_reference (n : Fin 4096) :
    val_main_v143 (F := Ideal) x0 x1 x2 x3 x4 (ix3 b R n) = actRow (rowOut x0 x1 x2 x3 b R) (fun k => share x4 1 k) n.val := by
  have hn := n.isLt
  rw [val_main_v143_apply]
  show val_main_v142 (F := Ideal) x0 x1 x2 x3 x4 (ix3 b R n) = _
  unfold val_main_v142
  by_cases h0 : n.val < 512
  · refine (side_by_side _ _ b R n 0 (by exact (by decide : 0 < 9)) _ (by rfl) 0 (by rfl) (⟨n.val - 0, by omega⟩ : Fin 512) (show 0 + (n.val - 0) = n.val by omega)).trans ?_
    refine (refQuery_at x0 x1 x2 x3 b R _).trans (Eq.trans ?_ (actRow_query _ _ _ h0).symm)
    exact congrArg (fun c => silu (colAt (rowOut x0 x1 x2 x3 b R) c) * (((Real.sqrt 128)⁻¹ : ℝ) : EReal)) (show n.val - 0 = n.val by omega)
  by_cases h1 : n.val < 1024
  · refine (side_by_side _ _ b R n 1 (by exact (by decide : 1 < 9)) _ (by rfl) 512 (by rfl) (⟨n.val - 512, by omega⟩ : Fin 512) (show 512 + (n.val - 512) = n.val by omega)).trans ?_
    refine (slice1536_at x0 x1 x2 x3 b R _).trans (Eq.trans ?_ (actRow_value _ _ _ (by omega) h1).symm)
    exact congrArg (fun c => colAt (rowOut x0 x1 x2 x3 b R) c) (show 1536 + (n.val - 512) = n.val + 1024 by omega)
  by_cases h2 : n.val < 1536
  · refine (side_by_side _ _ b R n 2 (by exact (by decide : 2 < 9)) _ (by rfl) 1024 (by rfl) (⟨n.val - 1024, by omega⟩ : Fin 512) (show 1024 + (n.val - 1024) = n.val by omega)).trans ?_
    refine (slice3072_at x0 x1 x2 x3 b R _).trans (Eq.trans ?_ (actRow_gatedValue _ _ _ (by omega) h2).symm)
    exact congrArg (fun c => colAt (rowOut x0 x1 x2 x3 b R) c) (show 3072 + (n.val - 1024) = n.val + 2048 by omega)
  by_cases h3 : n.val < 1792
  · refine (side_by_side _ _ b R n 3 (by exact (by decide : 3 < 9)) _ (by rfl) 1536 (by rfl) (⟨n.val - 1536, by omega⟩ : Fin 256) (show 1536 + (n.val - 1536) = n.val by omega)).trans ?_
    refine (refGatedQuery_at x0 x1 x2 x3 b R _).trans (Eq.trans ?_ (actRow_gatedQuery _ _ _ (by omega) h3).symm)
    exact congrArg (fun c => colAt (rowOut x0 x1 x2 x3 b R) c * Ideal.ofBits .f32 0x3E000000#32) (show 2560 + (n.val - 1536) = n.val + 1024 by omega)
  by_cases h4 : n.val < 2048
  · refine (side_by_side _ _ b R n 4 (by exact (by decide : 4 < 9)) _ (by rfl) 1792 (by rfl) (⟨n.val - 1792, by omega⟩ : Fin 256) (show 1792 + (n.val - 1792) = n.val by omega)).trans ?_
    refine (slice2816_at x0 x1 x2 x3 b R _).trans (Eq.trans ?_ (actRow_gatedKey _ _ _ (by omega) h4).symm)
    exact congrArg (fun c => colAt (rowOut x0 x1 x2 x3 b R) c) (show 2816 + (n.val - 1792) = n.val + 1024 by omega)
  by_cases h5 : n.val < 2560
  · refine (side_by_side _ _ b R n 5 (by exact (by decide : 5 < 9)) _ (by rfl) 2048 (by rfl) (⟨n.val - 2048, by omega⟩ : Fin 512) (show 2048 + (n.val - 2048) = n.val by omega)).trans ?_
    refine (refKeyForward_at x0 x1 x2 x3 x4 b R _).trans (Eq.trans ?_ (actRow_key _ _ _ (by omega) (by omega)).symm)
    exact congrArg₂ (fun f c => keep f (colAt (rowOut x0 x1 x2 x3 b R) c)) (floorAt_eq (fun k => share x4 1 k) n.val 2048 _ rfl (show 2048 + (n.val - 2048) = n.val by omega)).symm (show 512 + (n.val - 2048) = n.val - 1536 by omega)
  by_cases h6 : n.val < 3072
  · refine (side_by_side _ _ b R n 6 (by exact (by decide : 6 < 9)) _ (by rfl) 2560 (by rfl) (⟨n.val - 2560, by omega⟩ : Fin 512) (show 2560 + (n.val - 2560) = n.val by omega)).trans ?_
    refine (refKeyBackward_at x0 x1 x2 x3 x4 b R _).trans (Eq.trans ?_ (actRow_key _ _ _ (by omega) h6).symm)
    exact congrArg₂ (fun f c => keep f (colAt (rowOut x0 x1 x2 x3 b R) c)) (floorAt_eq (fun k => share x4 1 k) n.val 2560 _ rfl (show 2560 + (n.val - 2560) = n.val by omega)).symm (show 1024 + (n.val - 2560) = n.val - 1536 by omega)
  by_cases h7 : n.val < 3584
  · refine (side_by_side _ _ b R n 7 (by exact (by decide : 7 < 9)) _ (by rfl) 3072 (by rfl) (⟨n.val - 3072, by omega⟩ : Fin 512) (show 3072 + (n.val - 3072) = n.val by omega)).trans ?_
    refine (refSiluGate_at x0 x1 x2 x3 b R _).trans (Eq.trans ?_ (actRow_gate _ _ _ (by omega) h7).symm)
    exact congrArg (fun c => silu (colAt (rowOut x0 x1 x2 x3 b R) c)) (show 2048 + (n.val - 3072) = n.val - 1024 by omega)
  refine (side_by_side _ _ b R n 8 (by exact (by decide : 8 < 9)) _ (by rfl) 3584 (by rfl) (⟨n.val - 3584, by omega⟩ : Fin 512) (show 3584 + (n.val - 3584) = n.val by omega)).trans ?_
  refine (refSiluGatedGate_at x0 x1 x2 x3 b R _).trans (Eq.trans ?_ (actRow_gatedGate _ _ _ (by omega)).symm)
  exact congrArg (fun c => silu (colAt (rowOut x0 x1 x2 x3 b R) c)) (show 3584 + (n.val - 3584) = n.val by omega)

theorem second_reference (n : Fin 1536) (hn : n.val < 1024) :
    val_main_v144 (F := Ideal) x0 x1 x2 x3 x4 x5 x6 (ix3 b R n) = forgetRow (rowOut x0 x1 x2 x3 b R) (fun k => share x4 1 k) n.val := by
  unfold val_main_v144 forgetRow
  by_cases h0 : n.val < 512
  · refine (side_by_side _ _ b R n 0 (by exact (by decide : 0 < 4)) _ (by rfl) 0 (by rfl) (⟨n.val - 0, by omega⟩ : Fin 512) (show 0 + (n.val - 0) = n.val by omega)).trans ?_
    refine (refForgetForward_at x0 x1 x2 x3 x4 b R _).trans ?_
    exact congrArg₂ (fun f c => logForget f (colAt (rowOut x0 x1 x2 x3 b R) c)) (floorAt_eq (fun k => share x4 1 k) n.val 0 _ rfl (show 0 + (n.val - 0) = n.val by omega)).symm (show 512 + (n.val - 0) = n.val + 512 by omega)
  refine (side_by_side _ _ b R n 1 (by exact (by decide : 1 < 4)) _ (by rfl) 512 (by rfl) (⟨n.val - 512, by omega⟩ : Fin 512) (show 512 + (n.val - 512) = n.val by omega)).trans ?_
  refine (refForgetBackward_at x0 x1 x2 x3 x4 b R _).trans ?_
  exact congrArg₂ (fun f c => logForget f (colAt (rowOut x0 x1 x2 x3 b R) c)) (floorAt_eq (fun k => share x4 1 k) n.val 512 _ rfl (show 512 + (n.val - 512) = n.val by omega)).symm (show 1024 + (n.val - 512) = n.val + 512 by omega)

end Rows

end Cert.Proof.Inproj
-- ==== Proof.InprojResult.lean ====
/- The gated projections' two results against the reference's, place by place. -/
module

public import proofs.«01_k».proof.Proof.InprojReference
public import proofs.«01_k».proof.On_all_but_low_rank_decays
public import proofs.«01_k».proof.Proof.Gen.On_all_but_low_rank_decays

@[expose] public section

set_option maxRecDepth 16384

noncomputable section

namespace Cert.Proof.Inproj

open Cert.Kernel3Ideal Cert.Kernel3Ideal.Gen Cert.Kernel3Ideal.Value
open Idealize.ShloMosaic hiding ix1 ix2 ix3 ix4
open Idealize.ShloMosaic.TcCoe Idealize.ShloMosaic.ValueIdx
open Idealize.SL Idealize.SL.Sem

theorem below_of_less : ∀ n : Fin 1536, BitVec.ofBool (BitVec.slt (BitVec.ofNat 32 n.val) 1024#32) = 1#1 → n.val < 1024 := by decide +kernel

/-- The mask holds the second result's columns of the log forget gates only. -/
theorem below_of_mask (x0 : FVec Ideal S8x2048x1024 .f32) (x1 : FVec Ideal S8x2x6x1024 .f32) (x2 : FVec Ideal S1024 .f32) (x3 : FVec Ideal S1024x4128 .f32)
    (x4 : FVec Ideal S2x512 .f32) (x5 : FVec Ideal S2x16x256 .f32) (x6 : FVec Ideal S2x256 .f32) (i : S8x2048x1536.Idx)
    (h : (Cert.On_all_but_low_rank_decays.fn x0 x1 x2 x3 x4 x5 x6).2 i = 1#1) : (i 2).val < 1024 := below_of_less (i 2) h

theorem floors_eq_share (x4 : S2x512.Idx → EReal) : floors x4 = fun k => share x4 1 k := funext fun k => floors_at x4 k

variable (m : (ℓ : Loc nD τ sig) → Buf (Elt Ideal) ℓ)

theorem first_eq (c : Dev nD) (i : S8x2048x4096.Idx) :
    Cert.Reference3Ideal.Read.val_main_v143 (F := Ideal) (a0 m c) (a1 m c) (a2 m c) (a3 m c) (a4 m c) i = ((dats m 0 c).arrAt 8 cfg0.N : S8x2048x4096.Idx → EReal) i := by
  obtain ⟨b, R, n, rfl⟩ : ∃ (b : Fin 8) (R : Fin 2048) (n : Fin 4096), i = ix3 b R n := ⟨i 0, i 1, i 2, ValueIdx.eq_ix3 i⟩
  rw [first_value, floors_eq_share]
  exact first_reference _ _ _ _ _ b R n

theorem second_eq (c : Dev nD) (x5 : S2x16x256.Idx → EReal) (x6 : S2x256.Idx → EReal) (i : S8x2048x1536.Idx) (hi : (i 2).val < 1024) :
    Cert.Reference3Ideal.Read.val_main_v144 (F := Ideal) (a0 m c) (a1 m c) (a2 m c) (a3 m c) (a4 m c) x5 x6 i = ((dats m 0 c).arrAt 9 cfg0.N : S8x2048x1536.Idx → EReal) i := by
  obtain ⟨b, R, n, rfl⟩ : ∃ (b : Fin 8) (R : Fin 2048) (n : Fin 1536), i = ix3 b R n := ⟨i 0, i 1, i 2, ValueIdx.eq_ix3 i⟩
  rw [second_value m c b R n hi, floors_eq_share]
  exact second_reference _ _ _ _ _ _ _ b R n hi

end Cert.Proof.Inproj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_block_table
public import proofs.«01_k».proof.Proof.Gen.On_routed_rows
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.On_all_but_low_rank_decays
public import proofs.«01_k».proof.Proof.ExpertsFrameBits
public import proofs.«01_k».proof.Proof.ExpertsRun
public import proofs.«01_k».proof.Proof.ExpertsCond
public import proofs.«01_k».proof.Proof.ExpertsReference
public import proofs.«01_k».proof.Proof.TailRunBits
public import proofs.«01_k».proof.Proof.TailResult
public import proofs.«01_k».proof.Proof.InprojResult
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The kernel's run on the machine's own arithmetic. -/
theorem kernel_frame : quiescent_Kernel (hKernel := Cert.Kernel.Gen.facts) (hPre_block_table := Cert.Pre_block_table.Gen.facts) :=
  fun m ρ h => ExpertsBits.frame m ρ fun t => ⟨(Table.pre_at _ _ _ _ _ _ _ (h 0) t).1, (Table.pre_at _ _ _ _ _ _ _ (h 0) t).2.1⟩

/-- The kernel's run in ideal arithmetic. -/
theorem ideal_frame : quiescent_KernelIdeal (hKernelIdeal := Cert.KernelIdeal.Gen.facts) (hPre_block_table := Cert.Pre_block_table.Gen.facts) :=
  fun m ρ h => Experts.frame m ρ (Experts.inRange_of_pre m (h 0))

/-- The reference's run: it has no semaphore, so every one is at zero. -/
theorem reference_frame : quiescent_ReferenceIdeal (hReferenceIdeal := Cert.ReferenceIdeal.Gen.facts) (hPre_block_table := Cert.Pre_block_table.Gen.facts) :=
  fun m ρ _ => (θ_run _ _ _).mono (fun r hr => ⟨fun c => (hr c).2, funext fun g => by
    obtain ⟨t, s | s⟩ := g
    · exact Fin.elim0 s
    · exact Fin.elim0 s⟩) (Cert.ReferenceIdeal.Value.run m ρ)

/-- On the rows the table routes, the kernel's results are the reference's. -/
theorem values : algebraic_KernelIdeal_ReferenceIdeal_on_routed_rows (hKernelIdeal := Cert.KernelIdeal.Gen.facts) (hReferenceIdeal := Cert.ReferenceIdeal.Gen.facts)
    (hPre_block_table := Cert.Pre_block_table.Gen.facts) (hOn_routed_rows := Cert.On_routed_rows.Gen.facts) := by
  intro m ρ m' ρ' hp hargs
  refine ⟨fun c => Experts.outAll m c, ?_, ?_⟩
  · refine (θ_run _ _ _).mono (fun r hr c => ⟨fun i hi => ?_, Experts.args_kept m _ r hr.1 c⟩) (Experts.run m ρ (Experts.inRange_of_pre m (hp 0)))
    obtain rfl : c = 0 := Subsingleton.elim (α := Fin 1) _ _
    exact Experts.out_of_mask m (hp 0) 0 r hr.1 i hi
  · refine (θ_run _ _ _).mono (fun r hr c => ⟨fun i _ => ?_, (hr c).2⟩) (Cert.ReferenceIdeal.Value.run m' ρ')
    obtain ⟨h0, h1, h2, h3, h4, h5, h6⟩ := hargs c
    refine (congrFun ((hr c).1.trans (Cert.ReferenceIdeal.Read.val_main_v6_eq _ _ _ _)) i).trans ?_
    rw [h3, h4, h5, h6]
    exact (Experts.outAll_eq m c i).symm

/-- The tail's run on the machine's own arithmetic. -/
theorem kernel2_frame : quiescent_Kernel2 (hKernel2 := Cert.Kernel2.Gen.facts) := fun m ρ _ => TailBits.frame m ρ

/-- The tail's run in ideal arithmetic. -/
theorem ideal2_frame : quiescent_Kernel2Ideal (hKernel2Ideal := Cert.Kernel2Ideal.Gen.facts) := fun m ρ _ => Tail.frame m ρ

/-- The tail's reference: it has no semaphore, so every one is at zero. -/
theorem reference2_frame : quiescent_Reference2Ideal (hReference2Ideal := Cert.Reference2Ideal.Gen.facts) :=
  fun m ρ _ => (θ_run _ _ _).mono (fun r hr => ⟨fun c => (hr c).2.2, funext fun g => by
    obtain ⟨t, s | s⟩ := g
    · exact Fin.elim0 s
    · exact Fin.elim0 s⟩) (Cert.Reference2Ideal.Value.run m ρ)

/-- The tail's two results are the reference's, everywhere. -/
theorem tail_values : algebraic_Kernel2Ideal_Reference2Ideal (hKernel2Ideal := Cert.Kernel2Ideal.Gen.facts) (hReference2Ideal := Cert.Reference2Ideal.Gen.facts) := by
  intro m ρ m' ρ' _ hargs
  refine ⟨fun c => Tail.ctxOut m c, fun c => Tail.latOut m c, ?_, ?_⟩
  · exact (θ_run _ _ _).mono (fun r hr c => ⟨funext fun i => Tail.ctx_at m c r hr.1 i, funext fun i => Tail.lat_at m c r hr.1 i, Tail.args_kept m r hr.1 c⟩) (Tail.run m ρ)
  · refine (θ_run _ _ _).mono (fun r hr c => ⟨(hr c).1.trans ?_, (hr c).2.1.trans ?_, (hr c).2.2⟩) (Cert.Reference2Ideal.Value.run m' ρ')
    · obtain ⟨h0, h1, h2, h3, h4, h5, h6, h7, h8, h9, h10, h11, h12, h13, h14⟩ := hargs c
      refine (Cert.Reference2Ideal.Read.val_main_v61_eq m' c).trans ?_
      rw [h0, h1, h2, h3, h4, h5, h6, h8, h9, h10, h11, h12, h13, h14]
      exact (Tail.ctxOut_eq m c).symm
    · obtain ⟨h0, h1, h2, h3, h4, h5, h6, h7, h8, h9, h10, h11, h12, h13, h14⟩ := hargs c
      refine (Cert.Reference2Ideal.Read.val_main_v98_eq m' c).trans ?_
      rw [h0, h1, h2, h3, h4, h5, h7, h8, h9, h10, h11, h12, h13, h14]
      exact (Tail.latOut_eq m c).symm

/-- The gated projections' run on the machine's own arithmetic. -/
theorem kernel3_frame : quiescent_Kernel3 (hKernel3 := Cert.Kernel3.Gen.facts) := fun m ρ _ => Cert.Kernel3.Gen.frame m ρ

/-- The gated projections' run in ideal arithmetic. -/
theorem ideal3_frame : quiescent_Kernel3Ideal (hKernel3Ideal := Cert.Kernel3Ideal.Gen.facts) := fun m ρ _ => Cert.Kernel3Ideal.Gen.frame m ρ

/-- The gated projections' reference: it has no semaphore, so every one is at zero. -/
theorem reference3_frame : quiescent_Reference3Ideal (hReference3Ideal := Cert.Reference3Ideal.Gen.facts) :=
  fun m ρ _ => (θ_run _ _ _).mono (fun r hr => ⟨fun c => (hr c).2.2, funext fun g => by
    obtain ⟨t, s | s⟩ := g
    · exact Fin.elim0 s
    · exact Fin.elim0 s⟩) (Cert.Reference3Ideal.Value.run m ρ)

/-- The ideal program names the queries' factor, `1 / √128`, which the kernel rounds. -/
theorem named_scale : preserves_Kernel3_Kernel3Ideal :=
  IdealRules.named_const.statement Cert.Kernel3Ideal.κ "inv_sqrt_head" .f32 0x3DB504F3#32 (((Real.sqrt 128)⁻¹ : ℝ) : EReal) rfl

/-- The gated projections' first result is the reference's everywhere, the second in the columns of the log forget gates. -/
theorem inproj_values : algebraic_Kernel3Ideal_Reference3Ideal_on_all_but_low_rank_decays (hKernel3Ideal := Cert.Kernel3Ideal.Gen.facts)
    (hReference3Ideal := Cert.Reference3Ideal.Gen.facts) (hOn_all_but_low_rank_decays := Cert.On_all_but_low_rank_decays.Gen.facts) := by
  intro m ρ m' ρ' _ hargs
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N, ?_, ?_⟩
  · exact (θ_run _ _ _).mono (fun r hr c => ⟨fun i _ => congrFun (hr c).1 i, fun i _ => congrFun (hr c).2.1 i, (hr c).2.2⟩) (Cert.Kernel3Ideal.Value.run_blocks m ρ)
  · refine (θ_run _ _ _).mono (fun r hr c => ⟨fun i _ => ?_, fun i hi => ?_, (hr c).2.2⟩) (Cert.Reference3Ideal.Value.run m' ρ')
    · obtain ⟨h0, h1, h2, h3, h4, h5, h6⟩ := hargs c
      refine (congrFun ((hr c).1.trans (Cert.Reference3Ideal.Read.val_main_v143_eq _)) i).trans (Eq.trans ?_ (Inproj.first_eq m c i))
      show Cert.Reference3Ideal.Read.val_main_v143 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) i = _
      rw [h0, h1, h2, h3, h4]
    · obtain ⟨h0, h1, h2, h3, h4, h5, h6⟩ := hargs c
      refine (congrFun ((hr c).2.1.trans (Cert.Reference3Ideal.Read.val_main_v144_eq _)) i).trans
        (Eq.trans ?_ (Inproj.second_eq m c
          (m ((c.tc : Thread Cert.Kernel3Ideal.nD Cert.Kernel3Ideal.τ).loc Cert.Kernel3Ideal.main_arg5))
          (m ((c.tc : Thread Cert.Kernel3Ideal.nD Cert.Kernel3Ideal.τ).loc Cert.Kernel3Ideal.main_arg6)) i (Inproj.below_of_mask _ _ _ _ _ _ _ i hi)))
      show Cert.Reference3Ideal.Read.val_main_v144 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) i = _
      rw [h0, h1, h2, h3, h4, h5, h6]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_block_table.Gen.facts, Cert.On_routed_rows.Gen.facts, Cert.On_all_but_low_rank_decays.Gen.facts,
    kernel_frame, ideal_frame, reference_frame, kernel2_frame, ideal2_frame, reference2_frame, kernel3_frame, ideal3_frame, reference3_frame, trivial, values, trivial, tail_values,
    named_scale, inproj_values⟩

end Cert.Proof

end
